-- ==== Defs.lean ====
def Pre_Kernel [hPre_counts_in_range : Cert.Pre_counts_in_range.Facts] (m : (ℓ : Loc Cert.Kernel.nD Cert.Kernel.τ Cert.Kernel.sig) → Buf (Elt Bits) ℓ) : Prop :=
  ∀ c : Dev Cert.Kernel.nD,
    (Cert.Pre_counts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_in_range [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Combine [hPre_counts_in_range3 : Cert.Pre_counts_in_range3.Facts] (m : (ℓ : Loc Cert.Combine.nD Cert.Combine.τ Cert.Combine.sig) → Buf (Elt Bits) ℓ) : Prop :=
  ∀ c : Dev Cert.Combine.nD,
    (Cert.Pre_counts_in_range3.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_counts_in_range3 : Cert.Pre_counts_in_range3.Facts] (m : (ℓ : Loc Cert.CombineIdeal.nD Cert.CombineIdeal.τ Cert.CombineIdeal.sig) → Buf (Elt Ideal) ℓ) : Prop :=
  ∀ c : Dev Cert.CombineIdeal.nD,
    (Cert.Pre_counts_in_range3.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_counts_in_range3 [hPre_counts_in_range3 : Cert.Pre_counts_in_range3.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_counts_in_range3.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeSample (m : (ℓ : Loc Cert.RopeSample.nD Cert.RopeSample.τ Cert.RopeSample.sig) → Buf (Elt Bits) ℓ) : Prop :=
  True

def Pre_RopeSampleIdeal (m : (ℓ : Loc Cert.RopeSampleIdeal.nD Cert.RopeSampleIdeal.τ Cert.RopeSampleIdeal.sig) → Buf (Elt Ideal) ℓ) : Prop :=
  True

def Pre_RopeSampleRefIdeal (m : (ℓ : Loc Cert.RopeSampleRefIdeal.nD Cert.RopeSampleRefIdeal.τ Cert.RopeSampleRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def quiescent_Kernel [hKernel : Cert.Kernel.Facts] [hPre_counts_in_range : Cert.Pre_counts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_counts_in_range [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Combine [hCombine : Cert.Combine.Facts] [hPre_counts_in_range3 : Cert.Pre_counts_in_range3.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_counts_in_range3 : Cert.Pre_counts_in_range3.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_CombineRefIdeal_pre_counts_in_range3 [hCombineRefIdeal : Cert.CombineRefIdeal.Facts] [hPre_counts_in_range3 : Cert.Pre_counts_in_range3.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_counts_in_range3 m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_RopeSample [hRopeSample : Cert.RopeSample.Facts] : Prop :=
  ∀ (m : (ℓ : Loc Cert.RopeSample.nD Cert.RopeSample.τ Cert.RopeSample.sig) → Buf (Elt Bits) ℓ) (g : Dev Cert.RopeSample.nD → PrngReg), Pre_RopeSample m →
    θ_run (Cert.RopeSample.defs (F := Bits)) (onTc (τ := Cert.RopeSample.τ) (Cert.RopeSample.main (F := Bits))) ⟨m, fun _ => 0, g⟩ (fun r => (∀ c : Dev Cert.RopeSample.nD,
      r.2.mem ((c.tc : Thread Cert.RopeSample.nD Cert.RopeSample.τ).loc Cert.RopeSample.main_arg0) = m ((c.tc : Thread Cert.RopeSample.nD Cert.RopeSample.τ).loc Cert.RopeSample.main_arg0)
      ∧ r.2.mem ((c.tc : Thread Cert.RopeSample.nD Cert.RopeSample.τ).loc Cert.RopeSample.main_arg1) = m ((c.tc : Thread Cert.RopeSample.nD Cert.RopeSample.τ).loc Cert.RopeSample.main_arg1))
      ∧ r.2.sem = fun _ => 0)

def quiescent_RopeSampleIdeal [hRopeSampleIdeal : Cert.RopeSampleIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg), Pre_RopeSampleIdeal m →
    θ_run (Cert.RopeSampleIdeal.defs (F := Ideal)) (onTc (τ := Cert.RopeSampleIdeal.τ) (Cert.RopeSampleIdeal.main (F := Ideal))) ⟨m, fun _ => 0, g⟩ (fun r => (∀ c : Dev Cert.RopeSampleIdeal.nD,
      r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0)
      ∧ r.2.mem ((c.tc : Thread Cert.RopeSampleIdeal.nD Cert.RopeSampleIdeal.τ).loc Cert.RopeSampleIdeal.main_arg1) = m ((c.tc : Thread Cert.RopeSampleIdeal.nD Cert.RopeSampleIdeal.τ).loc Cert.RopeSampleIdeal.main_arg1))
      ∧ r.2.sem = fun _ => 0)

def quiescent_RopeSampleRefIdeal [hRopeSampleRefIdeal : Cert.RopeSampleRefIdeal.Facts] : Prop :=
  ∀ (m : (ℓ : Loc Cert.RopeSampleRefIdeal.nD Cert.RopeSampleRefIdeal.τ Cert.RopeSampleRefIdeal.sig) → Buf (Elt Ideal) ℓ) (g : Dev Cert.RopeSampleRefIdeal.nD → PrngReg), Pre_RopeSampleRefIdeal m →
    θ_run (Cert.RopeSampleRefIdeal.defs (F := Ideal)) (onTc (τ := Cert.RopeSampleRefIdeal.τ) (Cert.RopeSampleRefIdeal.main (F := Ideal))) ⟨m, fun _ => 0, g⟩ (fun r => (∀ c : Dev Cert.RopeSampleRefIdeal.nD,
      r.2.mem ((c.tc : Thread Cert.RopeSampleRefIdeal.nD Cert.RopeSampleRefIdeal.τ).loc Cert.RopeSampleRefIdeal.main_arg0) = m ((c.tc : Thread Cert.RopeSampleRefIdeal.nD Cert.RopeSampleRefIdeal.τ).loc Cert.RopeSampleRefIdeal.main_arg0)
      ∧ r.2.mem ((c.tc : Thread Cert.RopeSampleRefIdeal.nD Cert.RopeSampleRefIdeal.τ).loc Cert.RopeSampleRefIdeal.main_arg1) = m ((c.tc : Thread Cert.RopeSampleRefIdeal.nD Cert.RopeSampleRefIdeal.τ).loc Cert.RopeSampleRefIdeal.main_arg1))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Combine_CombineIdeal : Prop :=
  True

def algebraic_CombineIdeal_CombineRefIdeal [hCombineIdeal : Cert.CombineIdeal.Facts] [hCombineRefIdeal : Cert.CombineRefIdeal.Facts] [hPre_counts_in_range3 : Cert.Pre_counts_in_range3.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v38) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v46)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v46) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v32) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v19_0)) (v1 : (c : Dev Cert.RopeIdeal.nD) → Buf (Elt Ideal) ((c.tc : Thread Cert.RopeIdeal.nD Cert.RopeIdeal.τ).loc Cert.RopeIdeal.main_v19_1)) (v2 : (c : Dev Cert.RopeIdeal.nD) → Buf (Elt Ideal) ((c.tc : Thread Cert.RopeIdeal.nD Cert.RopeIdeal.τ).loc Cert.RopeIdeal.main_v19_2)) (v3 : (c : Dev Cert.RopeIdeal.nD) → Buf (Elt Ideal) ((c.tc : Thread Cert.RopeIdeal.nD Cert.RopeIdeal.τ).loc Cert.RopeIdeal.main_v19_3)) (v4 : (c : Dev Cert.RopeIdeal.nD) → Buf (Elt Ideal) ((c.tc : Thread Cert.RopeIdeal.nD Cert.RopeIdeal.τ).loc Cert.RopeIdeal.main_v19_4)) (v5 : (c : Dev Cert.RopeIdeal.nD) → Buf (Elt Ideal) ((c.tc : Thread Cert.RopeIdeal.nD Cert.RopeIdeal.τ).loc Cert.RopeIdeal.main_v19_5)) (v6 : (c : Dev Cert.RopeIdeal.nD) → Buf (Elt Ideal) ((c.tc : Thread Cert.RopeIdeal.nD Cert.RopeIdeal.τ).loc Cert.RopeIdeal.main_v19_6)) (v7 : (c : Dev Cert.RopeIdeal.nD) → Buf (Elt Ideal) ((c.tc : Thread Cert.RopeIdeal.nD Cert.RopeIdeal.τ).loc Cert.RopeIdeal.main_v19_7)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v19_0) = v0 c
          ∧ r.2.mem ((c.tc : Thread Cert.RopeIdeal.nD Cert.RopeIdeal.τ).loc Cert.RopeIdeal.main_v19_1) = v1 c
          ∧ r.2.mem ((c.tc : Thread Cert.RopeIdeal.nD Cert.RopeIdeal.τ).loc Cert.RopeIdeal.main_v19_2) = v2 c
          ∧ r.2.mem ((c.tc : Thread Cert.RopeIdeal.nD Cert.RopeIdeal.τ).loc Cert.RopeIdeal.main_v19_3) = v3 c
          ∧ r.2.mem ((c.tc : Thread Cert.RopeIdeal.nD Cert.RopeIdeal.τ).loc Cert.RopeIdeal.main_v19_4) = v4 c
          ∧ r.2.mem ((c.tc : Thread Cert.RopeIdeal.nD Cert.RopeIdeal.τ).loc Cert.RopeIdeal.main_v19_5) = v5 c
          ∧ r.2.mem ((c.tc : Thread Cert.RopeIdeal.nD Cert.RopeIdeal.τ).loc Cert.RopeIdeal.main_v19_6) = v6 c
          ∧ r.2.mem ((c.tc : Thread Cert.RopeIdeal.nD Cert.RopeIdeal.τ).loc Cert.RopeIdeal.main_v19_7) = v7 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v150) = v0 c
          ∧ r.2.mem ((c.tc : Thread Cert.RopeRefIdeal.nD Cert.RopeRefIdeal.τ).loc Cert.RopeRefIdeal.main_v151) = v1 c
          ∧ r.2.mem ((c.tc : Thread Cert.RopeRefIdeal.nD Cert.RopeRefIdeal.τ).loc Cert.RopeRefIdeal.main_v111) = v2 c
          ∧ r.2.mem ((c.tc : Thread Cert.RopeRefIdeal.nD Cert.RopeRefIdeal.τ).loc Cert.RopeRefIdeal.main_v112) = v3 c
          ∧ r.2.mem ((c.tc : Thread Cert.RopeRefIdeal.nD Cert.RopeRefIdeal.τ).loc Cert.RopeRefIdeal.main_v149) = v4 c
          ∧ r.2.mem ((c.tc : Thread Cert.RopeRefIdeal.nD Cert.RopeRefIdeal.τ).loc Cert.RopeRefIdeal.main_v152) = v5 c
          ∧ r.2.mem ((c.tc : Thread Cert.RopeRefIdeal.nD Cert.RopeRefIdeal.τ).loc Cert.RopeRefIdeal.main_v153) = v6 c
          ∧ r.2.mem ((c.tc : Thread Cert.RopeRefIdeal.nD Cert.RopeRefIdeal.τ).loc Cert.RopeRefIdeal.main_v154) = v7 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_RopeSample_RopeSampleIdeal : Prop :=
  True

def algebraic_RopeSampleIdeal_RopeSampleRefIdeal [hRopeSampleIdeal : Cert.RopeSampleIdeal.Facts] [hRopeSampleRefIdeal : Cert.RopeSampleRefIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg)
    (m' : (ℓ : Loc Cert.RopeSampleRefIdeal.nD Cert.RopeSampleRefIdeal.τ Cert.RopeSampleRefIdeal.sig) → Buf (Elt Ideal) ℓ) (g' : Dev Cert.RopeSampleRefIdeal.nD → PrngReg), Pre_RopeSampleIdeal m →
    (∀ c : Dev Cert.RopeSampleIdeal.nD,
      m' ((c.tc : Thread Cert.RopeSampleRefIdeal.nD Cert.RopeSampleRefIdeal.τ).loc Cert.RopeSampleRefIdeal.main_arg0) = m ((c.tc : Thread Cert.RopeSampleIdeal.nD Cert.RopeSampleIdeal.τ).loc Cert.RopeSampleIdeal.main_arg0)
      ∧ m' ((c.tc : Thread Cert.RopeSampleRefIdeal.nD Cert.RopeSampleRefIdeal.τ).loc Cert.RopeSampleRefIdeal.main_arg1) = m ((c.tc : Thread Cert.RopeSampleIdeal.nD Cert.RopeSampleIdeal.τ).loc Cert.RopeSampleIdeal.main_arg1)) →
    ∃ (v0 : (c : Dev Cert.RopeSampleIdeal.nD) → Buf (Elt Ideal) ((c.tc : Thread Cert.RopeSampleIdeal.nD Cert.RopeSampleIdeal.τ).loc Cert.RopeSampleIdeal.main_v19_0)) (v1 : (c : Dev Cert.RopeSampleIdeal.nD) → Buf (Elt Ideal) ((c.tc : Thread Cert.RopeSampleIdeal.nD Cert.RopeSampleIdeal.τ).loc Cert.RopeSampleIdeal.main_v19_1)) (v2 : (c : Dev Cert.RopeSampleIdeal.nD) → Buf (Elt Ideal) ((c.tc : Thread Cert.RopeSampleIdeal.nD Cert.RopeSampleIdeal.τ).loc Cert.RopeSampleIdeal.main_v19_2)) (v3 : (c : Dev Cert.RopeSampleIdeal.nD) → Buf (Elt Ideal) ((c.tc : Thread Cert.RopeSampleIdeal.nD Cert.RopeSampleIdeal.τ).loc Cert.RopeSampleIdeal.main_v19_3)) (v4 : (c : Dev Cert.RopeSampleIdeal.nD) → Buf (Elt Ideal) ((c.tc : Thread Cert.RopeSampleIdeal.nD Cert.RopeSampleIdeal.τ).loc Cert.RopeSampleIdeal.main_v19_4)) (v5 : (c : Dev Cert.RopeSampleIdeal.nD) → Buf (Elt Ideal) ((c.tc : Thread Cert.RopeSampleIdeal.nD Cert.RopeSampleIdeal.τ).loc Cert.RopeSampleIdeal.main_v19_5)) (v6 : (c : Dev Cert.RopeSampleIdeal.nD) → Buf (Elt Ideal) ((c.tc : Thread Cert.RopeSampleIdeal.nD Cert.RopeSampleIdeal.τ).loc Cert.RopeSampleIdeal.main_v19_6)) (v7 : (c : Dev Cert.RopeSampleIdeal.nD) → Buf (Elt Ideal) ((c.tc : Thread Cert.RopeSampleIdeal.nD Cert.RopeSampleIdeal.τ).loc Cert.RopeSampleIdeal.main_v19_7)),
      θ_run (Cert.RopeSampleIdeal.defs (F := Ideal)) (onTc (τ := Cert.RopeSampleIdeal.τ) (Cert.RopeSampleIdeal.main (F := Ideal))) ⟨m, fun _ => 0, g⟩ (fun r => ∀ c : Dev Cert.RopeSampleIdeal.nD,
          r.2.mem ((c.tc : Thread Cert.RopeSampleIdeal.nD Cert.RopeSampleIdeal.τ).loc Cert.RopeSampleIdeal.main_v19_0) = v0 c
          ∧ r.2.mem ((c.tc : Thread Cert.RopeSampleIdeal.nD Cert.RopeSampleIdeal.τ).loc Cert.RopeSampleIdeal.main_v19_1) = v1 c
          ∧ r.2.mem ((c.tc : Thread Cert.RopeSampleIdeal.nD Cert.RopeSampleIdeal.τ).loc Cert.RopeSampleIdeal.main_v19_2) = v2 c
          ∧ r.2.mem ((c.tc : Thread Cert.RopeSampleIdeal.nD Cert.RopeSampleIdeal.τ).loc Cert.RopeSampleIdeal.main_v19_3) = v3 c
          ∧ r.2.mem ((c.tc : Thread Cert.RopeSampleIdeal.nD Cert.RopeSampleIdeal.τ).loc Cert.RopeSampleIdeal.main_v19_4) = v4 c
          ∧ r.2.mem ((c.tc : Thread Cert.RopeSampleIdeal.nD Cert.RopeSampleIdeal.τ).loc Cert.RopeSampleIdeal.main_v19_5) = v5 c
          ∧ r.2.mem ((c.tc : Thread Cert.RopeSampleIdeal.nD Cert.RopeSampleIdeal.τ).loc Cert.RopeSampleIdeal.main_v19_6) = v6 c
          ∧ r.2.mem ((c.tc : Thread Cert.RopeSampleIdeal.nD Cert.RopeSampleIdeal.τ).loc Cert.RopeSampleIdeal.main_v19_7) = v7 c
          ∧ r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0)
          ∧ r.2.mem ((c.tc : Thread Cert.RopeSampleIdeal.nD Cert.RopeSampleIdeal.τ).loc Cert.RopeSampleIdeal.main_arg1) = m ((c.tc : Thread Cert.RopeSampleIdeal.nD Cert.RopeSampleIdeal.τ).loc Cert.RopeSampleIdeal.main_arg1))
      ∧ θ_run (Cert.RopeSampleRefIdeal.defs (F := Ideal)) (onTc (τ := Cert.RopeSampleRefIdeal.τ) (Cert.RopeSampleRefIdeal.main (F := Ideal))) ⟨m', fun _ => 0, g'⟩ (fun r => ∀ c : Dev Cert.RopeSampleRefIdeal.nD,
          r.2.mem ((c.tc : Thread Cert.RopeSampleRefIdeal.nD Cert.RopeSampleRefIdeal.τ).loc Cert.RopeSampleRefIdeal.main_v150) = v0 c
          ∧ r.2.mem ((c.tc : Thread Cert.RopeSampleRefIdeal.nD Cert.RopeSampleRefIdeal.τ).loc Cert.RopeSampleRefIdeal.main_v151) = v1 c
          ∧ r.2.mem ((c.tc : Thread Cert.RopeSampleRefIdeal.nD Cert.RopeSampleRefIdeal.τ).loc Cert.RopeSampleRefIdeal.main_v111) = v2 c
          ∧ r.2.mem ((c.tc : Thread Cert.RopeSampleRefIdeal.nD Cert.RopeSampleRefIdeal.τ).loc Cert.RopeSampleRefIdeal.main_v112) = v3 c
          ∧ r.2.mem ((c.tc : Thread Cert.RopeSampleRefIdeal.nD Cert.RopeSampleRefIdeal.τ).loc Cert.RopeSampleRefIdeal.main_v149) = v4 c
          ∧ r.2.mem ((c.tc : Thread Cert.RopeSampleRefIdeal.nD Cert.RopeSampleRefIdeal.τ).loc Cert.RopeSampleRefIdeal.main_v152) = v5 c
          ∧ r.2.mem ((c.tc : Thread Cert.RopeSampleRefIdeal.nD Cert.RopeSampleRefIdeal.τ).loc Cert.RopeSampleRefIdeal.main_v153) = v6 c
          ∧ r.2.mem ((c.tc : Thread Cert.RopeSampleRefIdeal.nD Cert.RopeSampleRefIdeal.τ).loc Cert.RopeSampleRefIdeal.main_v154) = v7 c
          ∧ r.2.mem ((c.tc : Thread Cert.RopeSampleRefIdeal.nD Cert.RopeSampleRefIdeal.τ).loc Cert.RopeSampleRefIdeal.main_arg0) = m' ((c.tc : Thread Cert.RopeSampleRefIdeal.nD Cert.RopeSampleRefIdeal.τ).loc Cert.RopeSampleRefIdeal.main_arg0)
          ∧ r.2.mem ((c.tc : Thread Cert.RopeSampleRefIdeal.nD Cert.RopeSampleRefIdeal.τ).loc Cert.RopeSampleRefIdeal.main_arg1) = m' ((c.tc : Thread Cert.RopeSampleRefIdeal.nD Cert.RopeSampleRefIdeal.τ).loc Cert.RopeSampleRefIdeal.main_arg1))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)) →
    ∃ (v0 : (c : Dev Cert.SsmIdeal.nD) → Buf (Elt Ideal) ((c.tc : Thread Cert.SsmIdeal.nD Cert.SsmIdeal.τ).loc Cert.SsmIdeal.main_v19_2)) (v1 : (c : Dev Cert.SsmIdeal.nD) → Buf (Elt Ideal) ((c.tc : Thread Cert.SsmIdeal.nD Cert.SsmIdeal.τ).loc Cert.SsmIdeal.main_v19_3)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v19_2) = v0 c
          ∧ r.2.mem ((c.tc : Thread Cert.SsmIdeal.nD Cert.SsmIdeal.τ).loc Cert.SsmIdeal.main_v19_3) = v1 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v4) = v0 c
          ∧ r.2.mem ((c.tc : Thread Cert.SsmRefIdeal.nD Cert.SsmRefIdeal.τ).loc Cert.SsmRefIdeal.main_v5) = v1 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)) →
    ∃ (v0 : (c : Dev Cert.LruIdeal.nD) → Buf (Elt Ideal) ((c.tc : Thread Cert.LruIdeal.nD Cert.LruIdeal.τ).loc Cert.LruIdeal.main_v6_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v6_2) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v2) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hCombine : Cert.Combine.Facts) (hCombineIdeal : Cert.CombineIdeal.Facts) (hCombineRefIdeal : Cert.CombineRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hRope : Cert.Rope.Facts) (hRopeIdeal : Cert.RopeIdeal.Facts) (hRopeRefIdeal : Cert.RopeRefIdeal.Facts) (hRopeSample : Cert.RopeSample.Facts) (hRopeSampleIdeal : Cert.RopeSampleIdeal.Facts) (hRopeSampleRefIdeal : Cert.RopeSampleRefIdeal.Facts) (hSsm : Cert.Ssm.Facts) (hSsmIdeal : Cert.SsmIdeal.Facts) (hSsmRefIdeal : Cert.SsmRefIdeal.Facts) (hLru : Cert.Lru.Facts) (hLruIdeal : Cert.LruIdeal.Facts) (hLruRefIdeal : Cert.LruRefIdeal.Facts) (hPre_counts_in_range : Cert.Pre_counts_in_range.Facts) (hPre_counts_in_range3 : Cert.Pre_counts_in_range3.Facts),
    quiescent_Kernel (hKernel := hKernel) (hPre_counts_in_range := hPre_counts_in_range)
    ∧ quiescent_KernelIdeal (hKernelIdeal := hKernelIdeal) (hPre_counts_in_range := hPre_counts_in_range)
    ∧ quiescent_ReferenceIdeal (hReferenceIdeal := hReferenceIdeal)
    ∧ quiescent_ReferenceIdeal_pre_counts_in_range (hReferenceIdeal := hReferenceIdeal) (hPre_counts_in_range := hPre_counts_in_range)
    ∧ quiescent_Ffn (hFfn := hFfn)
    ∧ quiescent_FfnIdeal (hFfnIdeal := hFfnIdeal)
    ∧ quiescent_FfnRefIdeal (hFfnRefIdeal := hFfnRefIdeal)
    ∧ quiescent_Combine (hCombine := hCombine) (hPre_counts_in_range3 := hPre_counts_in_range3)
    ∧ quiescent_CombineIdeal (hCombineIdeal := hCombineIdeal) (hPre_counts_in_range3 := hPre_counts_in_range3)
    ∧ quiescent_CombineRefIdeal (hCombineRefIdeal := hCombineRefIdeal)
    ∧ quiescent_CombineRefIdeal_pre_counts_in_range3 (hCombineRefIdeal := hCombineRefIdeal) (hPre_counts_in_range3 := hPre_counts_in_range3)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Rope (hRope := hRope)
    ∧ quiescent_RopeIdeal (hRopeIdeal := hRopeIdeal)
    ∧ quiescent_RopeRefIdeal (hRopeRefIdeal := hRopeRefIdeal)
    ∧ quiescent_RopeSample (hRopeSample := hRopeSample)
    ∧ quiescent_RopeSampleIdeal (hRopeSampleIdeal := hRopeSampleIdeal)
    ∧ quiescent_RopeSampleRefIdeal (hRopeSampleRefIdeal := hRopeSampleRefIdeal)
    ∧ quiescent_Ssm (hSsm := hSsm)
    ∧ quiescent_SsmIdeal (hSsmIdeal := hSsmIdeal)
    ∧ quiescent_SsmRefIdeal (hSsmRefIdeal := hSsmRefIdeal)
    ∧ quiescent_Lru (hLru := hLru)
    ∧ quiescent_LruIdeal (hLruIdeal := hLruIdeal)
    ∧ quiescent_LruRefIdeal (hLruRefIdeal := hLruRefIdeal)
    ∧ preserves_Kernel_KernelIdeal
    ∧ algebraic_KernelIdeal_ReferenceIdeal (hKernelIdeal := hKernelIdeal) (hReferenceIdeal := hReferenceIdeal) (hPre_counts_in_range := hPre_counts_in_range)
    ∧ preserves_Ffn_FfnIdeal
    ∧ algebraic_FfnIdeal_FfnRefIdeal (hFfnIdeal := hFfnIdeal) (hFfnRefIdeal := hFfnRefIdeal)
    ∧ preserves_Combine_CombineIdeal
    ∧ algebraic_CombineIdeal_CombineRefIdeal (hCombineIdeal := hCombineIdeal) (hCombineRefIdeal := hCombineRefIdeal) (hPre_counts_in_range3 := hPre_counts_in_range3)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Rope_RopeIdeal
    ∧ algebraic_RopeIdeal_RopeRefIdeal (hRopeIdeal := hRopeIdeal) (hRopeRefIdeal := hRopeRefIdeal)
    ∧ preserves_RopeSample_RopeSampleIdeal
    ∧ algebraic_RopeSampleIdeal_RopeSampleRefIdeal (hRopeSampleIdeal := hRopeSampleIdeal) (hRopeSampleRefIdeal := hRopeSampleRefIdeal)
    ∧ preserves_Ssm_SsmIdeal
    ∧ algebraic_SsmIdeal_SsmRefIdeal (hSsmIdeal := hSsmIdeal) (hSsmRefIdeal := hSsmRefIdeal)
    ∧ preserves_Lru_LruIdeal
    ∧ algebraic_LruIdeal_LruRefIdeal (hLruIdeal := hLruIdeal) (hLruRefIdeal := hLruRefIdeal)
-- ==== Pre_counts_in_range.lean ====
abbrev S88 : Shape := ⟨1, ![88]⟩
abbrev S11x8x1536 : Shape := ⟨3, ![11, 8, 1536]⟩
abbrev S16896x1024 : Shape := ⟨2, ![16896, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : IVec S11x8x1536 32) (main_arg2 : FVec F S16896x1024 .bf16) (main_arg3 : FVec F S8x1024x2816 .bf16) (main_arg4 : FVec F S8x1024x2816 .bf16) (main_arg5 : FVec F S8x2816x1024 .bf16) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 4#32
  let main_v2 : IVec S88 32 := broadcastInDim S88 ![] bcast_S_S88 main_c_0
  let main_v3 : IVec S88 1 := cmpi .sle main_arg0 main_v2
  let main_v4 : IVec S88 1 := andi main_v1 main_v3
  main_v4
-- ==== Pre_counts_in_range3.lean ====
abbrev S88 : Shape := ⟨1, ![88]⟩
abbrev S16896x1024 : Shape := ⟨2, ![16896, 1024]⟩
abbrev S16896x128 : Shape := ⟨2, ![16896, 128]⟩
abbrev S8x11x1792x1024 : Shape := ⟨4, ![8, 11, 1792, 1024]⟩
abbrev S1024 : Shape := ⟨1, ![1024]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : FVec F S16896x1024 .f32) (main_arg2 : FVec F S16896x128 .f32) (main_arg3 : FVec F S16896x128 .f32) (main_arg4 : FVec F S8x11x1792x1024 .bf16) (main_arg5 : FVec F S1024 .f32) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 4#32
  let main_v2 : IVec S88 32 := broadcastInDim S88 ![] bcast_S_S88 main_c_0
  let main_v3 : IVec S88 1 := cmpi .sle main_arg0 main_v2
  let main_v4 : IVec S88 1 := andi main_v1 main_v3
  main_v4
-- ==== Kernel.lean ====
abbrev S88 : Shape := ⟨1, ![88]⟩
abbrev S11x8x1536 : Shape := ⟨3, ![11, 8, 1536]⟩
abbrev S16896x1024 : Shape := ⟨2, ![16896, 1024]⟩
abbrev S8x1024x2816 : Shape := ⟨3, ![8, 1024, 2816]⟩
abbrev S8x2816x1024 : Shape := ⟨3, ![8, 2816, 1024]⟩
abbrev S8x11x1792x1024 : Shape := ⟨4, ![8, 11, 1792, 1024]⟩
abbrev S1x8x1536 : Shape := ⟨3, ![1, 8, 1536]⟩
abbrev S1536x1024 : Shape := ⟨2, ![1536, 1024]⟩
abbrev S1x1024x1408 : Shape := ⟨3, ![1, 1024, 1408]⟩
abbrev S1x1408x1024 : Shape := ⟨3, ![1, 1408, 1024]⟩
abbrev S1x1x1792x1024 : Shape := ⟨4, ![1, 1, 1792, 1024]⟩
abbrev S4x448x1024 : Shape := ⟨3, ![4, 448, 1024]⟩
abbrev S1 : Shape := ⟨1, ![1]⟩
abbrev S1x1x1536 : Shape := ⟨3, ![1, 1, 1536]⟩
abbrev S1x1536 : Shape := ⟨2, ![1, 1536]⟩
abbrev S448x1 : Shape := ⟨2, ![448, 1]⟩
abbrev S448x1536 : Shape := ⟨2, ![448, 1536]⟩
abbrev S448x1024 : Shape := ⟨2, ![448, 1024]⟩
abbrev S1x448x1024 : Shape := ⟨3, ![1, 448, 1024]⟩
abbrev S1024x1408 : Shape := ⟨2, ![1024, 1408]⟩
abbrev S448x1408 : Shape := ⟨2, ![448, 1408]⟩
abbrev S1408x1024 : Shape := ⟨2, ![1408, 1024]⟩
abbrev S1x1x448x1024 : Shape := ⟨4, ![1, 1, 448, 1024]⟩

abbrev nBuf : Space → Nat
  | .hbm => 6
  | .vmem => 14
  | .smem => 1
  | _ => 0

abbrev bufTy : (tb : Table) → Fin (tcTables nBuf tb) → BufTy
  | .hbm, ⟨0, _⟩ => ⟨S11x8x1536, .i32⟩
  | .hbm, ⟨1, _⟩ => ⟨S16896x1024, .bf16⟩
  | .hbm, ⟨2, _⟩ => ⟨S8x1024x2816, .bf16⟩
  | .hbm, ⟨3, _⟩ => ⟨S8x1024x2816, .bf16⟩
  | .hbm, ⟨4, _⟩ => ⟨S8x2816x1024, .bf16⟩
  | .hbm, ⟨5, _⟩ => ⟨S8x11x1792x1024, .bf16⟩
  | .local _ .vmem, ⟨0, _⟩ => ⟨S1x8x1536, .i32⟩
  | .local _ .vmem, ⟨1, _⟩ => ⟨S1x8x1536, .i32⟩
  | .local _ .vmem, ⟨2, _⟩ => ⟨S1536x1024, .bf16⟩
  | .local _ .vmem, ⟨3, _⟩ => ⟨S1536x1024, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1x1792x1024, .bf16⟩
  | .local _ .vmem, ⟨11, _⟩ => ⟨S1x1x1792x1024, .bf16⟩
  | .local _ .vmem, ⟨12, _⟩ => ⟨S4x448x1024, .bf16⟩
  | .local _ .vmem, ⟨13, _⟩ => ⟨S4x448x1024, .f32⟩
  | .local _ .smem, ⟨0, _⟩ => ⟨S88, .i32⟩
  | _, _ => ⟨S11x8x1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c8_i32 : BitVec 32 := 8#32
  let v0 : BitVec 32 := Scalar.muli arg1 c8_i32
  let arg0 : BitVec 32 := BitVec.ofNat 32 (i 0).val
  let v1 : BitVec 32 := Scalar.addi v0 arg0
  let v2 : Index := Scalar.indexCast v1
  ![v2.toNat]
def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_0 : BitVec 32 := 0#32
  let v6 : BitVec 1 := Scalar.cmpi .ne v5 c0_i32_0
  v6

def k0_off2 (i : grid0.Coords) : Fin 3 → Nat :=
  let c0 : Index := 0#32
  let arg0 : BitVec 32 := BitVec.ofNat 32 (i 0).val
  let v15 : Index := Scalar.indexCast arg0
  let c0_7 : Index := 0#32
  ![0, v15.toNat, 0]
@[reducible] def k0_t1_loop (v3 : BitVec 32) : Scf.Loop 32 :=
  let c0_i32_9 : BitVec 32 := 0#32
  let v18 : BitVec 32 := Scalar.subi v3 c0_i32_9
  let c1_i32_10 : BitVec 32 := 1#32
  let v20 : BitVec 32 := Scalar.divsi v18 c1_i32_10
  let v21 : BitVec 32 := Scalar.muli v20 c1_i32_10
  let v22 : BitVec 32 := Scalar.addi c0_i32_9 v21
  let c1_i32_11 : BitVec 32 := 1#32
  ⟨c0_i32_9, v22, c1_i32_11⟩

def k0_off3 (v3 : BitVec 32) (k0_t1 : Fin (k0_t1_loop v3).trips) : Fin 3 → Nat :=
  let c0_i32_9 : BitVec 32 := 0#32
  let c1_i32_11 : BitVec 32 := 1#32
  let arg12 : BitVec 32 := Scf.iv c0_i32_9 c1_i32_11 k0_t1
  let v37 : Index := Scalar.indexCast arg12
  let c0_17 : Index := 0#32
  let c0_18 : Index := 0#32
  ![v37.toNat, 0, 0]
@[reducible] def k0_t2_loop (v3 : BitVec 32) : Scf.Loop 32 :=
  let c0_i32_9 : BitVec 32 := 0#32
  let v18 : BitVec 32 := Scalar.subi v3 c0_i32_9
  let c1_i32_10 : BitVec 32 := 1#32
  let v20 : BitVec 32 := Scalar.divsi v18 c1_i32_10
  let v21 : BitVec 32 := Scalar.muli v20 c1_i32_10
  let v22 : BitVec 32 := Scalar.addi c0_i32_9 v21
  let v19 : BitVec 32 := Scalar.addi c0_i32_9 v18
  let c1_i32_12 : BitVec 32 := 1#32
  ⟨v22, v19, c1_i32_12⟩
def k0_off4 (v3 : BitVec 32) (k0_t2 : Fin (k0_t2_loop v3).trips) : Fin 3 → Nat :=
  let c0_i32_9 : BitVec 32 := 0#32
  let v18 : BitVec 32 := Scalar.subi v3 c0_i32_9
  let c1_i32_10 : BitVec 32 := 1#32
  let v20 : BitVec 32 := Scalar.divsi v18 c1_i32_10
  let v21 : BitVec 32 := Scalar.muli v20 c1_i32_10
  let v22 : BitVec 32 := Scalar.addi c0_i32_9 v21
  let c1_i32_12 : BitVec 32 := 1#32
  let arg12 : BitVec 32 := Scf.iv v22 c1_i32_12 k0_t2
  let v37 : Index := Scalar.indexCast arg12
  let c0_17 : Index := 0#32
  let c0_18 : Index := 0#32
  ![v37.toNat, 0, 0]
@[reducible] def k0_t3_loop (v3 : BitVec 32) : Scf.Loop 32 :=
  let c0_i32_2 : BitVec 32 := 0#32
  let v7 : BitVec 32 := Scalar.subi v3 c0_i32_2
  let c1_i32 : BitVec 32 := 1#32
  let v9 : BitVec 32 := Scalar.divsi v7 c1_i32
  let v10 : BitVec 32 := Scalar.muli v9 c1_i32
  let v11 : BitVec 32 := Scalar.addi c0_i32_2 v10
  let c1_i32_3 : BitVec 32 := 1#32
  ⟨c0_i32_2, v11, c1_i32_3⟩
def k0_off5 (v3 : BitVec 32) (k0_t3 : Fin (k0_t3_loop v3).trips) : Fin 3 → Nat :=
  let c0_i32_2 : BitVec 32 := 0#32
  let c1_i32_3 : BitVec 32 := 1#32
  let arg12 : BitVec 32 := Scf.iv c0_i32_2 c1_i32_3 k0_t3
  let v15 : Index := Scalar.indexCast arg12
  let c0 : Index := 0#32
  let c0_7 : Index := 0#32
  ![v15.toNat, 0, 0]
@[reducible] def k0_t4_loop (v3 : BitVec 32) : Scf.Loop 32 :=
  let c0_i32_2 : BitVec 32 := 0#32
  let v7 : BitVec 32 := Scalar.subi v3 c0_i32_2
  let c1_i32 : BitVec 32 := 1#32
  let v9 : BitVec 32 := Scalar.divsi v7 c1_i32
  let v10 : BitVec 32 := Scalar.muli v9 c1_i32
  let v11 : BitVec 32 := Scalar.addi c0_i32_2 v10
  let v8 : BitVec 32 := Scalar.addi c0_i32_2 v7
  let c1_i32_4 : BitVec 32 := 1#32
  ⟨v11, v8, c1_i32_4⟩
def k0_off6 (v3 : BitVec 32) (k0_t4 : Fin (k0_t4_loop v3).trips) : Fin 3 → Nat :=
  let c0_i32_2 : BitVec 32 := 0#32
  let v7 : BitVec 32 := Scalar.subi v3 c0_i32_2
  let c1_i32 : BitVec 32 := 1#32
  let v9 : BitVec 32 := Scalar.divsi v7 c1_i32
  let v10 : BitVec 32 := Scalar.muli v9 c1_i32
  let v11 : BitVec 32 := Scalar.addi c0_i32_2 v10
  let c1_i32_4 : BitVec 32 := 1#32
  let arg12 : BitVec 32 := Scf.iv v11 c1_i32_4 k0_t4
  let v15 : Index := Scalar.indexCast arg12
  let c0 : Index := 0#32
  let c0_7 : Index := 0#32
  ![v15.toNat, 0, 0]
def k0_cond2 (i : grid0.Coords) : BitVec 1 :=
  let arg2 : BitVec 32 := BitVec.ofNat 32 (i 2).val
  let c1_i32_5 : BitVec 32 := 1#32
  let v12 : BitVec 1 := Scalar.cmpi .eq arg2 c1_i32_5
  let v13 : BitVec 32 := Scalar.extui v12
  let c0_i32_6 : BitVec 32 := 0#32
  let v14 : BitVec 1 := Scalar.cmpi .ne v13 c0_i32_6
  v14

@[reducible] def k0_t5_loop (v3 : BitVec 32) : Scf.Loop 32 :=
  let c0_i32_8 : BitVec 32 := 0#32
  let v15 : BitVec 32 := Scalar.subi v3 c0_i32_8
  let c1_i32_9 : BitVec 32 := 1#32
  let v17 : BitVec 32 := Scalar.divsi v15 c1_i32_9
  let v18 : BitVec 32 := Scalar.muli v17 c1_i32_9
  let v19 : BitVec 32 := Scalar.addi c0_i32_8 v18
  let c1_i32_10 : BitVec 32 := 1#32
  ⟨c0_i32_8, v19, c1_i32_10⟩
def k0_off7 (v3 : BitVec 32) (k0_t5 : Fin (k0_t5_loop v3).trips) : Fin 3 → Nat :=
  let c0_i32_8 : BitVec 32 := 0#32
  let c1_i32_10 : BitVec 32 := 1#32
  let arg12 : BitVec 32 := Scf.iv c0_i32_8 c1_i32_10 k0_t5
  let v25 : Index := Scalar.indexCast arg12
  let c0 : Index := 0#32
  let c0_16 : Index := 0#32
  ![v25.toNat, 0, 0]
def k0_mult1 (v3 : BitVec 32) (k0_t5 : Fin (k0_t5_loop v3).trips) : BitVec 32 :=
  let c0_i32_8 : BitVec 32 := 0#32
  let c1_i32_10 : BitVec 32 := 1#32
  let arg12 : BitVec 32 := Scf.iv c0_i32_8 c1_i32_10 k0_t5
  let c448_i32 : BitVec 32 := 448#32
  let v29 : BitVec 32 := Scalar.muli arg12 c448_i32
  v29
def k0_off8 (v3 : BitVec 32) (k0_t5 : Fin (k0_t5_loop v3).trips) : Fin 4 → Nat :=
  let c0_17 : Index := 0#32
  let c0_18 : Index := 0#32
  let c0_i32_8 : BitVec 32 := 0#32
  let c1_i32_10 : BitVec 32 := 1#32
  let arg12 : BitVec 32 := Scf.iv c0_i32_8 c1_i32_10 k0_t5
  let c448_i32 : BitVec 32 := 448#32
  let v29 : BitVec 32 := Scalar.muli arg12 c448_i32
  let v30 : BitVec 32 := v29
  let v31 : Index := Scalar.indexCast v30
  let c0_19 : Index := 0#32
  ![0, 0, v31.toNat, 0]
@[reducible] def k0_t6_loop (v3 : BitVec 32) : Scf.Loop 32 :=
  let c0_i32_8 : BitVec 32 := 0#32
  let v15 : BitVec 32 := Scalar.subi v3 c0_i32_8
  let c1_i32_9 : BitVec 32 := 1#32
  let v17 : BitVec 32 := Scalar.divsi v15 c1_i32_9
  let v18 : BitVec 32 := Scalar.muli v17 c1_i32_9
  let v19 : BitVec 32 := Scalar.addi c0_i32_8 v18
  let v16 : BitVec 32 := Scalar.addi c0_i32_8 v15
  let c1_i32_11 : BitVec 32 := 1#32
  ⟨v19, v16, c1_i32_11⟩
def k0_off9 (v3 : BitVec 32) (k0_t6 : Fin (k0_t6_loop v3).trips) : Fin 3 → Nat :=
  let c0_i32_8 : BitVec 32 := 0#32
  let v15 : BitVec 32 := Scalar.subi v3 c0_i32_8
  let c1_i32_9 : BitVec 32 := 1#32
  let v17 : BitVec 32 := Scalar.divsi v15 c1_i32_9
  let v18 : BitVec 32 := Scalar.muli v17 c1_i32_9
  let v19 : BitVec 32 := Scalar.addi c0_i32_8 v18
  let c1_i32_11 : BitVec 32 := 1#32
  let arg12 : BitVec 32 := Scf.iv v19 c1_i32_11 k0_t6
  let v25 : Index := Scalar.indexCast arg12
  let c0 : Index := 0#32
  let c0_16 : Index := 0#32
  ![v25.toNat, 0, 0]
def k0_mult2 (v3 : BitVec 32) (k0_t6 : Fin (k0_t6_loop v3).trips) : BitVec 32 :=
  let c0_i32_8 : BitVec 32 := 0#32
  let v15 : BitVec 32 := Scalar.subi v3 c0_i32_8
  let c1_i32_9 : BitVec 32 := 1#32
  let v17 : BitVec 32 := Scalar.divsi v15 c1_i32_9
  let v18 : BitVec 32 := Scalar.muli v17 c1_i32_9
  let v19 : BitVec 32 := Scalar.addi c0_i32_8 v18
  let c1_i32_11 : BitVec 32 := 1#32
  let arg12 : BitVec 32 := Scf.iv v19 c1_i32_11 k0_t6
  let c448_i32 : BitVec 32 := 448#32
  let v29 : BitVec 32 := Scalar.muli arg12 c448_i32
  v29
def k0_off10 (v3 : BitVec 32) (k0_t6 : Fin (k0_t6_loop v3).trips) : Fin 4 → Nat :=
  let c0_17 : Index := 0#32
  let c0_18 : Index := 0#32
  let c0_i32_8 : BitVec 32 := 0#32
  let v15 : BitVec 32 := Scalar.subi v3 c0_i32_8
  let c1_i32_9 : BitVec 32 := 1#32
  let v17 : BitVec 32 := Scalar.divsi v15 c1_i32_9
  let v18 : BitVec 32 := Scalar.muli v17 c1_i32_9
  let v19 : BitVec 32 := Scalar.addi c0_i32_8 v18
  let c1_i32_11 : BitVec 32 := 1#32
  let arg12 : BitVec 32 := Scf.iv v19 c1_i32_11 k0_t6
  let c448_i32 : BitVec 32 := 448#32
  let v29 : BitVec 32 := Scalar.muli arg12 c448_i32
  let v30 : BitVec 32 := v29
  let v31 : Index := Scalar.indexCast v30
  let c0_19 : Index := 0#32
  ![0, 0, v31.toNat, 0]
@[reducible] def k0_t7_loop (v3 : BitVec 32) : Scf.Loop 32 :=
  let c4_i32 : BitVec 32 := 4#32
  let v20 : BitVec 32 := Scalar.subi c4_i32 v3
  let c1_i32_13 : BitVec 32 := 1#32
  let v22 : BitVec 32 := Scalar.divsi v20 c1_i32_13
  let v23 : BitVec 32 := Scalar.muli v22 c1_i32_13
  let v24 : BitVec 32 := Scalar.addi v3 v23
  let c1_i32_14 : BitVec 32 := 1#32
  ⟨v3, v24, c1_i32_14⟩
def k0_mult3 (v3 : BitVec 32) (k0_t7 : Fin (k0_t7_loop v3).trips) : BitVec 32 :=
  let c1_i32_14 : BitVec 32 := 1#32
  let arg12 : BitVec 32 := Scf.iv v3 c1_i32_14 k0_t7
  let c448_i32 : BitVec 32 := 448#32
  let v26 : BitVec 32 := Scalar.muli arg12 c448_i32
  v26
def k0_off11 (v3 : BitVec 32) (k0_t7 : Fin (k0_t7_loop v3).trips) : Fin 4 → Nat :=
  let c0 : Index := 0#32
  let c0_16 : Index := 0#32
  let c1_i32_14 : BitVec 32 := 1#32
  let arg12 : BitVec 32 := Scf.iv v3 c1_i32_14 k0_t7
  let c448_i32 : BitVec 32 := 448#32
  let v26 : BitVec 32 := Scalar.muli arg12 c448_i32
  let v27 : BitVec 32 := v26
  let v28 : Index := Scalar.indexCast v27
  let c0_17 : Index := 0#32
  ![0, 0, v28.toNat, 0]
@[reducible] def k0_t8_loop (v3 : BitVec 32) : Scf.Loop 32 :=
  let c4_i32 : BitVec 32 := 4#32
  let v20 : BitVec 32 := Scalar.subi c4_i32 v3
  let c1_i32_13 : BitVec 32 := 1#32
  let v22 : BitVec 32 := Scalar.divsi v20 c1_i32_13
  let v23 : BitVec 32 := Scalar.muli v22 c1_i32_13
  let v24 : BitVec 32 := Scalar.addi v3 v23
  let v21 : BitVec 32 := Scalar.addi v3 v20
  let c1_i32_15 : BitVec 32 := 1#32
  ⟨v24, v21, c1_i32_15⟩
def k0_mult4 (v3 : BitVec 32) (k0_t8 : Fin (k0_t8_loop v3).trips) : BitVec 32 :=
  let c4_i32 : BitVec 32 := 4#32
  let v20 : BitVec 32 := Scalar.subi c4_i32 v3
  let c1_i32_13 : BitVec 32 := 1#32
  let v22 : BitVec 32 := Scalar.divsi v20 c1_i32_13
  let v23 : BitVec 32 := Scalar.muli v22 c1_i32_13
  let v24 : BitVec 32 := Scalar.addi v3 v23
  let c1_i32_15 : BitVec 32 := 1#32
  let arg12 : BitVec 32 := Scf.iv v24 c1_i32_15 k0_t8
  let c448_i32 : BitVec 32 := 448#32
  let v26 : BitVec 32 := Scalar.muli arg12 c448_i32
  v26
def k0_off12 (v3 : BitVec 32) (k0_t8 : Fin (k0_t8_loop v3).trips) : Fin 4 → Nat :=
  let c0 : Index := 0#32
  let c0_16 : Index := 0#32
  let c4_i32 : BitVec 32 := 4#32
  let v20 : BitVec 32 := Scalar.subi c4_i32 v3
  let c1_i32_13 : BitVec 32 := 1#32
  let v22 : BitVec 32 := Scalar.divsi v20 c1_i32_13
  let v23 : BitVec 32 := Scalar.muli v22 c1_i32_13
  let v24 : BitVec 32 := Scalar.addi v3 v23
  let c1_i32_15 : BitVec 32 := 1#32
  let arg12 : BitVec 32 := Scf.iv v24 c1_i32_15 k0_t8
  let c448_i32 : BitVec 32 := 448#32
  let v26 : BitVec 32 := Scalar.muli arg12 c448_i32
  let v27 : BitVec 32 := v26
  let v28 : Index := Scalar.indexCast v27
  let c0_17 : Index := 0#32
  ![0, 0, v28.toNat, 0]

def k0_chk1 (i : grid0.Coords) (v3 : BitVec 32) : Prop :=
  (∀ (k0_h1 : k0_cond1 i = 1#1), (k0_t1_loop v3).OK) ∧
  (∀ k0_t1 : Fin (k0_t1_loop v3).trips, ∀ (k0_h1 : k0_cond1 i = 1#1), ∀ a, (k0_off3 v3 k0_t1) a + S1x448x1024.size a ≤ S4x448x1024.size a) ∧
  (∀ k0_t1 : Fin (k0_t1_loop v3).trips, ∀ (k0_h1 : k0_cond1 i = 1#1), ∀ (hinb : ∀ a, (k0_off3 v3 k0_t1) a + S1x448x1024.size a ≤ S4x448x1024.size a), (Rect.unit (s := S4x448x1024) (k0_off3 v3 k0_t1) S1x448x1024.size hinb).PackedRows (EltTy.packing .bf16)) ∧
  (∀ (k0_h1 : k0_cond1 i = 1#1), (k0_t2_loop v3).OK) ∧
  (∀ k0_t2 : Fin (k0_t2_loop v3).trips, ∀ (k0_h1 : k0_cond1 i = 1#1), ∀ a, (k0_off4 v3 k0_t2) a + S1x448x1024.size a ≤ S4x448x1024.size a) ∧
  (∀ k0_t2 : Fin (k0_t2_loop v3).trips, ∀ (k0_h1 : k0_cond1 i = 1#1), ∀ (hinb : ∀ a, (k0_off4 v3 k0_t2) a + S1x448x1024.size a ≤ S4x448x1024.size a), (Rect.unit (s := S4x448x1024) (k0_off4 v3 k0_t2) S1x448x1024.size hinb).PackedRows (EltTy.packing .bf16)) ∧
  ((k0_t3_loop v3).OK) ∧
  (∀ k0_t3 : Fin (k0_t3_loop v3).trips, ∀ a, (k0_off5 v3 k0_t3) a + S1x448x1024.size a ≤ S4x448x1024.size a) ∧
  ((k0_t4_loop v3).OK) ∧
  (∀ k0_t4 : Fin (k0_t4_loop v3).trips, ∀ a, (k0_off6 v3 k0_t4) a + S1x448x1024.size a ≤ S4x448x1024.size a) ∧
  (∀ (k0_h2 : k0_cond2 i = 1#1), (k0_t5_loop v3).OK) ∧
  (∀ k0_t5 : Fin (k0_t5_loop v3).trips, ∀ (k0_h2 : k0_cond2 i = 1#1), ∀ a, (k0_off7 v3 k0_t5) a + S1x448x1024.size a ≤ S4x448x1024.size a) ∧
  (∀ k0_t5 : Fin (k0_t5_loop v3).trips, ∀ (k0_h2 : k0_cond2 i = 1#1), 448 ∣ (k0_mult1 v3 k0_t5).toNat) ∧
  (∀ k0_t5 : Fin (k0_t5_loop v3).trips, ∀ (k0_h2 : k0_cond2 i = 1#1), ∀ a, (k0_off8 v3 k0_t5) a + S1x1x448x1024.size a ≤ S1x1x1792x1024.size a) ∧
  (∀ k0_t5 : Fin (k0_t5_loop v3).trips, ∀ (k0_h2 : k0_cond2 i = 1#1), ∀ (hinb : ∀ a, (k0_off8 v3 k0_t5) a + S1x1x448x1024.size a ≤ S1x1x1792x1024.size a), (Rect.unit (s := S1x1x1792x1024) (k0_off8 v3 k0_t5) S1x1x448x1024.size hinb).PackedRows (EltTy.packing .bf16)) ∧
  (∀ (k0_h2 : k0_cond2 i = 1#1), (k0_t6_loop v3).OK) ∧
  (∀ k0_t6 : Fin (k0_t6_loop v3).trips, ∀ (k0_h2 : k0_cond2 i = 1#1), ∀ a, (k0_off9 v3 k0_t6) a + S1x448x1024.size a ≤ S4x448x1024.size a) ∧
  (∀ k0_t6 : Fin (k0_t6_loop v3).trips, ∀ (k0_h2 : k0_cond2 i = 1#1), 448 ∣ (k0_mult2 v3 k0_t6).toNat) ∧
  (∀ k0_t6 : Fin (k0_t6_loop v3).trips, ∀ (k0_h2 : k0_cond2 i = 1#1), ∀ a, (k0_off10 v3 k0_t6) a + S1x1x448x1024.size a ≤ S1x1x1792x1024.size a) ∧
  (∀ k0_t6 : Fin (k0_t6_loop v3).trips, ∀ (k0_h2 : k0_cond2 i = 1#1), ∀ (hinb : ∀ a, (k0_off10 v3 k0_t6) a + S1x1x448x1024.size a ≤ S1x1x1792x1024.size a), (Rect.unit (s := S1x1x1792x1024) (k0_off10 v3 k0_t6) S1x1x448x1024.size hinb).PackedRows (EltTy.packing .bf16)) ∧
  (∀ (k0_h2 : k0_cond2 i = 1#1), (k0_t7_loop v3).OK) ∧
  (∀ k0_t7 : Fin (k0_t7_loop v3).trips, ∀ (k0_h2 : k0_cond2 i = 1#1), 448 ∣ (k0_mult3 v3 k0_t7).toNat) ∧
  (∀ k0_t7 : Fin (k0_t7_loop v3).trips, ∀ (k0_h2 : k0_cond2 i = 1#1), ∀ a, (k0_off11 v3 k0_t7) a + S1x1x448x1024.size a ≤ S1x1x1792x1024.size a) ∧
  (∀ k0_t7 : Fin (k0_t7_loop v3).trips, ∀ (k0_h2 : k0_cond2 i = 1#1), ∀ (hinb : ∀ a, (k0_off11 v3 k0_t7) a + S1x1x448x1024.size a ≤ S1x1x1792x1024.size a), (Rect.unit (s := S1x1x1792x1024) (k0_off11 v3 k0_t7) S1x1x448x1024.size hinb).PackedRows (EltTy.packing .bf16)) ∧
  (∀ (k0_h2 : k0_cond2 i = 1#1), (k0_t8_loop v3).OK) ∧
  (∀ k0_t8 : Fin (k0_t8_loop v3).trips, ∀ (k0_h2 : k0_cond2 i = 1#1), 448 ∣ (k0_mult4 v3 k0_t8).toNat) ∧
  (∀ k0_t8 : Fin (k0_t8_loop v3).trips, ∀ (k0_h2 : k0_cond2 i = 1#1), ∀ a, (k0_off12 v3 k0_t8) a + S1x1x448x1024.size a ≤ S1x1x1792x1024.size a) ∧
  (∀ k0_t8 : Fin (k0_t8_loop v3).trips, ∀ (k0_h2 : k0_cond2 i = 1#1), ∀ (hinb : ∀ a, (k0_off12 v3 k0_t8) a + S1x1x448x1024.size a ≤ S1x1x1792x1024.size a), (Rect.unit (s := S1x1x1792x1024) (k0_off12 v3 k0_t8) S1x1x448x1024.size hinb).PackedRows (EltTy.packing .bf16))
theorem k0_t1_ok : ∀ (i : grid0.Coords) (v3 : BitVec 32) (k0_hw1 : k0_chk1 i v3), ∀ (k0_h1 : k0_cond1 i = 1#1), (k0_t1_loop v3).OK := fun i v3 k0_hw1 k0_h1 => k0_hw1.1 k0_h1
theorem k0_off3_inb : ∀ (i : grid0.Coords) (v3 : BitVec 32) (k0_hw1 : k0_chk1 i v3) (k0_t1 : Fin (k0_t1_loop v3).trips), ∀ (k0_h1 : k0_cond1 i = 1#1), ∀ a, (k0_off3 v3 k0_t1) a + S1x448x1024.size a ≤ S4x448x1024.size a := fun i v3 k0_hw1 k0_t1 k0_h1 => k0_hw1.2.1 k0_t1 k0_h1
theorem k0_off3_packedbf16 : ∀ (i : grid0.Coords) (v3 : BitVec 32) (k0_hw1 : k0_chk1 i v3) (k0_t1 : Fin (k0_t1_loop v3).trips), ∀ (k0_h1 : k0_cond1 i = 1#1), (Rect.unit (s := S4x448x1024) (k0_off3 v3 k0_t1) S1x448x1024.size (k0_off3_inb i v3 k0_hw1 k0_t1 k0_h1)).PackedRows (EltTy.packing .bf16) := fun i v3 k0_hw1 k0_t1 k0_h1 => k0_hw1.2.2.1 k0_t1 k0_h1 (k0_off3_inb i v3 k0_hw1 k0_t1 k0_h1)
theorem k0_t2_ok : ∀ (i : grid0.Coords) (v3 : BitVec 32) (k0_hw1 : k0_chk1 i v3), ∀ (k0_h1 : k0_cond1 i = 1#1), (k0_t2_loop v3).OK := fun i v3 k0_hw1 k0_h1 => k0_hw1.2.2.2.1 k0_h1
theorem k0_off4_inb : ∀ (i : grid0.Coords) (v3 : BitVec 32) (k0_hw1 : k0_chk1 i v3) (k0_t2 : Fin (k0_t2_loop v3).trips), ∀ (k0_h1 : k0_cond1 i = 1#1), ∀ a, (k0_off4 v3 k0_t2) a + S1x448x1024.size a ≤ S4x448x1024.size a := fun i v3 k0_hw1 k0_t2 k0_h1 => k0_hw1.2.2.2.2.1 k0_t2 k0_h1
theorem k0_off4_packedbf16 : ∀ (i : grid0.Coords) (v3 : BitVec 32) (k0_hw1 : k0_chk1 i v3) (k0_t2 : Fin (k0_t2_loop v3).trips), ∀ (k0_h1 : k0_cond1 i = 1#1), (Rect.unit (s := S4x448x1024) (k0_off4 v3 k0_t2) S1x448x1024.size (k0_off4_inb i v3 k0_hw1 k0_t2 k0_h1)).PackedRows (EltTy.packing .bf16) := fun i v3 k0_hw1 k0_t2 k0_h1 => k0_hw1.2.2.2.2.2.1 k0_t2 k0_h1 (k0_off4_inb i v3 k0_hw1 k0_t2 k0_h1)
theorem k0_t3_ok : ∀ (i : grid0.Coords) (v3 : BitVec 32) (k0_hw1 : k0_chk1 i v3), (k0_t3_loop v3).OK := fun i v3 k0_hw1 => k0_hw1.2.2.2.2.2.2.1
theorem k0_off5_inb : ∀ (i : grid0.Coords) (v3 : BitVec 32) (k0_hw1 : k0_chk1 i v3) (k0_t3 : Fin (k0_t3_loop v3).trips), ∀ a, (k0_off5 v3 k0_t3) a + S1x448x1024.size a ≤ S4x448x1024.size a := fun i v3 k0_hw1 k0_t3 => k0_hw1.2.2.2.2.2.2.2.1 k0_t3
theorem k0_t4_ok : ∀ (i : grid0.Coords) (v3 : BitVec 32) (k0_hw1 : k0_chk1 i v3), (k0_t4_loop v3).OK := fun i v3 k0_hw1 => k0_hw1.2.2.2.2.2.2.2.2.1
theorem k0_off6_inb : ∀ (i : grid0.Coords) (v3 : BitVec 32) (k0_hw1 : k0_chk1 i v3) (k0_t4 : Fin (k0_t4_loop v3).trips), ∀ a, (k0_off6 v3 k0_t4) a + S1x448x1024.size a ≤ S4x448x1024.size a := fun i v3 k0_hw1 k0_t4 => k0_hw1.2.2.2.2.2.2.2.2.2.1 k0_t4
theorem k0_t5_ok : ∀ (i : grid0.Coords) (v3 : BitVec 32) (k0_hw1 : k0_chk1 i v3), ∀ (k0_h2 : k0_cond2 i = 1#1), (k0_t5_loop v3).OK := fun i v3 k0_hw1 k0_h2 => k0_hw1.2.2.2.2.2.2.2.2.2.2.1 k0_h2
theorem k0_off7_inb : ∀ (i : grid0.Coords) (v3 : BitVec 32) (k0_hw1 : k0_chk1 i v3) (k0_t5 : Fin (k0_t5_loop v3).trips), ∀ (k0_h2 : k0_cond2 i = 1#1), ∀ a, (k0_off7 v3 k0_t5) a + S1x448x1024.size a ≤ S4x448x1024.size a := fun i v3 k0_hw1 k0_t5 k0_h2 => k0_hw1.2.2.2.2.2.2.2.2.2.2.2.1 k0_t5 k0_h2
theorem k0_mult1_dvd : ∀ (i : grid0.Coords) (v3 : BitVec 32) (k0_hw1 : k0_chk1 i v3) (k0_t5 : Fin (k0_t5_loop v3).trips), ∀ (k0_h2 : k0_cond2 i = 1#1), 448 ∣ (k0_mult1 v3 k0_t5).toNat := fun i v3 k0_hw1 k0_t5 k0_h2 => k0_hw1.2.2.2.2.2.2.2.2.2.2.2.2.1 k0_t5 k0_h2
theorem k0_off8_inb : ∀ (i : grid0.Coords) (v3 : BitVec 32) (k0_hw1 : k0_chk1 i v3) (k0_t5 : Fin (k0_t5_loop v3).trips), ∀ (k0_h2 : k0_cond2 i = 1#1), ∀ a, (k0_off8 v3 k0_t5) a + S1x1x448x1024.size a ≤ S1x1x1792x1024.size a := fun i v3 k0_hw1 k0_t5 k0_h2 => k0_hw1.2.2.2.2.2.2.2.2.2.2.2.2.2.1 k0_t5 k0_h2
theorem k0_off8_packedbf16 : ∀ (i : grid0.Coords) (v3 : BitVec 32) (k0_hw1 : k0_chk1 i v3) (k0_t5 : Fin (k0_t5_loop v3).trips), ∀ (k0_h2 : k0_cond2 i = 1#1), (Rect.unit (s := S1x1x1792x1024) (k0_off8 v3 k0_t5) S1x1x448x1024.size (k0_off8_inb i v3 k0_hw1 k0_t5 k0_h2)).PackedRows (EltTy.packing .bf16) := fun i v3 k0_hw1 k0_t5 k0_h2 => k0_hw1.2.2.2.2.2.2.2.2.2.2.2.2.2.2.1 k0_t5 k0_h2 (k0_off8_inb i v3 k0_hw1 k0_t5 k0_h2)
theorem k0_t6_ok : ∀ (i : grid0.Coords) (v3 : BitVec 32) (k0_hw1 : k0_chk1 i v3), ∀ (k0_h2 : k0_cond2 i = 1#1), (k0_t6_loop v3).OK := fun i v3 k0_hw1 k0_h2 => k0_hw1.2.2.2.2.2.2.2.2.2.2.2.2.2.2.2.1 k0_h2
theorem k0_off9_inb : ∀ (i : grid0.Coords) (v3 : BitVec 32) (k0_hw1 : k0_chk1 i v3) (k0_t6 : Fin (k0_t6_loop v3).trips), ∀ (k0_h2 : k0_cond2 i = 1#1), ∀ a, (k0_off9 v3 k0_t6) a + S1x448x1024.size a ≤ S4x448x1024.size a := fun i v3 k0_hw1 k0_t6 k0_h2 => k0_hw1.2.2.2.2.2.2.2.2.2.2.2.2.2.2.2.2.1 k0_t6 k0_h2
theorem k0_mult2_dvd : ∀ (i : grid0.Coords) (v3 : BitVec 32) (k0_hw1 : k0_chk1 i v3) (k0_t6 : Fin (k0_t6_loop v3).trips), ∀ (k0_h2 : k0_cond2 i = 1#1), 448 ∣ (k0_mult2 v3 k0_t6).toNat := fun i v3 k0_hw1 k0_t6 k0_h2 => k0_hw1.2.2.2.2.2.2.2.2.2.2.2.2.2.2.2.2.2.1 k0_t6 k0_h2
theorem k0_off10_inb : ∀ (i : grid0.Coords) (v3 : BitVec 32) (k0_hw1 : k0_chk1 i v3) (k0_t6 : Fin (k0_t6_loop v3).trips), ∀ (k0_h2 : k0_cond2 i = 1#1), ∀ a, (k0_off10 v3 k0_t6) a + S1x1x448x1024.size a ≤ S1x1x1792x1024.size a := fun i v3 k0_hw1 k0_t6 k0_h2 => k0_hw1.2.2.2.2.2.2.2.2.2.2.2.2.2.2.2.2.2.2.1 k0_t6 k0_h2
theorem k0_off10_packedbf16 : ∀ (i : grid0.Coords) (v3 : BitVec 32) (k0_hw1 : k0_chk1 i v3) (k0_t6 : Fin (k0_t6_loop v3).trips), ∀ (k0_h2 : k0_cond2 i = 1#1), (Rect.unit (s := S1x1x1792x1024) (k0_off10 v3 k0_t6) S1x1x448x1024.size (k0_off10_inb i v3 k0_hw1 k0_t6 k0_h2)).PackedRows (EltTy.packing .bf16) := fun i v3 k0_hw1 k0_t6 k0_h2 => k0_hw1.2.2.2.2.2.2.2.2.2.2.2.2.2.2.2.2.2.2.2.1 k0_t6 k0_h2 (k0_off10_inb i v3 k0_hw1 k0_t6 k0_h2)
theorem k0_t7_ok : ∀ (i : grid0.Coords) (v3 : BitVec 32) (k0_hw1 : k0_chk1 i v3), ∀ (k0_h2 : k0_cond2 i = 1#1), (k0_t7_loop v3).OK := fun i v3 k0_hw1 k0_h2 => k0_hw1.2.2.2.2.2.2.2.2.2.2.2.2.2.2.2.2.2.2.2.2.1 k0_h2
theorem k0_mult3_dvd : ∀ (i : grid0.Coords) (v3 : BitVec 32) (k0_hw1 : k0_chk1 i v3) (k0_t7 : Fin (k0_t7_loop v3).trips), ∀ (k0_h2 : k0_cond2 i = 1#1), 448 ∣ (k0_mult3 v3 k0_t7).toNat := fun i v3 k0_hw1 k0_t7 k0_h2 => k0_hw1.2.2.2.2.2.2.2.2.2.2.2.2.2.2.2.2.2.2.2.2.2.1 k0_t7 k0_h2
theorem k0_off11_inb : ∀ (i : grid0.Coords) (v3 : BitVec 32) (k0_hw1 : k0_chk1 i v3) (k0_t7 : Fin (k0_t7_loop v3).trips), ∀ (k0_h2 : k0_cond2 i = 1#1), ∀ a, (k0_off11 v3 k0_t7) a + S1x1x448x1024.size a ≤ S1x1x1792x1024.size a := fun i v3 k0_hw1 k0_t7 k0_h2 => k0_hw1.2.2.2.2.2.2.2.2.2.2.2.2.2.2.2.2.2.2.2.2.2.2.1 k0_t7 k0_h2
theorem k0_off11_packedbf16 : ∀ (i : grid0.Coords) (v3 : BitVec 32) (k0_hw1 : k0_chk1 i v3) (k0_t7 : Fin (k0_t7_loop v3).trips), ∀ (k0_h2 : k0_cond2 i = 1#1), (Rect.unit (s := S1x1x1792x1024) (k0_off11 v3 k0_t7) S1x1x448x1024.size (k0_off11_inb i v3 k0_hw1 k0_t7 k0_h2)).PackedRows (EltTy.packing .bf16) := fun i v3 k0_hw1 k0_t7 k0_h2 => k0_hw1.2.2.2.2.2.2.2.2.2.2.2.2.2.2.2.2.2.2.2.2.2.2.2.1 k0_t7 k0_h2 (k0_off11_inb i v3 k0_hw1 k0_t7 k0_h2)
theorem k0_t8_ok : ∀ (i : grid0.Coords) (v3 : BitVec 32) (k0_hw1 : k0_chk1 i v3), ∀ (k0_h2 : k0_cond2 i = 1#1), (k0_t8_loop v3).OK := fun i v3 k0_hw1 k0_h2 => k0_hw1.2.2.2.2.2.2.2.2.2.2.2.2.2.2.2.2.2.2.2.2.2.2.2.2.1 k0_h2
theorem k0_mult4_dvd : ∀ (i : grid0.Coords) (v3 : BitVec 32) (k0_hw1 : k0_chk1 i v3) (k0_t8 : Fin (k0_t8_loop v3).trips), ∀ (k0_h2 : k0_cond2 i = 1#1), 448 ∣ (k0_mult4 v3 k0_t8).toNat := fun i v3 k0_hw1 k0_t8 k0_h2 => k0_hw1.2.2.2.2.2.2.2.2.2.2.2.2.2.2.2.2.2.2.2.2.2.2.2.2.2.1 k0_t8 k0_h2
theorem k0_off12_inb : ∀ (i : grid0.Coords) (v3 : BitVec 32) (k0_hw1 : k0_chk1 i v3) (k0_t8 : Fin (k0_t8_loop v3).trips), ∀ (k0_h2 : k0_cond2 i = 1#1), ∀ a, (k0_off12 v3 k0_t8) a + S1x1x448x1024.size a ≤ S1x1x1792x1024.size a := fun i v3 k0_hw1 k0_t8 k0_h2 => k0_hw1.2.2.2.2.2.2.2.2.2.2.2.2.2.2.2.2.2.2.2.2.2.2.2.2.2.2.1 k0_t8 k0_h2
theorem k0_off12_packedbf16 : ∀ (i : grid0.Coords) (v3 : BitVec 32) (k0_hw1 : k0_chk1 i v3) (k0_t8 : Fin (k0_t8_loop v3).trips), ∀ (k0_h2 : k0_cond2 i = 1#1), (Rect.unit (s := S1x1x1792x1024) (k0_off12 v3 k0_t8) S1x1x448x1024.size (k0_off12_inb i v3 k0_hw1 k0_t8 k0_h2)).PackedRows (EltTy.packing .bf16) := fun i v3 k0_hw1 k0_t8 k0_h2 => k0_hw1.2.2.2.2.2.2.2.2.2.2.2.2.2.2.2.2.2.2.2.2.2.2.2.2.2.2.2 k0_t8 k0_h2 (k0_off12_inb i v3 k0_hw1 k0_t8 k0_h2)

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x1536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S88 : Shape := ⟨1, ![88]⟩
abbrev S11x8x1536 : Shape := ⟨3, ![11, 8, 1536]⟩
abbrev S16896x1024 : Shape := ⟨2, ![16896, 1024]⟩
abbrev S8x1024x2816 : Shape := ⟨3, ![8, 1024, 2816]⟩
abbrev S8x2816x1024 : Shape := ⟨3, ![8, 2816, 1024]⟩
abbrev S11x1536x1024 : Shape := ⟨3, ![11, 1536, 1024]⟩
abbrev S11x8x1792x1536 : Shape := ⟨4, ![11, 8, 1792, 1536]⟩
abbrev S11x8x1x1536 : Shape := ⟨4, ![11, 8, 1, 1536]⟩
abbrev S11x1024x8x1792 : Shape := ⟨4, ![11, 1024, 8, 1792]⟩
abbrev S8x11x1792x1024 : Shape := ⟨4, ![8, 11, 1792, 1024]⟩
abbrev S8x11x1792x2816 : Shape := ⟨4, ![8, 11, 1792, 2816]⟩
abbrev S_ : Shape := ⟨0, ![]⟩
abbrev S11x8 : Shape := ⟨2, ![11, 8]⟩
abbrev S8x11 : Shape := ⟨2, ![8, 11]⟩
abbrev S8x11x1x1 : Shape := ⟨4, ![8, 11, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S88, .i32⟩
  | .hbm, ⟨1, _⟩ => ⟨S11x8x1536, .i32⟩
  | .hbm, ⟨2, _⟩ => ⟨S16896x1024, .bf16⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S16896x1024, .f32⟩
  | .hbm, ⟨7, _⟩ => ⟨S11x1536x1024, .f32⟩
  | .hbm, ⟨8, _⟩ => ⟨S11x8x1792x1536, .i32⟩
  | .hbm, ⟨9, _⟩ => ⟨S11x8x1x1536, .i32⟩
  | .hbm, ⟨10, _⟩ => ⟨S11x8x1792x1536, .i32⟩
  | .hbm, ⟨11, _⟩ => ⟨S11x8x1792x1536, .i1⟩
  | .hbm, ⟨12, _⟩ => ⟨S11x8x1792x1536, .f32⟩
  | .hbm, ⟨13, _⟩ => ⟨S11x1024x8x1792, .f32⟩
  | .hbm, ⟨14, _⟩ => ⟨S8x11x1792x1024, .f32⟩
  | .hbm, ⟨15, _⟩ => ⟨S8x11x1792x2816, .f32⟩
  | .hbm, ⟨16, _⟩ => ⟨S8x11x1792x2816, .f32⟩
  | .hbm, ⟨17, _⟩ => ⟨S8x11x1792x2816, .f32⟩
  | .hbm, ⟨18, _⟩ => ⟨S8x11x1792x2816, .f32⟩
  | .hbm, ⟨19, _⟩ => ⟨S_, .f32⟩
  | .hbm, ⟨20, _⟩ => ⟨S8x11x1792x2816, .f32⟩
  | .hbm, ⟨21, _⟩ => ⟨S8x11x1792x2816, .f32⟩
  | .hbm, ⟨22, _⟩ => ⟨S_, .f32⟩
  | .hbm, ⟨23, _⟩ => ⟨S8x11x1792x2816, .f32⟩
  | .hbm, ⟨24, _⟩ => ⟨S8x11x1792x2816, .f32⟩
  | .hbm, ⟨25, _⟩ => ⟨S8x11x1792x2816, .f32⟩
  | .hbm, ⟨26, _⟩ => ⟨S8x11x1792x2816, .f32⟩
  | .hbm, ⟨27, _⟩ => ⟨S8x11x1792x1024, .f32⟩
  | .hbm, ⟨28, _⟩ => ⟨S8x11x1792x1024, .i32⟩
  | .hbm, ⟨29, _⟩ => ⟨S11x8, .i32⟩
  | .hbm, ⟨30, _⟩ => ⟨S8x11, .i32⟩
  | .hbm, ⟨31, _⟩ => ⟨S8x11x1x1, .i32⟩
  | .hbm, ⟨32, _⟩ => ⟨S_, .i32⟩
  | .hbm, ⟨33, _⟩ => ⟨S8x11x1x1, .i32⟩
  | .hbm, ⟨34, _⟩ => ⟨S8x11x1x1, .i32⟩
  | .hbm, ⟨35, _⟩ => ⟨S8x11x1792x1024, .i32⟩
  | .hbm, ⟨36, _⟩ => ⟨S8x11x1792x1024, .i1⟩
  | .hbm, ⟨37, _⟩ => ⟨S_, .f32⟩
  | .hbm, ⟨38, _⟩ => ⟨S_, .f32⟩
  | .hbm, ⟨39, _⟩ => ⟨S8x11x1792x1024, .f32⟩
  | .hbm, ⟨40, _⟩ => ⟨S8x11x1792x1024, .f32⟩
  | .hbm, ⟨41, _⟩ => ⟨S8x11x1792x1024, .bf16⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Ffn.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S768x1024 : Shape := ⟨2, ![768, 1024]⟩
abbrev S1024x1408 : Shape := ⟨2, ![1024, 1408]⟩
abbrev S1408x1024 : Shape := ⟨2, ![1408, 1024]⟩
abbrev S768 : Shape := ⟨1, ![768]⟩
abbrev S768x1 : Shape := ⟨2, ![768, 1]⟩
abbrev S768x1408 : Shape := ⟨2, ![768, 1408]⟩

abbrev nBuf : Space → Nat
  | .hbm => 10
  | .vmem => 13
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![22, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2816 : Shape := ⟨2, ![16896, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16896x1024, .f32⟩
  | .hbm, ⟨6, _⟩ => ⟨S_, .f32⟩
  | .hbm, ⟨7, _⟩ => ⟨S16896, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S16896x1, .f32⟩
  | .hbm, ⟨16, _⟩ => ⟨S16896x1024, .f32⟩
  | .hbm, ⟨17, _⟩ => ⟨S16896x1024, .f32⟩
  | .hbm, ⟨18, _⟩ => ⟨S1x1024, .f32⟩
  | .hbm, ⟨19, _⟩ => ⟨S16896x1024, .f32⟩
  | .hbm, ⟨20, _⟩ => ⟨S16896x1024, .f32⟩
  | .hbm, ⟨21, _⟩ => ⟨S16896x2816, .f32⟩
  | .hbm, ⟨22, _⟩ => ⟨S16896x2816, .f32⟩
  | .hbm, ⟨23, _⟩ => ⟨S16896x2816, .f32⟩
  | .hbm, ⟨24, _⟩ => ⟨S_, .f32⟩
  | .hbm, ⟨25, _⟩ => ⟨S16896x2816, .f32⟩
  | .hbm, ⟨26, _⟩ => ⟨S16896x2816, .f32⟩
  | .hbm, ⟨27, _⟩ => ⟨S_, .f32⟩
  | .hbm, ⟨28, _⟩ => ⟨S16896x2816, .f32⟩
  | .hbm, ⟨29, _⟩ => ⟨S16896x2816, .f32⟩
  | .hbm, ⟨30, _⟩ => ⟨S16896x2816, .f32⟩
  | .hbm, ⟨31, _⟩ => ⟨S16896x2816, .f32⟩
  | .hbm, ⟨32, _⟩ => ⟨S16896x2816, .f32⟩
  | .hbm, ⟨33, _⟩ => ⟨S16896x1024, .f32⟩
  | .hbm, ⟨34, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Combine.lean ====
abbrev S88 : Shape := ⟨1, ![88]⟩
abbrev S16896x1024 : Shape := ⟨2, ![16896, 1024]⟩
abbrev S16896x128 : Shape := ⟨2, ![16896, 128]⟩
abbrev S8x11x1792x1024 : Shape := ⟨4, ![8, 11, 1792, 1024]⟩
abbrev S1024 : Shape := ⟨1, ![1024]⟩
abbrev S1x1024 : Shape := ⟨2, ![1, 1024]⟩
abbrev S1536x1024 : Shape := ⟨2, ![1536, 1024]⟩
abbrev S1536x128 : Shape := ⟨2, ![1536, 128]⟩
abbrev S1x1x1792x1024 : Shape := ⟨4, ![1, 1, 1792, 1024]⟩
abbrev S1 : Shape := ⟨1, ![1]⟩
abbrev S1536 : Shape := ⟨1, ![1536]⟩
abbrev S1536x1 : Shape := ⟨2, ![1536, 1]⟩
abbrev S1x448 : Shape := ⟨2, ![1, 448]⟩
abbrev S1536x448 : Shape := ⟨2, ![1536, 448]⟩
abbrev S1x1x448x1024 : Shape := ⟨4, ![1, 1, 448, 1024]⟩
abbrev S448x1024 : Shape := ⟨2, ![448, 1024]⟩

abbrev nBuf : Space → Nat
  | .hbm => 7
  | .vmem => 11
  | .smem => 1
  | _ => 0

abbrev bufTy : (tb : Table) → Fin (tcTables nBuf tb) → BufTy
  | .hbm, ⟨0, _⟩ => ⟨S16896x1024, .f32⟩
  | .hbm, ⟨1, _⟩ => ⟨S16896x128, .f32⟩
  | .hbm, ⟨2, _⟩ => ⟨S16896x128, .f32⟩
  | .hbm, ⟨3, _⟩ => ⟨S8x11x1792x1024, .bf16⟩
  | .hbm, ⟨4, _⟩ => ⟨S1024, .f32⟩
  | .hbm, ⟨5, _⟩ => ⟨S1x1024, .f32⟩
  | .hbm, ⟨6, _⟩ => ⟨S16896x1024, .f32⟩
  | .local _ .vmem, ⟨0, _⟩ => ⟨S1536x1024, .f32⟩
  | .local _ .vmem, ⟨1, _⟩ => ⟨S1536x1024, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1x1x1792x1024, .bf16⟩
  | .local _ .vmem, ⟨7, _⟩ => ⟨S1x1x1792x1024, .bf16⟩
  | .local _ .vmem, ⟨8, _⟩ => ⟨S1x1024, .f32⟩
  | .local _ .vmem, ⟨9, _⟩ => ⟨S1536x1024, .f32⟩
  | .local _ .vmem, ⟨10, _⟩ => ⟨S1536x1024, .f32⟩
  | .local _ .smem, ⟨0, _⟩ => ⟨S88, .i32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
@[reducible] def k0_t1_loop (v3 : BitVec 32) : Scf.Loop 32 :=
  let c0_i32_8 : BitVec 32 := 0#32
  let v22 : BitVec 32 := Scalar.subi v3 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_9 : BitVec 32 := 1#32
  ⟨c0_i32_8, v26, c1_i32_9⟩

def k0_mult1 (v3 : BitVec 32) (k0_t1 : Fin (k0_t1_loop v3).trips) : BitVec 32 :=
  let c0_i32_8 : BitVec 32 := 0#32
  let c1_i32_9 : BitVec 32 := 1#32
  let arg9 : BitVec 32 := Scf.iv c0_i32_8 c1_i32_9 k0_t1
  let c448_i32_14 : BitVec 32 := 448#32
  let v42 : BitVec 32 := Scalar.muli arg9 c448_i32_14
  v42
def k0_off2 (v3 : BitVec 32) (k0_t1 : Fin (k0_t1_loop v3).trips) : Fin 4 → Nat :=
  let c0_15 : Index := 0#32
  let c0_16 : Index := 0#32
  let c0_i32_8 : BitVec 32 := 0#32
  let c1_i32_9 : BitVec 32 := 1#32
  let arg9 : BitVec 32 := Scf.iv c0_i32_8 c1_i32_9 k0_t1
  let c448_i32_14 : BitVec 32 := 448#32
  let v42 : BitVec 32 := Scalar.muli arg9 c448_i32_14
  let v43 : BitVec 32 := v42
  let v44 : Index := Scalar.indexCast v43
  let c0_17 : Index := 0#32
  ![0, 0, v44.toNat, 0]
@[reducible] def k0_t2_loop (v3 : BitVec 32) : Scf.Loop 32 :=
  let c0_i32_8 : BitVec 32 := 0#32
  let v22 : BitVec 32 := Scalar.subi v3 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let v23 : BitVec 32 := Scalar.addi c0_i32_8 v22
  let c1_i32_10 : BitVec 32 := 1#32
  ⟨v26, v23, c1_i32_10⟩
def k0_mult2 (v3 : BitVec 32) (k0_t2 : Fin (k0_t2_loop v3).trips) : BitVec 32 :=
  let c0_i32_8 : BitVec 32 := 0#32
  let v22 : BitVec 32 := Scalar.subi v3 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg9 : BitVec 32 := Scf.iv v26 c1_i32_10 k0_t2
  let c448_i32_14 : BitVec 32 := 448#32
  let v42 : BitVec 32 := Scalar.muli arg9 c448_i32_14
  v42
def k0_off3 (v3 : BitVec 32) (k0_t2 : Fin (k0_t2_loop v3).trips) : Fin 4 → Nat :=
  let c0_15 : Index := 0#32
  let c0_16 : Index := 0#32
  let c0_i32_8 : BitVec 32 := 0#32
  let v22 : BitVec 32 := Scalar.subi v3 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg9 : BitVec 32 := Scf.iv v26 c1_i32_10 k0_t2
  let c448_i32_14 : BitVec 32 := 448#32
  let v42 : BitVec 32 := Scalar.muli arg9 c448_i32_14
  let v43 : BitVec 32 := v42
  let v44 : Index := Scalar.indexCast v43
  let c0_17 : Index := 0#32
  ![0, 0, v44.toNat, 0]

def k0_chk1 (v3 : BitVec 32) : Prop :=
  ((k0_t1_loop v3).OK) ∧
  (∀ k0_t1 : Fin (k0_t1_loop v3).trips, 448 ∣ (k0_mult1 v3 k0_t1).toNat) ∧
  (∀ k0_t1 : Fin (k0_t1_loop v3).trips, ∀ a, (k0_off2 v3 k0_t1) a + S1x1x448x1024.size a ≤ S1x1x1792x1024.size a) ∧
  ((k0_t2_loop v3).OK) ∧
  (∀ k0_t2 : Fin (k0_t2_loop v3).trips, 448 ∣ (k0_mult2 v3 k0_t2).toNat) ∧
  (∀ k0_t2 : Fin (k0_t2_loop v3).trips, ∀ a, (k0_off3 v3 k0_t2) a + S1x1x448x1024.size a ≤ S1x1x1792x1024.size a)
theorem k0_t1_ok : ∀ (v3 : BitVec 32) (k0_hw1 : k0_chk1 v3), (k0_t1_loop v3).OK := fun v3 k0_hw1 => k0_hw1.1
theorem k0_mult1_dvd : ∀ (v3 : BitVec 32) (k0_hw1 : k0_chk1 v3) (k0_t1 : Fin (k0_t1_loop v3).trips), 448 ∣ (k0_mult1 v3 k0_t1).toNat := fun v3 k0_hw1 k0_t1 => k0_hw1.2.1 k0_t1
theorem k0_off2_inb : ∀ (v3 : BitVec 32) (k0_hw1 : k0_chk1 v3) (k0_t1 : Fin (k0_t1_loop v3).trips), ∀ a, (k0_off2 v3 k0_t1) a + S1x1x448x1024.size a ≤ S1x1x1792x1024.size a := fun v3 k0_hw1 k0_t1 => k0_hw1.2.2.1 k0_t1
theorem k0_t2_ok : ∀ (v3 : BitVec 32) (k0_hw1 : k0_chk1 v3), (k0_t2_loop v3).OK := fun v3 k0_hw1 => k0_hw1.2.2.2.1
theorem k0_mult2_dvd : ∀ (v3 : BitVec 32) (k0_hw1 : k0_chk1 v3) (k0_t2 : Fin (k0_t2_loop v3).trips), 448 ∣ (k0_mult2 v3 k0_t2).toNat := fun v3 k0_hw1 k0_t2 => k0_hw1.2.2.2.2.1 k0_t2
theorem k0_off3_inb : ∀ (v3 : BitVec 32) (k0_hw1 : k0_chk1 v3) (k0_t2 : Fin (k0_t2_loop v3).trips), ∀ a, (k0_off3 v3 k0_t2) a + S1x1x448x1024.size a ≤ S1x1x1792x1024.size a := fun v3 k0_hw1 k0_t2 => k0_hw1.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1536x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== CombineRefIdeal.lean ====
abbrev S88 : Shape := ⟨1, ![88]⟩
abbrev S16896x1024 : Shape := ⟨2, ![16896, 1024]⟩
abbrev S16896x128 : Shape := ⟨2, ![16896, 128]⟩
abbrev S8x11x1792x1024 : Shape := ⟨4, ![8, 11, 1792, 1024]⟩
abbrev S1024 : Shape := ⟨1, ![1024]⟩
abbrev S11x8 : Shape := ⟨2, ![11, 8]⟩
abbrev S8x11 : Shape := ⟨2, ![8, 11]⟩
abbrev S8x11x1x1 : Shape := ⟨4, ![8, 11, 1, 1]⟩
abbrev S_ : Shape := ⟨0, ![]⟩
abbrev S16896x8 : Shape := ⟨2, ![16896, 8]⟩
abbrev S11x1536x8 : Shape := ⟨3, ![11, 1536, 8]⟩
abbrev S11x1536x8x1 : Shape := ⟨4, ![11, 1536, 8, 1]⟩
abbrev S1792 : Shape := ⟨1, ![1792]⟩
abbrev S1x1x1x1792 : Shape := ⟨4, ![1, 1, 1, 1792]⟩
abbrev S11x1536x8x1792 : Shape := ⟨4, ![11, 1536, 8, 1792]⟩
abbrev S11x8x1024x1536 : Shape := ⟨4, ![11, 8, 1024, 1536]⟩
abbrev S11x1536x8x1024 : Shape := ⟨4, ![11, 1536, 8, 1024]⟩
abbrev S11x1536x1024 : Shape := ⟨3, ![11, 1536, 1024]⟩
abbrev S16896 : Shape := ⟨1, ![16896]⟩
abbrev S16896x1 : Shape := ⟨2, ![16896, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S88, .i32⟩
  | .hbm, ⟨1, _⟩ => ⟨S16896x1024, .f32⟩
  | .hbm, ⟨2, _⟩ => ⟨S16896x128, .f32⟩
  | .hbm, ⟨3, _⟩ => ⟨S16896x128, .f32⟩
  | .hbm, ⟨4, _⟩ => ⟨S8x11x1792x1024, .bf16⟩
  | .hbm, ⟨5, _⟩ => ⟨S1024, .f32⟩
  | .hbm, ⟨6, _⟩ => ⟨S8x11x1792x1024, .i32⟩
  | .hbm, ⟨7, _⟩ => ⟨S11x8, .i32⟩
  | .hbm, ⟨8, _⟩ => ⟨S8x11, .i32⟩
  | .hbm, ⟨9, _⟩ => ⟨S8x11x1x1, .i32⟩
  | .hbm, ⟨10, _⟩ => ⟨S_, .i32⟩
  | .hbm, ⟨11, _⟩ => ⟨S8x11x1x1, .i32⟩
  | .hbm, ⟨12, _⟩ => ⟨S8x11x1x1, .i32⟩
  | .hbm, ⟨13, _⟩ => ⟨S8x11x1792x1024, .i32⟩
  | .hbm, ⟨14, _⟩ => ⟨S8x11x1792x1024, .i1⟩
  | .hbm, ⟨15, _⟩ => ⟨S8x11x1792x1024, .f32⟩
  | .hbm, ⟨16, _⟩ => ⟨S_, .f32⟩
  | .hbm, ⟨17, _⟩ => ⟨S_, .f32⟩
  | .hbm, ⟨18, _⟩ => ⟨S8x11x1792x1024, .f32⟩
  | .hbm, ⟨19, _⟩ => ⟨S8x11x1792x1024, .f32⟩
  | .hbm, ⟨20, _⟩ => ⟨S16896x8, .f32⟩
  | .hbm, ⟨21, _⟩ => ⟨S11x1536x8, .f32⟩
  | .hbm, ⟨22, _⟩ => ⟨S11x1536x8x1, .f32⟩
  | .hbm, ⟨23, _⟩ => ⟨S1792, .f32⟩
  | .hbm, ⟨24, _⟩ => ⟨S1x1x1x1792, .f32⟩
  | .hbm, ⟨25, _⟩ => ⟨S11x1536x8x1792, .f32⟩
  | .hbm, ⟨26, _⟩ => ⟨S11x1536x8x1792, .f32⟩
  | .hbm, ⟨27, _⟩ => ⟨S11x1536x8x1792, .i1⟩
  | .hbm, ⟨28, _⟩ => ⟨S11x1536x8x1792, .f32⟩
  | .hbm, ⟨29, _⟩ => ⟨S11x8x1024x1536, .f32⟩
  | .hbm, ⟨30, _⟩ => ⟨S11x1536x8x1024, .f32⟩
  | .hbm, ⟨31, _⟩ => ⟨S16896x8, .f32⟩
  | .hbm, ⟨32, _⟩ => ⟨S11x1536x8, .f32⟩
  | .hbm, ⟨33, _⟩ => ⟨S11x1536x1024, .f32⟩
  | .hbm, ⟨34, _⟩ => ⟨S16896x1024, .f32⟩
  | .hbm, ⟨35, _⟩ => ⟨S16896x1024, .f32⟩
  | .hbm, ⟨36, _⟩ => ⟨S16896x1024, .f32⟩
  | .hbm, ⟨37, _⟩ => ⟨S_, .f32⟩
  | .hbm, ⟨38, _⟩ => ⟨S16896, .f32⟩
  | .hbm, ⟨39, _⟩ => ⟨S16896x1, .f32⟩
  | .hbm, ⟨40, _⟩ => ⟨S_, .f32⟩
  | .hbm, ⟨41, _⟩ => ⟨S16896x1, .f32⟩
  | .hbm, ⟨42, _⟩ => ⟨S16896x1, .f32⟩
  | .hbm, ⟨43, _⟩ => ⟨S_, .f32⟩
  | .hbm, ⟨44, _⟩ => ⟨S16896x1, .f32⟩
  | .hbm, ⟨45, _⟩ => ⟨S16896x1, .f32⟩
  | .hbm, ⟨46, _⟩ => ⟨S16896x1, .f32⟩
  | .hbm, ⟨47, _⟩ => ⟨S16896x1024, .f32⟩
  | .hbm, ⟨48, _⟩ => ⟨S16896x1024, .f32⟩
  | .hbm, ⟨49, _⟩ => ⟨S1x1024, .f32⟩
  | .hbm, ⟨50, _⟩ => ⟨S16896x1024, .f32⟩
  | .hbm, ⟨51, _⟩ => ⟨S16896x1024, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Merge.lean ====
abbrev S16896x1024 : Shape := ⟨2, ![16896, 1024]⟩
abbrev S16384x512 : Shape := ⟨2, ![16384, 512]⟩
abbrev S512x512 : Shape := ⟨2, ![512, 512]⟩
abbrev S16896x7168 : Shape := ⟨2, ![16896, 7168]⟩
abbrev S512x1024 : Shape := ⟨2, ![512, 1024]⟩
abbrev S1024x1024 : Shape := ⟨2, ![1024, 1024]⟩

abbrev nBuf : Space → Nat
  | .hbm => 17
  | .vmem => 26
  | .smem => 0
  | _ => 0

abbrev bufTy : (tb : Table) → Fin (tcTables nBuf tb) → BufTy
  | .hbm, ⟨0, _⟩ => ⟨S16896x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S512x512, .bf16⟩
  | .hbm, ⟨5, _⟩ => ⟨S512x512, .bf16⟩
  | .hbm, ⟨6, _⟩ => ⟨S512x512, .bf16⟩
  | .hbm, ⟨7, _⟩ => ⟨S16896x7168, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S512x1024, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16896x1024 : Shape := ⟨2, ![16896, 1024]⟩
abbrev S16384x512 : Shape := ⟨2, ![16384, 512]⟩
abbrev S512x512 : Shape := ⟨2, ![512, 512]⟩
abbrev S16896x7168 : Shape := ⟨2, ![16896, 7168]⟩
abbrev S512x1024 : Shape := ⟨2, ![512, 1024]⟩
abbrev S1024x1024 : Shape := ⟨2, ![1024, 1024]⟩
abbrev S16896x512 : Shape := ⟨2, ![16896, 512]⟩
abbrev S16896x3072 : Shape := ⟨2, ![16896, 3072]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S512x512, .bf16⟩
  | .hbm, ⟨5, _⟩ => ⟨S512x512, .bf16⟩
  | .hbm, ⟨6, _⟩ => ⟨S512x512, .bf16⟩
  | .hbm, ⟨7, _⟩ => ⟨S16896x7168, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S16896x512, .bf16⟩
  | .hbm, ⟨13, _⟩ => ⟨S16896x512, .f32⟩
  | .hbm, ⟨14, _⟩ => ⟨S16896x512, .bf16⟩
  | .hbm, ⟨15, _⟩ => ⟨S16896x512, .f32⟩
  | .hbm, ⟨16, _⟩ => ⟨S16896x512, .bf16⟩
  | .hbm, ⟨17, _⟩ => ⟨S16896x512, .f32⟩
  | .hbm, ⟨18, _⟩ => ⟨S16896x3072, .f32⟩
  | .hbm, ⟨19, _⟩ => ⟨S16896x3072, .f32⟩
  | .hbm, ⟨20, _⟩ => ⟨S16896x3072, .f32⟩
  | .hbm, ⟨21, _⟩ => ⟨S_, .f32⟩
  | .hbm, ⟨22, _⟩ => ⟨S16896x3072, .f32⟩
  | .hbm, ⟨23, _⟩ => ⟨S16896x3072, .f32⟩
  | .hbm, ⟨24, _⟩ => ⟨S_, .f32⟩
  | .hbm, ⟨25, _⟩ => ⟨S16896x3072, .f32⟩
  | .hbm, ⟨26, _⟩ => ⟨S16896x3072, .f32⟩
  | .hbm, ⟨27, _⟩ => ⟨S16896x1024, .f32⟩
  | .hbm, ⟨28, _⟩ => ⟨S16896x1024, .f32⟩
  | .hbm, ⟨29, _⟩ => ⟨S16896x1024, .f32⟩
  | .hbm, ⟨30, _⟩ => ⟨S16896x1024, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S16896x1024, .f32⟩
  | .hbm, ⟨36, _⟩ => ⟨S16896x1024, .f32⟩
  | .hbm, ⟨37, _⟩ => ⟨S16896x1024, .f32⟩
  | .hbm, ⟨38, _⟩ => ⟨S16896x1024, .f32⟩
  | .hbm, ⟨39, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== InProj.lean ====
abbrev S16896x1024 : Shape := ⟨2, ![16896, 1024]⟩
abbrev S1024 : Shape := ⟨1, ![1024]⟩
abbrev S1024x6476 : Shape := ⟨2, ![1024, 6476]⟩
abbrev S1x1024 : Shape := ⟨2, ![1, 1024]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x768 : Shape := ⟨2, ![1024, 768]⟩
abbrev S1024x8 : Shape := ⟨2, ![1024, 8]⟩
abbrev S1024x3072 : Shape := ⟨2, ![1024, 3072]⟩
abbrev S1024x8x64 : Shape := ⟨3, ![1024, 8, 64]⟩
abbrev S_ : Shape := ⟨0, ![]⟩
abbrev S1024x7168 : Shape := ⟨2, ![1024, 7168]⟩
abbrev S16896x7168 : Shape := ⟨2, ![16896, 7168]⟩
abbrev S1536x1024 : Shape := ⟨2, ![1536, 1024]⟩
abbrev S1024x1024 : Shape := ⟨2, ![1024, 1024]⟩
abbrev S1536 : Shape := ⟨1, ![1536]⟩
abbrev S1536x1 : Shape := ⟨2, ![1536, 1]⟩

abbrev nBuf : Space → Nat
  | .hbm => 78
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x6476, .f32⟩
  | .hbm, ⟨3, _⟩ => ⟨S1x1024, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x256, .f32⟩
  | .hbm, ⟨8, _⟩ => ⟨S1024x64, .f32⟩
  | .hbm, ⟨9, _⟩ => ⟨S1024x4, .f32⟩
  | .hbm, ⟨10, _⟩ => ⟨S1024x512, .f32⟩
  | .hbm, ⟨11, _⟩ => ⟨S1024x768, .f32⟩
  | .hbm, ⟨12, _⟩ => ⟨S1024x8, .f32⟩
  | .hbm, ⟨13, _⟩ => ⟨S1024x512, .f32⟩
  | .hbm, ⟨14, _⟩ => ⟨S1024x512, .f32⟩
  | .hbm, ⟨15, _⟩ => ⟨S1024x3072, .f32⟩
  | .hbm, ⟨16, _⟩ => ⟨S1024x512, .f32⟩
  | .hbm, ⟨17, _⟩ => ⟨S1024x256, .f32⟩
  | .hbm, ⟨18, _⟩ => ⟨S1024x8x64, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S_, .bf16⟩
  | .hbm, ⟨24, _⟩ => ⟨S1024x7168, .bf16⟩
  | .hbm, ⟨25, _⟩ => ⟨S1024x512, .bf16⟩
  | .hbm, ⟨26, _⟩ => ⟨S_, .i32⟩
  | .hbm, ⟨27, _⟩ => ⟨S_, .i32⟩
  | .hbm, ⟨28, _⟩ => ⟨S1024x7168, .bf16⟩
  | .hbm, ⟨29, _⟩ => ⟨S1024x512, .bf16⟩
  | .hbm, ⟨30, _⟩ => ⟨S_, .i32⟩
  | .hbm, ⟨31, _⟩ => ⟨S_, .i32⟩
  | .hbm, ⟨32, _⟩ => ⟨S1024x7168, .bf16⟩
  | .hbm, ⟨33, _⟩ => ⟨S1024x512, .bf16⟩
  | .hbm, ⟨34, _⟩ => ⟨S_, .i32⟩
  | .hbm, ⟨35, _⟩ => ⟨S_, .i32⟩
  | .hbm, ⟨36, _⟩ => ⟨S1024x7168, .bf16⟩
  | .hbm, ⟨37, _⟩ => ⟨S1024x512, .bf16⟩
  | .hbm, ⟨38, _⟩ => ⟨S_, .i32⟩
  | .hbm, ⟨39, _⟩ => ⟨S_, .i32⟩
  | .hbm, ⟨40, _⟩ => ⟨S1024x7168, .bf16⟩
  | .hbm, ⟨41, _⟩ => ⟨S1024x3072, .bf16⟩
  | .hbm, ⟨42, _⟩ => ⟨S_, .i32⟩
  | .hbm, ⟨43, _⟩ => ⟨S_, .i32⟩
  | .hbm, ⟨44, _⟩ => ⟨S1024x7168, .bf16⟩
  | .hbm, ⟨45, _⟩ => ⟨S1024x512, .bf16⟩
  | .hbm, ⟨46, _⟩ => ⟨S_, .i32⟩
  | .hbm, ⟨47, _⟩ => ⟨S_, .i32⟩
  | .hbm, ⟨48, _⟩ => ⟨S1024x7168, .bf16⟩
  | .hbm, ⟨49, _⟩ => ⟨S1024x512, .bf16⟩
  | .hbm, ⟨50, _⟩ => ⟨S_, .i32⟩
  | .hbm, ⟨51, _⟩ => ⟨S_, .i32⟩
  | .hbm, ⟨52, _⟩ => ⟨S1024x7168, .bf16⟩
  | .hbm, ⟨53, _⟩ => ⟨S1024x256, .bf16⟩
  | .hbm, ⟨54, _⟩ => ⟨S_, .i32⟩
  | .hbm, ⟨55, _⟩ => ⟨S_, .i32⟩
  | .hbm, ⟨56, _⟩ => ⟨S1024x7168, .bf16⟩
  | .hbm, ⟨57, _⟩ => ⟨S1024x256, .bf16⟩
  | .hbm, ⟨58, _⟩ => ⟨S_, .i32⟩
  | .hbm, ⟨59, _⟩ => ⟨S_, .i32⟩
  | .hbm, ⟨60, _⟩ => ⟨S1024x7168, .bf16⟩
  | .hbm, ⟨61, _⟩ => ⟨S1024x128, .bf16⟩
  | .hbm, ⟨62, _⟩ => ⟨S_, .i32⟩
  | .hbm, ⟨63, _⟩ => ⟨S_, .i32⟩
  | .hbm, ⟨64, _⟩ => ⟨S1024x7168, .bf16⟩
  | .hbm, ⟨65, _⟩ => ⟨S1024x128, .bf16⟩
  | .hbm, ⟨66, _⟩ => ⟨S_, .i32⟩
  | .hbm, ⟨67, _⟩ => ⟨S_, .i32⟩
  | .hbm, ⟨68, _⟩ => ⟨S1024x7168, .bf16⟩
  | .hbm, ⟨69, _⟩ => ⟨S1024x64, .bf16⟩
  | .hbm, ⟨70, _⟩ => ⟨S_, .i32⟩
  | .hbm, ⟨71, _⟩ => ⟨S_, .i32⟩
  | .hbm, ⟨72, _⟩ => ⟨S1024x7168, .bf16⟩
  | .hbm, ⟨73, _⟩ => ⟨S1024x4, .bf16⟩
  | .hbm, ⟨74, _⟩ => ⟨S_, .i32⟩
  | .hbm, ⟨75, _⟩ => ⟨S_, .i32⟩
  | .hbm, ⟨76, _⟩ => ⟨S1024x7168, .bf16⟩
  | .hbm, ⟨77, _⟩ => ⟨S16896x7168, .f32⟩
  | .local _ .vmem, ⟨0, _⟩ => ⟨S1536x1024, .f32⟩
  | .local _ .vmem, ⟨1, _⟩ => ⟨S1536x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1536x1024, .f32⟩
  | .local _ .vmem, ⟨6, _⟩ => ⟨S1536x1024, .f32⟩
  | .local _ .vmem, ⟨7, _⟩ => ⟨S1536x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_c_11 : Ref sig .tc := ⟨.hbm, 47, rfl⟩
abbrev main_v31 : Ref sig .tc := ⟨.hbm, 48, rfl⟩
abbrev main_v32 : Ref sig .tc := ⟨.hbm, 49, rfl⟩
abbrev main_c_12 : Ref sig .tc := ⟨.hbm, 50, rfl⟩
abbrev main_c_13 : Ref sig .tc := ⟨.hbm, 51, rfl⟩
abbrev main_v33 : Ref sig .tc := ⟨.hbm, 52, rfl⟩
abbrev main_v34 : Ref sig .tc := ⟨.hbm, 53, rfl⟩
abbrev main_c_14 : Ref sig .tc := ⟨.hbm, 54, rfl⟩
abbrev main_c_15 : Ref sig .tc := ⟨.hbm, 55, rfl⟩
abbrev main_v35 : Ref sig .tc := ⟨.hbm, 56, rfl⟩
abbrev main_v36 : Ref sig .tc := ⟨.hbm, 57, rfl⟩
abbrev main_c_16 : Ref sig .tc := ⟨.hbm, 58, rfl⟩
abbrev main_c_17 : Ref sig .tc := ⟨.hbm, 59, rfl⟩
abbrev main_v37 : Ref sig .tc := ⟨.hbm, 60, rfl⟩
abbrev main_v38 : Ref sig .tc := ⟨.hbm, 61, rfl⟩
abbrev main_c_18 : Ref sig .tc := ⟨.hbm, 62, rfl⟩
abbrev main_c_19 : Ref sig .tc := ⟨.hbm, 63, rfl⟩
abbrev main_v39 : Ref sig .tc := ⟨.hbm, 64, rfl⟩
abbrev main_v40 : Ref sig .tc := ⟨.hbm, 65, rfl⟩
abbrev main_c_20 : Ref sig .tc := ⟨.hbm, 66, rfl⟩
abbrev main_c_21 : Ref sig .tc := ⟨.hbm, 67, rfl⟩
abbrev main_v41 : Ref sig .tc := ⟨.hbm, 68, rfl⟩
abbrev main_v42 : Ref sig .tc := ⟨.hbm, 69, rfl⟩
abbrev main_c_22 : Ref sig .tc := ⟨.hbm, 70, rfl⟩
abbrev main_c_23 : Ref sig .tc := ⟨.hbm, 71, rfl⟩
abbrev main_v43 : Ref sig .tc := ⟨.hbm, 72, rfl⟩
abbrev main_v44 : Ref sig .tc := ⟨.hbm, 73, rfl⟩
abbrev main_c_24 : Ref sig .tc := ⟨.hbm, 74, rfl⟩
abbrev main_c_25 : Ref sig .tc := ⟨.hbm, 75, rfl⟩
abbrev main_v45 : Ref sig .tc := ⟨.hbm, 76, rfl⟩
abbrev main_v46 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16896x1024 : Shape := ⟨2, ![16896, 1024]⟩
abbrev S1024 : Shape := ⟨1, ![1024]⟩
abbrev S1024x6476 : Shape := ⟨2, ![1024, 6476]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x6476 : Shape := ⟨2, ![16896, 6476]⟩
abbrev S16896x512 : Shape := ⟨2, ![16896, 512]⟩
abbrev S16896x128 : Shape := ⟨2, ![16896, 128]⟩
abbrev S16896x256 : Shape := ⟨2, ![16896, 256]⟩
abbrev S16896x64 : Shape := ⟨2, ![16896, 64]⟩
abbrev S16896x4 : Shape := ⟨2, ![16896, 4]⟩
abbrev S16896x8 : Shape := ⟨2, ![16896, 8]⟩
abbrev S16896x3072 : Shape := ⟨2, ![16896, 3072]⟩
abbrev S16896x8x64 : Shape := ⟨3, ![16896, 8, 64]⟩
abbrev S16896x188 : Shape := ⟨2, ![16896, 188]⟩
abbrev S16896x7168 : Shape := ⟨2, ![16896, 7168]⟩

abbrev nBuf : Space → Nat
  | .hbm => 41
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x6476, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x6476, .f32⟩
  | .hbm, ⟨20, _⟩ => ⟨S16896x512, .f32⟩
  | .hbm, ⟨21, _⟩ => ⟨S16896x128, .f32⟩
  | .hbm, ⟨22, _⟩ => ⟨S16896x128, .f32⟩
  | .hbm, ⟨23, _⟩ => ⟨S16896x256, .f32⟩
  | .hbm, ⟨24, _⟩ => ⟨S16896x64, .f32⟩
  | .hbm, ⟨25, _⟩ => ⟨S16896x4, .f32⟩
  | .hbm, ⟨26, _⟩ => ⟨S16896x512, .f32⟩
  | .hbm, ⟨27, _⟩ => ⟨S16896x512, .f32⟩
  | .hbm, ⟨28, _⟩ => ⟨S16896x256, .f32⟩
  | .hbm, ⟨29, _⟩ => ⟨S16896x8, .f32⟩
  | .hbm, ⟨30, _⟩ => ⟨S16896x512, .f32⟩
  | .hbm, ⟨31, _⟩ => ⟨S16896x512, .f32⟩
  | .hbm, ⟨32, _⟩ => ⟨S16896x3072, .f32⟩
  | .hbm, ⟨33, _⟩ => ⟨S_, .f32⟩
  | .hbm, ⟨34, _⟩ => ⟨S16896x512, .f32⟩
  | .hbm, ⟨35, _⟩ => ⟨S16896x512, .f32⟩
  | .hbm, ⟨36, _⟩ => ⟨S16896x8x64, .f32⟩
  | .hbm, ⟨37, _⟩ => ⟨S16896x512, .f32⟩
  | .hbm, ⟨38, _⟩ => ⟨S_, .f32⟩
  | .hbm, ⟨39, _⟩ => ⟨S16896x188, .f32⟩
  | .hbm, ⟨40, _⟩ => ⟨S16896x7168, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Rope.lean ====
abbrev S16896x7168 : Shape := ⟨2, ![16896, 7168]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x512 : Shape := ⟨2, ![16384, 512]⟩
abbrev S16384x256 : Shape := ⟨2, ![16384, 256]⟩
abbrev S16384x128 : Shape := ⟨2, ![16384, 128]⟩
abbrev S16384x64 : Shape := ⟨2, ![16384, 64]⟩
abbrev S512x512 : Shape := ⟨2, ![512, 512]⟩
abbrev S512x256 : Shape := ⟨2, ![512, 256]⟩
abbrev S512x128 : Shape := ⟨2, ![512, 128]⟩
abbrev S512x64 : Shape := ⟨2, ![512, 64]⟩

abbrev nBuf : Space → Nat
  | .hbm => 32
  | .vmem => 30
  | .smem => 0
  | _ => 0

abbrev bufTy : (tb : Table) → Fin (tcTables nBuf tb) → BufTy
  | .hbm, ⟨0, _⟩ => ⟨S16896x7168, .f32⟩
  | .hbm, ⟨1, _⟩ => ⟨S8192, .i32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x128, .f32⟩
  | .hbm, ⟨21, _⟩ => ⟨S8192x32, .f32⟩
  | .hbm, ⟨22, _⟩ => ⟨S8192x32, .f32⟩
  | .hbm, ⟨23, _⟩ => ⟨S8192x128, .f32⟩
  | .hbm, ⟨24, _⟩ => ⟨S16384x512, .bf16⟩
  | .hbm, ⟨25, _⟩ => ⟨S16384x256, .bf16⟩
  | .hbm, ⟨26, _⟩ => ⟨S16384x128, .f32⟩
  | .hbm, ⟨27, _⟩ => ⟨S16384x128, .f32⟩
  | .hbm, ⟨28, _⟩ => ⟨S16384x64, .f32⟩
  | .hbm, ⟨29, _⟩ => ⟨S16384x128, .bf16⟩
  | .hbm, ⟨30, _⟩ => ⟨S16384x128, .bf16⟩
  | .hbm, ⟨31, _⟩ => ⟨S16384x64, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x64, .f32⟩
  | .local _ .vmem, ⟨23, _⟩ => ⟨S512x64, .f32⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x64, .bf16⟩
  | .local _ .vmem, ⟨29, _⟩ => ⟨S512x64, .bf16⟩
  | _, _ => ⟨S16896x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c25_i32 : BitVec 32 := 25#32
  let c0_i32_0 : BitVec 32 := 0#32
  ![v2.toNat, c25_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c52_i32 : BitVec 32 := 52#32
  let c0_i32_0 : BitVec 32 := 0#32
  ![v2.toNat, c52_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c53_i32 : BitVec 32 := 53#32
  let c0_i32_0 : BitVec 32 := 0#32
  ![v2.toNat, c53_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c54_i32 : BitVec 32 := 54#32
  let c0_i32_0 : BitVec 32 := 0#32
  ![v2.toNat, c54_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RopeRefIdeal.lean ====
abbrev S16896x7168 : Shape := ⟨2, ![16896, 7168]⟩
abbrev S8192 : Shape := ⟨1, ![8192]⟩
abbrev S16384x7168 : Shape := ⟨2, ![16384, 7168]⟩
abbrev S16384x512 : Shape := ⟨2, ![16384, 512]⟩
abbrev S2x8192x8x64 : Shape := ⟨4, ![2, 8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x8x32 : Shape := ⟨4, ![2, 8192, 8, 32]⟩
abbrev S1x8192x1x32 : Shape := ⟨4, ![1, 8192, 1, 32]⟩
abbrev S16384x256 : Shape := ⟨2, ![16384, 256]⟩
abbrev S2x8192x4x64 : Shape := ⟨4, ![2, 8192, 4, 64]⟩
abbrev S2x8192x4x32 : Shape := ⟨4, ![2, 8192, 4, 32]⟩
abbrev S16384x128 : Shape := ⟨2, ![16384, 128]⟩
abbrev S2x8192x2x64 : Shape := ⟨4, ![2, 8192, 2, 64]⟩
abbrev S2x8192x2x32 : Shape := ⟨4, ![2, 8192, 2, 32]⟩
abbrev S16384x64 : Shape := ⟨2, ![16384, 64]⟩
abbrev S2x8192x1x64 : Shape := ⟨4, ![2, 8192, 1, 64]⟩
abbrev S2x8192x1x32 : Shape := ⟨4, ![2, 8192, 1, 32]⟩

abbrev nBuf : Space → Nat
  | .hbm => 169
  | .vmem => 0
  | .smem => 0
  | _ => 0

abbrev hbmTy0_0 (i : Nat) : BufTy := match i % 128 with
  | 0 => ⟨S16896x7168, .f32⟩
  | 1 => ⟨S8192, .i32⟩
  | 2 => ⟨S16384x7168, .f32⟩
  | 3 => ⟨S16384x512, .f32⟩
  | 4 => ⟨S2x8192x8x64, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S8192, .f32⟩
  | 16 => ⟨S8192x1, .f32⟩
  | 17 => ⟨S1x32, .f32⟩
  | 18 => ⟨S8192x32, .f32⟩
  | 19 => ⟨S8192x32, .f32⟩
  | 20 => ⟨S8192x32, .f32⟩
  | 21 => ⟨S8192x32, .f32⟩
  | 22 => ⟨S8192x1x32, .f32⟩
  | 23 => ⟨S8192x32, .f32⟩
  | 24 => ⟨S8192x1x32, .f32⟩
  | 25 => ⟨S2x8192x8x32, .f32⟩
  | 26 => ⟨S2x8192x8x32, .f32⟩
  | 27 => ⟨S1x8192x1x32, .f32⟩
  | 28 => ⟨S2x8192x8x32, .f32⟩
  | 29 => ⟨S2x8192x8x32, .f32⟩
  | 30 => ⟨S1x8192x1x32, .f32⟩
  | 31 => ⟨S2x8192x8x32, .f32⟩
  | 32 => ⟨S2x8192x8x32, .f32⟩
  | 33 => ⟨S2x8192x8x32, .f32⟩
  | 34 => ⟨S1x8192x1x32, .f32⟩
  | 35 => ⟨S2x8192x8x32, .f32⟩
  | 36 => ⟨S2x8192x8x32, .f32⟩
  | 37 => ⟨S1x8192x1x32, .f32⟩
  | 38 => ⟨S2x8192x8x32, .f32⟩
  | 39 => ⟨S2x8192x8x32, .f32⟩
  | 40 => ⟨S2x8192x8x32, .f32⟩
  | 41 => ⟨S2x8192x8x64, .f32⟩
  | 42 => ⟨S16384x512, .f32⟩
  | 43 => ⟨S16384x256, .f32⟩
  | 44 => ⟨S2x8192x4x64, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S8192, .f32⟩
  | 56 => ⟨S8192x1, .f32⟩
  | 57 => ⟨S1x32, .f32⟩
  | 58 => ⟨S8192x32, .f32⟩
  | 59 => ⟨S8192x32, .f32⟩
  | 60 => ⟨S8192x32, .f32⟩
  | 61 => ⟨S8192x32, .f32⟩
  | 62 => ⟨S8192x1x32, .f32⟩
  | 63 => ⟨S8192x32, .f32⟩
  | 64 => ⟨S8192x1x32, .f32⟩
  | 65 => ⟨S2x8192x4x32, .f32⟩
  | 66 => ⟨S2x8192x4x32, .f32⟩
  | 67 => ⟨S1x8192x1x32, .f32⟩
  | 68 => ⟨S2x8192x4x32, .f32⟩
  | 69 => ⟨S2x8192x4x32, .f32⟩
  | 70 => ⟨S1x8192x1x32, .f32⟩
  | 71 => ⟨S2x8192x4x32, .f32⟩
  | 72 => ⟨S2x8192x4x32, .f32⟩
  | 73 => ⟨S2x8192x4x32, .f32⟩
  | 74 => ⟨S1x8192x1x32, .f32⟩
  | 75 => ⟨S2x8192x4x32, .f32⟩
  | 76 => ⟨S2x8192x4x32, .f32⟩
  | 77 => ⟨S1x8192x1x32, .f32⟩
  | 78 => ⟨S2x8192x4x32, .f32⟩
  | 79 => ⟨S2x8192x4x32, .f32⟩
  | 80 => ⟨S2x8192x4x32, .f32⟩
  | 81 => ⟨S2x8192x4x64, .f32⟩
  | 82 => ⟨S16384x256, .f32⟩
  | 83 => ⟨S16384x128, .f32⟩
  | 84 => ⟨S2x8192x2x64, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S8192, .f32⟩
  | 96 => ⟨S8192x1, .f32⟩
  | 97 => ⟨S1x32, .f32⟩
  | 98 => ⟨S8192x32, .f32⟩
  | 99 => ⟨S8192x32, .f32⟩
  | 100 => ⟨S8192x32, .f32⟩
  | 101 => ⟨S8192x32, .f32⟩
  | 102 => ⟨S8192x1x32, .f32⟩
  | 103 => ⟨S8192x32, .f32⟩
  | 104 => ⟨S8192x1x32, .f32⟩
  | 105 => ⟨S2x8192x2x32, .f32⟩
  | 106 => ⟨S2x8192x2x32, .f32⟩
  | 107 => ⟨S1x8192x1x32, .f32⟩
  | 108 => ⟨S2x8192x2x32, .f32⟩
  | 109 => ⟨S2x8192x2x32, .f32⟩
  | 110 => ⟨S1x8192x1x32, .f32⟩
  | 111 => ⟨S2x8192x2x32, .f32⟩
  | 112 => ⟨S2x8192x2x32, .f32⟩
  | 113 => ⟨S2x8192x2x32, .f32⟩
  | 114 => ⟨S1x8192x1x32, .f32⟩
  | 115 => ⟨S2x8192x2x32, .f32⟩
  | 116 => ⟨S2x8192x2x32, .f32⟩
  | 117 => ⟨S1x8192x1x32, .f32⟩
  | 118 => ⟨S2x8192x2x32, .f32⟩
  | 119 => ⟨S2x8192x2x32, .f32⟩
  | 120 => ⟨S2x8192x2x32, .f32⟩
  | 121 => ⟨S2x8192x2x64, .f32⟩
  | 122 => ⟨S16384x128, .f32⟩
  | 123 => ⟨S16384x128, .f32⟩
  | 124 => ⟨S16384x64, .f32⟩
  | 125 => ⟨S2x8192x1x64, .f32⟩
  | 126 => ⟨S32, .f32⟩
  | 127 => ⟨S_, .f32⟩
  | _ => ⟨S16896x7168, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S_, .f32⟩
  | 6 => ⟨S32, .f32⟩
  | 7 => ⟨S32, .f32⟩
  | 8 => ⟨S8192, .f32⟩
  | 9 => ⟨S8192x1, .f32⟩
  | 10 => ⟨S1x32, .f32⟩
  | 11 => ⟨S8192x32, .f32⟩
  | 12 => ⟨S8192x32, .f32⟩
  | 13 => ⟨S8192x32, .f32⟩
  | 14 => ⟨S8192x32, .f32⟩
  | 15 => ⟨S8192x1x32, .f32⟩
  | 16 => ⟨S8192x32, .f32⟩
  | 17 => ⟨S8192x1x32, .f32⟩
  | 18 => ⟨S2x8192x1x32, .f32⟩
  | 19 => ⟨S2x8192x1x32, .f32⟩
  | 20 => ⟨S1x8192x1x32, .f32⟩
  | 21 => ⟨S2x8192x1x32, .f32⟩
  | 22 => ⟨S2x8192x1x32, .f32⟩
  | 23 => ⟨S1x8192x1x32, .f32⟩
  | 24 => ⟨S2x8192x1x32, .f32⟩
  | 25 => ⟨S2x8192x1x32, .f32⟩
  | 26 => ⟨S2x8192x1x32, .f32⟩
  | 27 => ⟨S1x8192x1x32, .f32⟩
  | 28 => ⟨S2x8192x1x32, .f32⟩
  | 29 => ⟨S2x8192x1x32, .f32⟩
  | 30 => ⟨S1x8192x1x32, .f32⟩
  | 31 => ⟨S2x8192x1x32, .f32⟩
  | 32 => ⟨S2x8192x1x32, .f32⟩
  | 33 => ⟨S2x8192x1x32, .f32⟩
  | 34 => ⟨S2x8192x1x64, .f32⟩
  | 35 => ⟨S16384x64, .f32⟩
  | 36 => ⟨S16384x512, .bf16⟩
  | 37 => ⟨S16384x256, .bf16⟩
  | 38 => ⟨S16384x128, .bf16⟩
  | 39 => ⟨S16384x128, .bf16⟩
  | 40 => ⟨S16384x64, .bf16⟩
  | _ => ⟨S16896x7168, .f32⟩

abbrev hbmTy (i : Nat) : BufTy := match i / 128 with
  | 0 => hbmTy0_0 i
  | 1 => hbmTy0_1 i
  | _ => ⟨S16896x7168, .f32⟩

abbrev bufTy : (tb : Table) → Fin (tcTables nBuf tb) → BufTy
  | .hbm, ⟨i, _⟩ => hbmTy i
  | _, _ => ⟨S16896x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_cst_6 : Ref sig .tc := ⟨.hbm, 89, rfl⟩
abbrev main_v80 : Ref sig .tc := ⟨.hbm, 90, rfl⟩
abbrev main_v81 : Ref sig .tc := ⟨.hbm, 91, rfl⟩
abbrev main_cst_7 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_cst_8 : Ref sig .tc := ⟨.hbm, 127, rfl⟩
abbrev main_v116 : Ref sig .tc := ⟨.hbm, 128, rfl⟩
abbrev main_v117 : Ref sig .tc := ⟨.hbm, 129, rfl⟩
abbrev main_cst_9 : Ref sig .tc := ⟨.hbm, 130, rfl⟩
abbrev main_v118 : Ref sig .tc := ⟨.hbm, 131, rfl⟩
abbrev main_v119 : Ref sig .tc := ⟨.hbm, 132, rfl⟩
abbrev main_cst_10 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩

abbrev nD : Nat := 1
abbrev τ : Topo := Topo.v7x

variable {F : FTy → Type} [FloatOps F]
-- ==== RopeSample.lean ====
abbrev S16896x7168 : Shape := ⟨2, ![16896, 7168]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x128 : Shape := ⟨2, ![32, 128]⟩
abbrev S512x512 : Shape := ⟨2, ![512, 512]⟩
abbrev S512x256 : Shape := ⟨2, ![512, 256]⟩
abbrev S512x128 : Shape := ⟨2, ![512, 128]⟩
abbrev S512x64 : Shape := ⟨2, ![512, 64]⟩
abbrev S32x512 : Shape := ⟨2, ![32, 512]⟩
abbrev S32x256 : Shape := ⟨2, ![32, 256]⟩
abbrev S32x64 : Shape := ⟨2, ![32, 64]⟩

abbrev nBuf : Space → Nat
  | .hbm => 32
  | .vmem => 28
  | .smem => 0
  | _ => 0

abbrev bufTy : (tb : Table) → Fin (tcTables nBuf tb) → BufTy
  | .hbm, ⟨0, _⟩ => ⟨S16896x7168, .f32⟩
  | .hbm, ⟨1, _⟩ => ⟨S32, .i32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32x1, .f32⟩
  | .hbm, ⟨14, _⟩ => ⟨S1x32, .f32⟩
  | .hbm, ⟨15, _⟩ => ⟨S32x32, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x128, .f32⟩
  | .hbm, ⟨21, _⟩ => ⟨S32x32, .f32⟩
  | .hbm, ⟨22, _⟩ => ⟨S32x32, .f32⟩
  | .hbm, ⟨23, _⟩ => ⟨S32x128, .f32⟩
  | .hbm, ⟨24, _⟩ => ⟨S512x512, .bf16⟩
  | .hbm, ⟨25, _⟩ => ⟨S512x256, .bf16⟩
  | .hbm, ⟨26, _⟩ => ⟨S512x128, .f32⟩
  | .hbm, ⟨27, _⟩ => ⟨S512x128, .f32⟩
  | .hbm, ⟨28, _⟩ => ⟨S512x64, .f32⟩
  | .hbm, ⟨29, _⟩ => ⟨S512x128, .bf16⟩
  | .hbm, ⟨30, _⟩ => ⟨S512x128, .bf16⟩
  | .hbm, ⟨31, _⟩ => ⟨S512x64, .bf16⟩
  | .local _ .vmem, ⟨0, _⟩ => ⟨S32x512, .f32⟩
  | .local _ .vmem, ⟨1, _⟩ => ⟨S32x512, .f32⟩
  | .local _ .vmem, ⟨2, _⟩ => ⟨S32x256, .f32⟩
  | .local _ .vmem, ⟨3, _⟩ => ⟨S32x256, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x512, .bf16⟩
  | .local _ .vmem, ⟨13, _⟩ => ⟨S32x512, .bf16⟩
  | .local _ .vmem, ⟨14, _⟩ => ⟨S32x256, .bf16⟩
  | .local _ .vmem, ⟨15, _⟩ => ⟨S32x256, .bf16⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S32x64, .f32⟩
  | .local _ .vmem, ⟨21, _⟩ => ⟨S32x64, .f32⟩
  | .local _ .vmem, ⟨22, _⟩ => ⟨S32x128, .bf16⟩
  | .local _ .vmem, ⟨23, _⟩ => ⟨S32x128, .bf16⟩
  | .local _ .vmem, ⟨24, _⟩ => ⟨S32x128, .bf16⟩
  | .local _ .vmem, ⟨25, _⟩ => ⟨S32x128, .bf16⟩
  | .local _ .vmem, ⟨26, _⟩ => ⟨S32x64, .bf16⟩
  | .local _ .vmem, ⟨27, _⟩ => ⟨S32x64, .bf16⟩
  | _, _ => ⟨S16896x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c25_i32 : BitVec 32 := 25#32
  let c0_i32 : BitVec 32 := 0#32
  ![v2.toNat, c25_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c52_i32 : BitVec 32 := 52#32
  let c0_i32 : BitVec 32 := 0#32
  ![v2.toNat, c52_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c53_i32 : BitVec 32 := 53#32
  let c0_i32 : BitVec 32 := 0#32
  ![v2.toNat, c53_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c54_i32 : BitVec 32 := 54#32
  let c0_i32 : BitVec 32 := 0#32
  ![v2.toNat, c54_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RopeSampleRefIdeal.lean ====
abbrev S16896x7168 : Shape := ⟨2, ![16896, 7168]⟩
abbrev S32 : Shape := ⟨1, ![32]⟩
abbrev S512x7168 : Shape := ⟨2, ![512, 7168]⟩
abbrev S512x512 : Shape := ⟨2, ![512, 512]⟩
abbrev S16x32x8x64 : Shape := ⟨4, ![16, 32, 8, 64]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x1x32 : Shape := ⟨3, ![32, 1, 32]⟩
abbrev S16x32x8x32 : Shape := ⟨4, ![16, 32, 8, 32]⟩
abbrev S1x32x1x32 : Shape := ⟨4, ![1, 32, 1, 32]⟩
abbrev S512x256 : Shape := ⟨2, ![512, 256]⟩
abbrev S16x32x4x64 : Shape := ⟨4, ![16, 32, 4, 64]⟩
abbrev S16x32x4x32 : Shape := ⟨4, ![16, 32, 4, 32]⟩
abbrev S512x128 : Shape := ⟨2, ![512, 128]⟩
abbrev S16x32x2x64 : Shape := ⟨4, ![16, 32, 2, 64]⟩
abbrev S16x32x2x32 : Shape := ⟨4, ![16, 32, 2, 32]⟩
abbrev S512x64 : Shape := ⟨2, ![512, 64]⟩
abbrev S16x32x1x64 : Shape := ⟨4, ![16, 32, 1, 64]⟩
abbrev S16x32x1x32 : Shape := ⟨4, ![16, 32, 1, 32]⟩

abbrev nBuf : Space → Nat
  | .hbm => 169
  | .vmem => 0
  | .smem => 0
  | _ => 0

abbrev hbmTy0_0 (i : Nat) : BufTy := match i % 128 with
  | 0 => ⟨S16896x7168, .f32⟩
  | 1 => ⟨S32, .i32⟩
  | 2 => ⟨S512x7168, .f32⟩
  | 3 => ⟨S512x512, .f32⟩
  | 4 => ⟨S16x32x8x64, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S32x1, .f32⟩
  | 17 => ⟨S1x32, .f32⟩
  | 18 => ⟨S32x32, .f32⟩
  | 19 => ⟨S32x32, .f32⟩
  | 20 => ⟨S32x32, .f32⟩
  | 21 => ⟨S32x32, .f32⟩
  | 22 => ⟨S32x1x32, .f32⟩
  | 23 => ⟨S32x32, .f32⟩
  | 24 => ⟨S32x1x32, .f32⟩
  | 25 => ⟨S16x32x8x32, .f32⟩
  | 26 => ⟨S16x32x8x32, .f32⟩
  | 27 => ⟨S1x32x1x32, .f32⟩
  | 28 => ⟨S16x32x8x32, .f32⟩
  | 29 => ⟨S16x32x8x32, .f32⟩
  | 30 => ⟨S1x32x1x32, .f32⟩
  | 31 => ⟨S16x32x8x32, .f32⟩
  | 32 => ⟨S16x32x8x32, .f32⟩
  | 33 => ⟨S16x32x8x32, .f32⟩
  | 34 => ⟨S1x32x1x32, .f32⟩
  | 35 => ⟨S16x32x8x32, .f32⟩
  | 36 => ⟨S16x32x8x32, .f32⟩
  | 37 => ⟨S1x32x1x32, .f32⟩
  | 38 => ⟨S16x32x8x32, .f32⟩
  | 39 => ⟨S16x32x8x32, .f32⟩
  | 40 => ⟨S16x32x8x32, .f32⟩
  | 41 => ⟨S16x32x8x64, .f32⟩
  | 42 => ⟨S512x512, .f32⟩
  | 43 => ⟨S512x256, .f32⟩
  | 44 => ⟨S16x32x4x64, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S32x1, .f32⟩
  | 57 => ⟨S1x32, .f32⟩
  | 58 => ⟨S32x32, .f32⟩
  | 59 => ⟨S32x32, .f32⟩
  | 60 => ⟨S32x32, .f32⟩
  | 61 => ⟨S32x32, .f32⟩
  | 62 => ⟨S32x1x32, .f32⟩
  | 63 => ⟨S32x32, .f32⟩
  | 64 => ⟨S32x1x32, .f32⟩
  | 65 => ⟨S16x32x4x32, .f32⟩
  | 66 => ⟨S16x32x4x32, .f32⟩
  | 67 => ⟨S1x32x1x32, .f32⟩
  | 68 => ⟨S16x32x4x32, .f32⟩
  | 69 => ⟨S16x32x4x32, .f32⟩
  | 70 => ⟨S1x32x1x32, .f32⟩
  | 71 => ⟨S16x32x4x32, .f32⟩
  | 72 => ⟨S16x32x4x32, .f32⟩
  | 73 => ⟨S16x32x4x32, .f32⟩
  | 74 => ⟨S1x32x1x32, .f32⟩
  | 75 => ⟨S16x32x4x32, .f32⟩
  | 76 => ⟨S16x32x4x32, .f32⟩
  | 77 => ⟨S1x32x1x32, .f32⟩
  | 78 => ⟨S16x32x4x32, .f32⟩
  | 79 => ⟨S16x32x4x32, .f32⟩
  | 80 => ⟨S16x32x4x32, .f32⟩
  | 81 => ⟨S16x32x4x64, .f32⟩
  | 82 => ⟨S512x256, .f32⟩
  | 83 => ⟨S512x128, .f32⟩
  | 84 => ⟨S16x32x2x64, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S32, .f32⟩
  | 96 => ⟨S32x1, .f32⟩
  | 97 => ⟨S1x32, .f32⟩
  | 98 => ⟨S32x32, .f32⟩
  | 99 => ⟨S32x32, .f32⟩
  | 100 => ⟨S32x32, .f32⟩
  | 101 => ⟨S32x32, .f32⟩
  | 102 => ⟨S32x1x32, .f32⟩
  | 103 => ⟨S32x32, .f32⟩
  | 104 => ⟨S32x1x32, .f32⟩
  | 105 => ⟨S16x32x2x32, .f32⟩
  | 106 => ⟨S16x32x2x32, .f32⟩
  | 107 => ⟨S1x32x1x32, .f32⟩
  | 108 => ⟨S16x32x2x32, .f32⟩
  | 109 => ⟨S16x32x2x32, .f32⟩
  | 110 => ⟨S1x32x1x32, .f32⟩
  | 111 => ⟨S16x32x2x32, .f32⟩
  | 112 => ⟨S16x32x2x32, .f32⟩
  | 113 => ⟨S16x32x2x32, .f32⟩
  | 114 => ⟨S1x32x1x32, .f32⟩
  | 115 => ⟨S16x32x2x32, .f32⟩
  | 116 => ⟨S16x32x2x32, .f32⟩
  | 117 => ⟨S1x32x1x32, .f32⟩
  | 118 => ⟨S16x32x2x32, .f32⟩
  | 119 => ⟨S16x32x2x32, .f32⟩
  | 120 => ⟨S16x32x2x32, .f32⟩
  | 121 => ⟨S16x32x2x64, .f32⟩
  | 122 => ⟨S512x128, .f32⟩
  | 123 => ⟨S512x128, .f32⟩
  | 124 => ⟨S512x64, .f32⟩
  | 125 => ⟨S16x32x1x64, .f32⟩
  | 126 => ⟨S32, .f32⟩
  | 127 => ⟨S_, .f32⟩
  | _ => ⟨S16896x7168, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S_, .f32⟩
  | 6 => ⟨S32, .f32⟩
  | 7 => ⟨S32, .f32⟩
  | 8 => ⟨S32, .f32⟩
  | 9 => ⟨S32x1, .f32⟩
  | 10 => ⟨S1x32, .f32⟩
  | 11 => ⟨S32x32, .f32⟩
  | 12 => ⟨S32x32, .f32⟩
  | 13 => ⟨S32x32, .f32⟩
  | 14 => ⟨S32x32, .f32⟩
  | 15 => ⟨S32x1x32, .f32⟩
  | 16 => ⟨S32x32, .f32⟩
  | 17 => ⟨S32x1x32, .f32⟩
  | 18 => ⟨S16x32x1x32, .f32⟩
  | 19 => ⟨S16x32x1x32, .f32⟩
  | 20 => ⟨S1x32x1x32, .f32⟩
  | 21 => ⟨S16x32x1x32, .f32⟩
  | 22 => ⟨S16x32x1x32, .f32⟩
  | 23 => ⟨S1x32x1x32, .f32⟩
  | 24 => ⟨S16x32x1x32, .f32⟩
  | 25 => ⟨S16x32x1x32, .f32⟩
  | 26 => ⟨S16x32x1x32, .f32⟩
  | 27 => ⟨S1x32x1x32, .f32⟩
  | 28 => ⟨S16x32x1x32, .f32⟩
  | 29 => ⟨S16x32x1x32, .f32⟩
  | 30 => ⟨S1x32x1x32, .f32⟩
  | 31 => ⟨S16x32x1x32, .f32⟩
  | 32 => ⟨S16x32x1x32, .f32⟩
  | 33 => ⟨S16x32x1x32, .f32⟩
  | 34 => ⟨S16x32x1x64, .f32⟩
  | 35 => ⟨S512x64, .f32⟩
  | 36 => ⟨S512x512, .bf16⟩
  | 37 => ⟨S512x256, .bf16⟩
  | 38 => ⟨S512x128, .bf16⟩
  | 39 => ⟨S512x128, .bf16⟩
  | 40 => ⟨S512x64, .bf16⟩
  | _ => ⟨S16896x7168, .f32⟩

abbrev hbmTy (i : Nat) : BufTy := match i / 128 with
  | 0 => hbmTy0_0 i
  | 1 => hbmTy0_1 i
  | _ => ⟨S16896x7168, .f32⟩

abbrev bufTy : (tb : Table) → Fin (tcTables nBuf tb) → BufTy
  | .hbm, ⟨i, _⟩ => hbmTy i
  | _, _ => ⟨S16896x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_cst_6 : Ref sig .tc := ⟨.hbm, 89, rfl⟩
abbrev main_v80 : Ref sig .tc := ⟨.hbm, 90, rfl⟩
abbrev main_v81 : Ref sig .tc := ⟨.hbm, 91, rfl⟩
abbrev main_cst_7 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_cst_8 : Ref sig .tc := ⟨.hbm, 127, rfl⟩
abbrev main_v116 : Ref sig .tc := ⟨.hbm, 128, rfl⟩
abbrev main_v117 : Ref sig .tc := ⟨.hbm, 129, rfl⟩
abbrev main_cst_9 : Ref sig .tc := ⟨.hbm, 130, rfl⟩
abbrev main_v118 : Ref sig .tc := ⟨.hbm, 131, rfl⟩
abbrev main_v119 : Ref sig .tc := ⟨.hbm, 132, rfl⟩
abbrev main_cst_10 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩

abbrev nD : Nat := 1
abbrev τ : Topo := Topo.v7x

variable {F : FTy → Type} [FloatOps F]
-- ==== Ssm.lean ====
abbrev S16896x7168 : Shape := ⟨2, ![16896, 7168]⟩
abbrev S16x128x512 : Shape := ⟨3, ![16, 128, 512]⟩
abbrev S16x3x768 : Shape := ⟨3, ![16, 3, 768]⟩
abbrev S4x768 : Shape := ⟨2, ![4, 768]⟩
abbrev S768 : Shape := ⟨1, ![768]⟩
abbrev S8 : Shape := ⟨1, ![8]⟩
abbrev S512 : Shape := ⟨1, ![512]⟩
abbrev S4x512 : Shape := ⟨2, ![4, 512]⟩
abbrev S4x256 : Shape := ⟨2, ![4, 256]⟩
abbrev S1x512 : Shape := ⟨2, ![1, 512]⟩
abbrev S256 : Shape := ⟨1, ![256]⟩
abbrev S1x256 : Shape := ⟨2, ![1, 256]⟩
abbrev S8x64 : Shape := ⟨2, ![8, 64]⟩
abbrev S_ : Shape := ⟨0, ![]⟩
abbrev S16x8x768 : Shape := ⟨3, ![16, 8, 768]⟩
abbrev S16x8x512 : Shape := ⟨3, ![16, 8, 512]⟩
abbrev S16x8x256 : Shape := ⟨3, ![16, 8, 256]⟩
abbrev S512x512 : Shape := ⟨2, ![512, 512]⟩
abbrev S32x512 : Shape := ⟨2, ![32, 512]⟩
abbrev S32x256 : Shape := ⟨2, ![32, 256]⟩
abbrev S1x8x512 : Shape := ⟨3, ![1, 8, 512]⟩
abbrev S1x8x256 : Shape := ⟨3, ![1, 8, 256]⟩
abbrev S1x128x512 : Shape := ⟨3, ![1, 128, 512]⟩
abbrev S40x512 : Shape := ⟨2, ![40, 512]⟩
abbrev S40x256 : Shape := ⟨2, ![40, 256]⟩
abbrev S64x512 : Shape := ⟨2, ![64, 512]⟩
abbrev S64x256 : Shape := ⟨2, ![64, 256]⟩
abbrev S128x512 : Shape := ⟨2, ![128, 512]⟩
abbrev S8x512 : Shape := ⟨2, ![8, 512]⟩
abbrev S8x256 : Shape := ⟨2, ![8, 256]⟩
abbrev S64x64 : Shape := ⟨2, ![64, 64]⟩
abbrev S512x128 : Shape := ⟨2, ![512, 128]⟩
abbrev S64x128 : Shape := ⟨2, ![64, 128]⟩
abbrev S32 : Shape := ⟨1, ![32]⟩
abbrev S32x1 : Shape := ⟨2, ![32, 1]⟩

abbrev nBuf : Space → Nat
  | .hbm => 34
  | .vmem => 37
  | .smem => 0
  | _ => 0

abbrev bufTy : (tb : Table) → Fin (tcTables nBuf tb) → BufTy
  | .hbm, ⟨0, _⟩ => ⟨S16896x7168, .f32⟩
  | .hbm, ⟨1, _⟩ => ⟨S16x128x512, .f32⟩
  | .hbm, ⟨2, _⟩ => ⟨S16x3x768, .f32⟩
  | .hbm, ⟨3, _⟩ => ⟨S4x768, .f32⟩
  | .hbm, ⟨4, _⟩ => ⟨S768, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S4x512, .f32⟩
  | .hbm, ⟨10, _⟩ => ⟨S4x256, .f32⟩
  | .hbm, ⟨11, _⟩ => ⟨S512, .f32⟩
  | .hbm, ⟨12, _⟩ => ⟨S1x512, .f32⟩
  | .hbm, ⟨13, _⟩ => ⟨S256, .f32⟩
  | .hbm, ⟨14, _⟩ => ⟨S1x256, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S1x512, .f32⟩
  | .hbm, ⟨25, _⟩ => ⟨S_, .i32⟩
  | .hbm, ⟨26, _⟩ => ⟨S_, .f32⟩
  | .hbm, ⟨27, _⟩ => ⟨S16x8x768, .f32⟩
  | .hbm, ⟨28, _⟩ => ⟨S16x8x512, .f32⟩
  | .hbm, ⟨29, _⟩ => ⟨S16x8x256, .f32⟩
  | .hbm, ⟨30, _⟩ => ⟨S512x512, .bf16⟩
  | .hbm, ⟨31, _⟩ => ⟨S16x128x512, .f32⟩
  | .hbm, ⟨32, _⟩ => ⟨S16x8x512, .f32⟩
  | .hbm, ⟨33, _⟩ => ⟨S16x8x256, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x256, .f32⟩
  | .local _ .vmem, ⟨7, _⟩ => ⟨S32x256, .f32⟩
  | .local _ .vmem, ⟨8, _⟩ => ⟨S1x8x512, .f32⟩
  | .local _ .vmem, ⟨9, _⟩ => ⟨S1x8x512, .f32⟩
  | .local _ .vmem, ⟨10, _⟩ => ⟨S1x8x256, .f32⟩
  | .local _ .vmem, ⟨11, _⟩ => ⟨S1x8x256, .f32⟩
  | .local _ .vmem, ⟨12, _⟩ => ⟨S1x128x512, .f32⟩
  | .local _ .vmem, ⟨13, _⟩ => ⟨S1x128x512, .f32⟩
  | .local _ .vmem, ⟨14, _⟩ => ⟨S4x512, .f32⟩
  | .local _ .vmem, ⟨15, _⟩ => ⟨S4x256, .f32⟩
  | .local _ .vmem, ⟨16, _⟩ => ⟨S1x512, .f32⟩
  | .local _ .vmem, ⟨17, _⟩ => ⟨S1x256, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S32x512, .bf16⟩
  | .local _ .vmem, ⟨23, _⟩ => ⟨S32x512, .bf16⟩
  | .local _ .vmem, ⟨24, _⟩ => ⟨S1x128x512, .f32⟩
  | .local _ .vmem, ⟨25, _⟩ => ⟨S1x128x512, .f32⟩
  | .local _ .vmem, ⟨26, _⟩ => ⟨S1x8x512, .f32⟩
  | .local _ .vmem, ⟨27, _⟩ => ⟨S1x8x512, .f32⟩
  | .local _ .vmem, ⟨28, _⟩ => ⟨S1x8x256, .f32⟩
  | .local _ .vmem, ⟨29, _⟩ => ⟨S1x8x256, .f32⟩
  | .local _ .vmem, ⟨30, _⟩ => ⟨S40x512, .f32⟩
  | .local _ .vmem, ⟨31, _⟩ => ⟨S40x256, .f32⟩
  | .local _ .vmem, ⟨32, _⟩ => ⟨S64x512, .f32⟩
  | .local _ .vmem, ⟨33, _⟩ => ⟨S64x256, .f32⟩
  | .local _ .vmem, ⟨34, _⟩ => ⟨S64x512, .f32⟩
  | .local _ .vmem, ⟨35, _⟩ => ⟨S64x512, .f32⟩
  | .local _ .vmem, ⟨36, _⟩ => ⟨S128x512, .f32⟩
  | _, _ => ⟨S16896x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![16, 1], ![false, false]⟩

def k0_mult1 : BitVec 32 :=
  let c0_i32_117 : BitVec 32 := 0#32
  let c64_i32_118 : BitVec 32 := 64#32
  let v300 : BitVec 32 := Scalar.muli c0_i32_117 c64_i32_118
  v300
def k0_off1 : Fin 2 → Nat :=
  let c0_i32_117 : BitVec 32 := 0#32
  let c64_i32_118 : BitVec 32 := 64#32
  let v300 : BitVec 32 := Scalar.muli c0_i32_117 c64_i32_118
  let v301 : BitVec 32 := v300
  let v302 : Index := Scalar.indexCast v301
  let c0_119 : Index := 0#32
  ![v302.toNat, 0]
def k0_off2 : Fin 2 → Nat :=
  let c0_i32_117 : BitVec 32 := 0#32
  let c64_i32_118 : BitVec 32 := 64#32
  let v300 : BitVec 32 := Scalar.muli c0_i32_117 c64_i32_118
  let v301 : BitVec 32 := v300
  let v306 : Index := Scalar.indexCast v301
  let c0_121 : Index := 0#32
  ![v306.toNat, 0]
def k0_off3 : Fin 2 → Nat :=
  let c0_i32_117 : BitVec 32 := 0#32
  let c64_i32_118 : BitVec 32 := 64#32
  let v300 : BitVec 32 := Scalar.muli c0_i32_117 c64_i32_118
  let v301 : BitVec 32 := v300
  let v308 : Index := Scalar.indexCast v301
  let c128 : Index := 128#32
  ![v308.toNat, 128]
def k0_cond2 (i : grid0.Coords) : BitVec 1 :=
  let arg1 : BitVec 32 := BitVec.ofNat 32 (i 1).val
  let c0_i32_160 : BitVec 32 := 0#32
  let v423 : BitVec 1 := Scalar.cmpi .eq arg1 c0_i32_160
  let v424 : BitVec 32 := Scalar.extui v423
  let c0_i32_161 : BitVec 32 := 0#32
  let v425 : BitVec 1 := Scalar.cmpi .ne v424 c0_i32_161
  v425

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c10_i32 : BitVec 32 := 10#32
  let c0_i32 : BitVec 32 := 0#32
  ![v2.toNat, c10_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c11_i32 : BitVec 32 := 11#32
  let c0_i32 : BitVec 32 := 0#32
  ![v2.toNat, c11_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c24_i32 : BitVec 32 := 24#32
  let c0_i32 : BitVec 32 := 0#32
  ![v2.toNat, c24_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== SsmRefIdeal.lean ====
abbrev S16896x7168 : Shape := ⟨2, ![16896, 7168]⟩
abbrev S16x128x512 : Shape := ⟨3, ![16, 128, 512]⟩
abbrev S16x3x768 : Shape := ⟨3, ![16, 3, 768]⟩
abbrev S4x768 : Shape := ⟨2, ![4, 768]⟩
abbrev S768 : Shape := ⟨1, ![768]⟩
abbrev S8 : Shape := ⟨1, ![8]⟩
abbrev S512 : Shape := ⟨1, ![512]⟩
abbrev S512x512 : Shape := ⟨2, ![512, 512]⟩
abbrev S16x32x512 : Shape := ⟨3, ![16, 32, 512]⟩
abbrev S512x256 : Shape := ⟨2, ![512, 256]⟩
abbrev S16x32x256 : Shape := ⟨3, ![16, 32, 256]⟩
abbrev S16x8x512 : Shape := ⟨3, ![16, 8, 512]⟩
abbrev S16x8x256 : Shape := ⟨3, ![16, 8, 256]⟩

abbrev nBuf : Space → Nat
  | .hbm => 15
  | .vmem => 0
  | .smem => 0
  | _ => 0

abbrev bufTy : (tb : Table) → Fin (tcTables nBuf tb) → BufTy
  | .hbm, ⟨0, _⟩ => ⟨S16896x7168, .f32⟩
  | .hbm, ⟨1, _⟩ => ⟨S16x128x512, .f32⟩
  | .hbm, ⟨2, _⟩ => ⟨S16x3x768, .f32⟩
  | .hbm, ⟨3, _⟩ => ⟨S4x768, .f32⟩
  | .hbm, ⟨4, _⟩ => ⟨S768, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S512x512, .f32⟩
  | .hbm, ⟨10, _⟩ => ⟨S16x32x512, .f32⟩
  | .hbm, ⟨11, _⟩ => ⟨S512x256, .f32⟩
  | .hbm, ⟨12, _⟩ => ⟨S16x32x256, .f32⟩
  | .hbm, ⟨13, _⟩ => ⟨S16x8x512, .f32⟩
  | .hbm, ⟨14, _⟩ => ⟨S16x8x256, .f32⟩
  | _, _ => ⟨S16896x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Lru.lean ====
abbrev S16896x7168 : Shape := ⟨2, ![16896, 7168]⟩
abbrev S16x512 : Shape := ⟨2, ![16, 512]⟩
abbrev S16x3x512 : Shape := ⟨3, ![16, 3, 512]⟩
abbrev S4x512 : Shape := ⟨2, ![4, 512]⟩
abbrev S512 : Shape := ⟨1, ![512]⟩
abbrev S512x512 : Shape := ⟨2, ![512, 512]⟩
abbrev S1x512 : Shape := ⟨2, ![1, 512]⟩
abbrev S_ : Shape := ⟨0, ![]⟩
abbrev S16x8x512 : Shape := ⟨3, ![16, 8, 512]⟩
abbrev S16x1x512 : Shape := ⟨3, ![16, 1, 512]⟩
abbrev S32x512 : Shape := ⟨2, ![32, 512]⟩
abbrev S1x8x512 : Shape := ⟨3, ![1, 8, 512]⟩
abbrev S1x1x512 : Shape := ⟨3, ![1, 1, 512]⟩
abbrev S40x512 : Shape := ⟨2, ![40, 512]⟩
abbrev S8x512 : Shape := ⟨2, ![8, 512]⟩

abbrev nBuf : Space → Nat
  | .hbm => 21
  | .vmem => 26
  | .smem => 0
  | _ => 0

abbrev bufTy : (tb : Table) → Fin (tcTables nBuf tb) → BufTy
  | .hbm, ⟨0, _⟩ => ⟨S16896x7168, .f32⟩
  | .hbm, ⟨1, _⟩ => ⟨S16x512, .f32⟩
  | .hbm, ⟨2, _⟩ => ⟨S16x3x512, .f32⟩
  | .hbm, ⟨3, _⟩ => ⟨S4x512, .f32⟩
  | .hbm, ⟨4, _⟩ => ⟨S512, .f32⟩
  | .hbm, ⟨5, _⟩ => ⟨S512x512, .bf16⟩
  | .hbm, ⟨6, _⟩ => ⟨S512, .f32⟩
  | .hbm, ⟨7, _⟩ => ⟨S512x512, .bf16⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S_, .i32⟩
  | .hbm, ⟨15, _⟩ => ⟨S_, .f32⟩
  | .hbm, ⟨16, _⟩ => ⟨S16x8x512, .f32⟩
  | .hbm, ⟨17, _⟩ => ⟨S16x1x512, .f32⟩
  | .hbm, ⟨18, _⟩ => ⟨S512x512, .bf16⟩
  | .hbm, ⟨19, _⟩ => ⟨S16x1x512, .f32⟩
  | .hbm, ⟨20, _⟩ => ⟨S16x8x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S1x8x512, .f32⟩
  | .local _ .vmem, ⟨5, _⟩ => ⟨S1x8x512, .f32⟩
  | .local _ .vmem, ⟨6, _⟩ => ⟨S1x1x512, .f32⟩
  | .local _ .vmem, ⟨7, _⟩ => ⟨S1x1x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S32x512, .bf16⟩
  | .local _ .vmem, ⟨16, _⟩ => ⟨S32x512, .bf16⟩
  | .local _ .vmem, ⟨17, _⟩ => ⟨S1x1x512, .f32⟩
  | .local _ .vmem, ⟨18, _⟩ => ⟨S1x1x512, .f32⟩
  | .local _ .vmem, ⟨19, _⟩ => ⟨S1x8x512, .f32⟩
  | .local _ .vmem, ⟨20, _⟩ => ⟨S1x8x512, .f32⟩
  | .local _ .vmem, ⟨21, _⟩ => ⟨S40x512, .f32⟩
  | .local _ .vmem, ⟨22, _⟩ => ⟨S32x512, .f32⟩
  | .local _ .vmem, ⟨23, _⟩ => ⟨S32x512, .f32⟩
  | .local _ .vmem, ⟨24, _⟩ => ⟨S32x512, .f32⟩
  | .local _ .vmem, ⟨25, _⟩ => ⟨S1x512, .f32⟩
  | _, _ => ⟨S16896x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 1], ![false, false]⟩

def k0_mult1 : BitVec 32 :=
  let c0_i32_41 : BitVec 32 := 0#32
  let c8_i32 : BitVec 32 := 8#32
  let v84 : BitVec 32 := Scalar.muli c0_i32_41 c8_i32
  v84
def k0_off1 (c0_i32_41 : BitVec 32) : Fin 2 → Nat :=
  let c8_i32 : BitVec 32 := 8#32
  let v84 : BitVec 32 := Scalar.muli c0_i32_41 c8_i32
  let v85 : BitVec 32 := v84
  let v86 : Index := Scalar.indexCast v85
  let c0_42 : Index := 0#32
  ![v86.toNat, 0]
def k0_mult2 : BitVec 32 :=
  let c1_i32_60 : BitVec 32 := 1#32
  let c8_i32_61 : BitVec 32 := 8#32
  let v137 : BitVec 32 := Scalar.muli c1_i32_60 c8_i32_61
  v137
def k0_mult3 : BitVec 32 :=
  let c2_i32_83 : BitVec 32 := 2#32
  let c8_i32_84 : BitVec 32 := 8#32
  let v190 : BitVec 32 := Scalar.muli c2_i32_83 c8_i32_84
  v190
def k0_mult4 : BitVec 32 :=
  let c3_i32 : BitVec 32 := 3#32
  let c8_i32_106 : BitVec 32 := 8#32
  let v243 : BitVec 32 := Scalar.muli c3_i32 c8_i32_106
  v243
def k0_cond2 (i : grid0.Coords) : BitVec 1 :=
  let arg1 : BitVec 32 := BitVec.ofNat 32 (i 1).val
  let c0_i32_141 : BitVec 32 := 0#32
  let v317 : BitVec 1 := Scalar.cmpi .eq arg1 c0_i32_141
  let v318 : BitVec 32 := Scalar.extui v317
  let c0_i32_142 : BitVec 32 := 0#32
  let v319 : BitVec 1 := Scalar.cmpi .ne v318 c0_i32_142
  v319

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c2_i32 : BitVec 32 := 2#32
  let c0_i32 : BitVec 32 := 0#32
  ![v2.toNat, c2_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c3_i32 : BitVec 32 := 3#32
  let c0_i32 : BitVec 32 := 0#32
  ![v2.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== LruRefIdeal.lean ====
abbrev S16896x7168 : Shape := ⟨2, ![16896, 7168]⟩
abbrev S16x512 : Shape := ⟨2, ![16, 512]⟩
abbrev S16x3x512 : Shape := ⟨3, ![16, 3, 512]⟩
abbrev S4x512 : Shape := ⟨2, ![4, 512]⟩
abbrev S512 : Shape := ⟨1, ![512]⟩
abbrev S512x512 : Shape := ⟨2, ![512, 512]⟩
abbrev S16x32x512 : Shape := ⟨3, ![16, 32, 512]⟩
abbrev S16x8x512 : Shape := ⟨3, ![16, 8, 512]⟩

abbrev nBuf : Space → Nat
  | .hbm => 13
  | .vmem => 0
  | .smem => 0
  | _ => 0

abbrev bufTy : (tb : Table) → Fin (tcTables nBuf tb) → BufTy
  | .hbm, ⟨0, _⟩ => ⟨S16896x7168, .f32⟩
  | .hbm, ⟨1, _⟩ => ⟨S16x512, .f32⟩
  | .hbm, ⟨2, _⟩ => ⟨S16x3x512, .f32⟩
  | .hbm, ⟨3, _⟩ => ⟨S4x512, .f32⟩
  | .hbm, ⟨4, _⟩ => ⟨S512, .f32⟩
  | .hbm, ⟨5, _⟩ => ⟨S512x512, .bf16⟩
  | .hbm, ⟨6, _⟩ => ⟨S512, .f32⟩
  | .hbm, ⟨7, _⟩ => ⟨S512x512, .bf16⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S16x32x512, .f32⟩
  | .hbm, ⟨12, _⟩ => ⟨S16x8x512, .f32⟩
  | _, _ => ⟨S16896x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Proof.Math.lean ====
/- The rows' mathematics over the extended reals that the programs' values are read as: the RMS norm of a row, SiLU, and the gated feed-forward of a row. -/
module

public import Idealize.ShloMosaic.Lib.Pointwise
public import Idealize.ShloMosaic.Lib.Claim

@[expose] public section

noncomputable section

namespace Cert.Rows

open Idealize.ShloMosaic

/-- Element `k` of the RMS norm of the row `f` under the gain `g`: the row over the root of its mean square plus the printed epsilon. -/
def rms (f g : Fin 1024 → EReal) (k : Fin 1024) : EReal :=
  f k * Ideal.rsqrt (Ideal.div (∑ q : Fin 1024, f q * f q) (Ideal.ofBits .f32 0x44800000#32) + Ideal.ofBits .f32 0x358637BD#32) * g k

/-- One hidden unit of the gated feed-forward: SiLU of the first product times the second. -/
def hid (f u v : Fin 1024 → EReal) : EReal :=
  (∑ k : Fin 1024, f k * u k) * Ideal.logistic (∑ k : Fin 1024, f k * u k) * (∑ k : Fin 1024, f k * v k)

/-- A sum over 2816 hidden units is the sum over its two halves of 1408. -/
theorem sum_halves (f : Fin 2816 → EReal) :
    ∑ k : Fin 2816, f k = (∑ k : Fin 1408, f ⟨k.val, by omega⟩) + ∑ k : Fin 1408, f ⟨1408 + k.val, by omega⟩ :=
  Fin.sum_univ_add (a := 1408) (b := 1408) f

end Cert.Rows

end
-- ==== Proof.ExpertsLoops.lean ====
/- The four counted loops of the experts' call that run a trip: for each, the stores of its first trips as an
   explicit list, and the loop's invariant over that list. -/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pointwise.Index
public import Idealize.ShloMosaic.Lib.Exec
public import Idealize.ShloMosaic.Lib.Tactic
public import Idealize.ShloMosaic.Lib.WritesUnit
public import Idealize.ShloMosaic.Lib.Pipeline.Kit

@[expose] public section

set_option maxRecDepth 8192

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces of a loop's first `k` trips, the last trip's first. -/
def pcs {P : Type} (n : ℕ) (piece : Fin n → P) : ℕ → List P
  | 0 => []
  | k + 1 => if h : k < n then piece ⟨k, h⟩ :: pcs n piece k else pcs n piece k

theorem pcs_succ {P : Type} {n : ℕ} (piece : Fin n → P) (k : Fin n) :
    pcs n piece (k.val + 1) = piece k :: pcs n piece k.val := by
  rw [pcs]; exact dif_pos k.isLt

/-! ## The words: trip counts and offsets -/

/-- The counts the precondition admits. -/
abbrev Small (v : BitVec 32) : Prop := v = 0#32 ∨ v = 1#32 ∨ v = 2#32 ∨ v = 3#32 ∨ v = 4#32

theorem trips1 {v : BitVec 32} (h : Small v) : (k0_t1_loop v).trips = v.toNat := by
  rcases h with rfl | rfl | rfl | rfl | rfl <;> decide
theorem trips2 {v : BitVec 32} (h : Small v) : (k0_t2_loop v).trips = 0 := by
  rcases h with rfl | rfl | rfl | rfl | rfl <;> decide
theorem trips3 {v : BitVec 32} (h : Small v) : (k0_t3_loop v).trips = v.toNat := by
  rcases h with rfl | rfl | rfl | rfl | rfl <;> decide
theorem trips4 {v : BitVec 32} (h : Small v) : (k0_t4_loop v).trips = 0 := by
  rcases h with rfl | rfl | rfl | rfl | rfl <;> decide
theorem trips5 {v : BitVec 32} (h : Small v) : (k0_t5_loop v).trips = v.toNat := by
  rcases h with rfl | rfl | rfl | rfl | rfl <;> decide
theorem trips6 {v : BitVec 32} (h : Small v) : (k0_t6_loop v).trips = 0 := by
  rcases h with rfl | rfl | rfl | rfl | rfl <;> decide
theorem trips7 {v : BitVec 32} (h : Small v) : (k0_t7_loop v).trips = 4 - v.toNat := by
  rcases h with rfl | rfl | rfl | rfl | rfl <;> decide
theorem trips8 {v : BitVec 32} (h : Small v) : (k0_t8_loop v).trips = 0 := by
  rcases h with rfl | rfl | rfl | rfl | rfl <;> decide

theorem off3_eq {v : BitVec 32} (h : Small v) : ∀ k : Fin (k0_t1_loop v).trips, k0_off3 v k = ![k.val, 0, 0] := by
  rcases h with rfl | rfl | rfl | rfl | rfl <;> decide
theorem off5_eq {v : BitVec 32} (h : Small v) : ∀ k : Fin (k0_t3_loop v).trips, k0_off5 v k = ![k.val, 0, 0] := by
  rcases h with rfl | rfl | rfl | rfl | rfl <;> decide
theorem off7_eq {v : BitVec 32} (h : Small v) : ∀ k : Fin (k0_t5_loop v).trips, k0_off7 v k = ![k.val, 0, 0] := by
  rcases h with rfl | rfl | rfl | rfl | rfl <;> decide
theorem off8_eq {v : BitVec 32} (h : Small v) : ∀ k : Fin (k0_t5_loop v).trips, k0_off8 v k = ![0, 0, 448 * k.val, 0] := by
  rcases h with rfl | rfl | rfl | rfl | rfl <;> decide
theorem off11_eq {v : BitVec 32} (h : Small v) :
    ∀ k : Fin (k0_t7_loop v).trips, k0_off11 v k = ![0, 0, 448 * (v.toNat + k.val), 0] := by
  rcases h with rfl | rfl | rfl | rfl | rfl <;> decide

/-- The side conditions the body assumes of the count it reads hold at the counts the precondition admits. -/
theorem chk_of_small (i : grid0.Coords) {v : BitVec 32} (h : Small v) : k0_chk1 i v := by
  unfold k0_chk1
  generalize k0_cond1 i = b1
  generalize k0_cond2 i = b2
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
  rcases BitVec.eq_zero_or_eq_one b1 with rfl | rfl <;> rcases BitVec.eq_zero_or_eq_one b2 with rfl | rfl <;>
  rcases h with rfl | rfl | rfl | rfl | rfl <;> decide

/-! ## The four loops -/

/-- What the gather loop's trip stores in the gathered rows' scratch, -/
def piece1a (c : Dev nD) (i : grid0.Coords) (arg5 : Memref sig .tc .vmem S1536x1024 .bf16) (v3 : Elt F .i32) (k0_hw1 : k0_chk1 i v3)
    (k0_h1 : k0_cond1 i = 1#1) (v16 : Vec F S1x1x1536 .i32) (X5 : (BufTy.Contents (Elt F) arg5.view.ty)) (k : Fin (k0_t1_loop v3).trips) : View.Piece (Elt F) S4x448x1024 .bf16 :=
  ⟨Rect.unit (s := S4x448x1024) (k0_off3 v3 k) S1x448x1024.size (k0_off3_inb i v3 k0_hw1 k k0_h1),
    k0_pay2 v3 v16 k (arg5.view.readAt (Elt F) (Rect.unit (s := S1536x1024) ![0, 0] S1536x1024.size inb_S1536x1024_S1536x1024_0_0).toLoadRect X5)⟩
/-- and in the sums' scratch. -/
def piece1b (c : Dev nD) (i : grid0.Coords) (v3 : Elt F .i32) (k0_hw1 : k0_chk1 i v3)
    (k0_h1 : k0_cond1 i = 1#1) (k : Fin (k0_t1_loop v3).trips) : View.Piece (Elt F) S4x448x1024 .f32 :=
  ⟨Rect.unit (s := S4x448x1024) (k0_off3 v3 k) S1x448x1024.size (k0_off3_inb i v3 k0_hw1 k k0_h1), k0_pay3 (F := F)⟩

set_option warn.classDefReducibility false in
/-- The gather loop by its invariant. -/
@[sl_loop] def loop1 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3) (k0_h1 : k0_cond1 i = 1#1) (v16 : Vec F S1x1x1536 .i32)
    (X5 : (BufTy.Contents (Elt F) arg5.view.ty)) (G10 : (BufTy.Contents (Elt F) arg10.view.ty)) (G11 : (BufTy.Contents (Elt F) arg11.view.ty)) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 v3 k0_hw1 k0_h1 v16 where
  inv k _ := iprop((arg5.view.loc (c : Thread nD τ) ↦[arg5.view.set]{fullShare} X5)
    ∗ (∃ f, (arg10.view.loc (c : Thread nD τ) ↦[arg10.view.set]{fullShare} f) ∗ ⌜f = arg10.view.writes (Elt F) G10 (pcs _ (piece1a c i arg5 v3 k0_hw1 k0_h1 v16 X5) k)⌝)
    ∗ (∃ f, (arg11.view.loc (c : Thread nD τ) ↦[arg11.view.set]{fullShare} f) ∗ ⌜f = arg11.view.writes (Elt F) G11 (pcs _ (piece1b c i v3 k0_hw1 k0_h1) k)⌝))
  step k acc := by
    iintro ⟨H5, ⟨%f10, H10, %h10⟩, ⟨%f11, H11, %h11⟩⟩
    subst h10
    subst h11
    unfold k0_t1_body
    sl_exec
    sl_step
    isplitl [H5]; · iexact H5
    rw [pcs_succ, pcs_succ]
    isplitl [H10]
    · iexists _; isplitl [H10]; · iexact H10
      ipureintro; rfl
    iexists _; isplitl [H11]; · iexact H11
    ipureintro; rfl

/-- What the product loop's trip stores in the sums' scratch: its chunk of what the loop found there, added to. -/
def piece3 (c : Dev nD) (i : grid0.Coords) (arg6 : Memref sig .tc .vmem S1x1024x1408 .bf16) (arg7 : Memref sig .tc .vmem S1x1024x1408 .bf16)
    (arg8 : Memref sig .tc .vmem S1x1408x1024 .bf16) (arg10 : Memref sig .tc .vmem S4x448x1024 .bf16) (arg11 : Memref sig .tc .vmem S4x448x1024 .f32)
    (v3 : Elt F .i32) (k0_hw1 : k0_chk1 i v3) (X6 : (BufTy.Contents (Elt F) arg6.view.ty)) (X7 : (BufTy.Contents (Elt F) arg7.view.ty)) (X8 : (BufTy.Contents (Elt F) arg8.view.ty)) (X10 : (BufTy.Contents (Elt F) arg10.view.ty)) (G11 : (BufTy.Contents (Elt F) arg11.view.ty))
    (k : Fin (k0_t3_loop v3).trips) : View.Piece (Elt F) S4x448x1024 .f32 :=
  ⟨Rect.unit (s := S4x448x1024) (k0_off5 v3 k) S1x448x1024.size (k0_off5_inb i v3 k0_hw1 k),
    k0_pay6 (arg10.view.readAt (Elt F) (Rect.unit (s := S4x448x1024) (k0_off5 v3 k) S1x448x1024.size (k0_off5_inb i v3 k0_hw1 k)).toLoadRect X10)
      (arg6.view.readAt (Elt F) (Rect.unit (s := S1x1024x1408) ![0, 0, 0] S1x1024x1408.size inb_S1x1024x1408_S1x1024x1408_0_0_0).toLoadRect X6)
      (arg7.view.readAt (Elt F) (Rect.unit (s := S1x1024x1408) ![0, 0, 0] S1x1024x1408.size inb_S1x1024x1408_S1x1024x1408_0_0_0).toLoadRect X7)
      (arg11.view.readAt (Elt F) (Rect.unit (s := S4x448x1024) (k0_off5 v3 k) S1x448x1024.size (k0_off5_inb i v3 k0_hw1 k)).toLoadRect G11)
      (arg8.view.readAt (Elt F) (Rect.unit (s := S1x1408x1024) ![0, 0, 0] S1x1408x1024.size inb_S1x1408x1024_S1x1408x1024_0_0_0).toLoadRect X8)⟩

/-- Row `y` of chunk `j` of a scratch of four chunks. -/
abbrev row3 (j : ℕ) (y : S1x448x1024.Idx) : S4x448x1024.Idx := ix3 ⟨j % 4, Nat.mod_lt _ (by decide)⟩ (y 1) (y 2)

/-- A load of chunk `j` reads its rows. -/
theorem readAt_chunk {e : EltTy} (M : Memref sig .tc .vmem S4x448x1024 e) (f : BufTy.Contents (Elt F) M.view.ty)
    {off : Fin 3 → ℕ} (inb : ∀ a, off a + S1x448x1024.size a ≤ S4x448x1024.size a) {j : ℕ} (hj : j < 4) (h : off = ![j, 0, 0]) :
    M.view.readAt (Elt F) (Rect.unit (s := S4x448x1024) off S1x448x1024.size inb).toLoadRect f = fun y => M.view.read (Elt F) f (row3 j y) := by
  subst h
  funext y
  rw [View.readAt_apply]
  congr 1
  funext a
  apply Fin.ext
  match a with
  | ⟨0, _⟩ => show j + 1 * (y 0).val = j % 4; have := (y 0).isLt; have h1 : (y 0).val < 1 := this; omega
  | ⟨1, _⟩ => show 0 + 1 * (y 1).val = (y 1).val; omega
  | ⟨2, _⟩ => show 0 + 1 * (y 2).val = (y 2).val; omega

/-- The stores of a loop's trips, trip `k` storing chunk `k`: a chunk below the trips run holds its trip's payload, -/
theorem read_pcs3 {e : EltTy} (M : Memref sig .tc .vmem S4x448x1024 e) (G : BufTy.Contents (Elt F) M.view.ty) {n : ℕ}
    (off : Fin n → Fin 3 → ℕ) (inb : ∀ k a, off k a + S1x448x1024.size a ≤ S4x448x1024.size a)
    (pay : Fin n → S1x448x1024.Idx → Elt F e) (hoff : ∀ k, off k = ![k.val, 0, 0]) (hn : n ≤ 4) :
    ∀ (k : ℕ) (j : Fin n) (y : S1x448x1024.Idx), j.val < k →
      M.view.read (Elt F) (M.view.writes (Elt F) G (pcs n (fun k => (⟨Rect.unit (s := S4x448x1024) (off k) S1x448x1024.size (inb k), pay k⟩ : View.Piece (Elt F) S4x448x1024 e)) k)) (row3 j.val y)
        = pay j y := by
  intro k
  induction k with
  | zero => intro j y h; omega
  | succ k ih =>
    intro j y h
    rw [pcs]
    by_cases hk : k < n
    · rw [dif_pos hk]
      by_cases hjk : j.val = k
      · obtain rfl : j = ⟨k, hk⟩ := Fin.ext hjk
        refine View.read_writes_cons_unit_of_mem M.view G (inb ⟨k, hk⟩) (pay ⟨k, hk⟩) _ _ y (hoff ⟨k, hk⟩) fun a => ?_
        match a with
        | ⟨0, _⟩ => show k % 4 = k + (y 0).val; have h1 : (y 0).val < 1 := (y 0).isLt; omega
        | ⟨1, _⟩ => show (y 1).val = 0 + (y 1).val; omega
        | ⟨2, _⟩ => show (y 2).val = 0 + (y 2).val; omega
      · refine (View.read_writes_cons_unit_of_not_mem M.view G (inb ⟨k, hk⟩) (pay ⟨k, hk⟩) _ _ (hoff ⟨k, hk⟩) 0 ?_).trans (ih j y (by omega))
        show j.val % 4 < k ∨ k + 1 ≤ j.val % 4
        have := j.isLt
        omega
    · rw [dif_neg hk]
      exact ih j y (by have := j.isLt; omega)

/-- and any other chunk holds what it held. -/
theorem read_pcs3_of_le {e : EltTy} (M : Memref sig .tc .vmem S4x448x1024 e) (G : BufTy.Contents (Elt F) M.view.ty) {n : ℕ}
    (off : Fin n → Fin 3 → ℕ) (inb : ∀ k a, off k a + S1x448x1024.size a ≤ S4x448x1024.size a)
    (pay : Fin n → S1x448x1024.Idx → Elt F e) (hoff : ∀ k, off k = ![k.val, 0, 0]) :
    ∀ (k j : ℕ) (y : S1x448x1024.Idx), j < 4 → k ≤ j →
      M.view.read (Elt F) (M.view.writes (Elt F) G (pcs n (fun k => (⟨Rect.unit (s := S4x448x1024) (off k) S1x448x1024.size (inb k), pay k⟩ : View.Piece (Elt F) S4x448x1024 e)) k)) (row3 j y)
        = M.view.read (Elt F) G (row3 j y) := by
  intro k
  induction k with
  | zero => intro j y _ _; rfl
  | succ k ih =>
    intro j y hj h
    rw [pcs]
    by_cases hk : k < n
    · rw [dif_pos hk]
      refine (View.read_writes_cons_unit_of_not_mem M.view G (inb ⟨k, hk⟩) (pay ⟨k, hk⟩) _ _ (hoff ⟨k, hk⟩) 0 ?_).trans (ih j y hj (by omega))
      show j % 4 < k ∨ k + 1 ≤ j % 4
      omega
    · rw [dif_neg hk]
      exact ih j y hj (by omega)

set_option warn.classDefReducibility false in
/-- The product loop by its invariant. -/
@[sl_loop] def loop3 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3) (hsm : Small v3)
    (X6 : (BufTy.Contents (Elt F) arg6.view.ty)) (X7 : (BufTy.Contents (Elt F) arg7.view.ty)) (X8 : (BufTy.Contents (Elt F) arg8.view.ty)) (X10 : (BufTy.Contents (Elt F) arg10.view.ty)) (G11 : (BufTy.Contents (Elt F) arg11.view.ty)) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 v3 k0_hw1 where
  inv k _ := iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} X10)
    ∗ (∃ f, (arg11.view.loc (c : Thread nD τ) ↦[arg11.view.set]{fullShare} f) ∗ ⌜f = arg11.view.writes (Elt F) G11 (pcs _ (piece3 c i arg6 arg7 arg8 arg10 arg11 v3 k0_hw1 X6 X7 X8 X10 G11) k)⌝))
  step k acc := by
    iintro ⟨H6, H7, H8, H10, ⟨%f11, H11, %h11⟩⟩
    subst h11
    have hk4 : k.val < 4 := by
      refine Nat.lt_of_lt_of_le k.isLt (show (k0_t3_loop v3).trips ≤ 4 from ?_)
      rw [trips3 hsm]; rcases hsm with rfl | rfl | rfl | rfl | rfl <;> decide
    have hrd : arg11.view.readAt (Elt F) (Rect.unit (s := S4x448x1024) (k0_off5 v3 k) S1x448x1024.size (k0_off5_inb i v3 k0_hw1 k)).toLoadRect
          (arg11.view.writes (Elt F) G11 (pcs _ (piece3 c i arg6 arg7 arg8 arg10 arg11 v3 k0_hw1 X6 X7 X8 X10 G11) k.val))
        = arg11.view.readAt (Elt F) (Rect.unit (s := S4x448x1024) (k0_off5 v3 k) S1x448x1024.size (k0_off5_inb i v3 k0_hw1 k)).toLoadRect G11 := by
      rw [readAt_chunk arg11 _ _ hk4 (off5_eq hsm k), readAt_chunk arg11 _ _ hk4 (off5_eq hsm k)]
      funext y
      exact read_pcs3_of_le arg11 G11 _ _ _ (off5_eq hsm) k.val k.val y hk4 (Nat.le_refl _)
    unfold k0_t3_body
    sl_exec
    sl_step
    isplitl [H6]; · iexact H6
    isplitl [H7]; · iexact H7
    isplitl [H8]; · iexact H8
    isplitl [H10]; · iexact H10
    rw [pcs_succ]
    iexists _; isplitl [H11]; · iexact H11
    ipureintro
    rw [View.writes_cons]
    unfold piece3
    rw [← hrd]
    rfl

/-- What the copy loop's trip stores in the output's block, -/
def piece5 (c : Dev nD) (i : grid0.Coords) (arg11 : Memref sig .tc .vmem S4x448x1024 .f32) (v3 : Elt F .i32) (k0_hw1 : k0_chk1 i v3)
    (k0_h2 : k0_cond2 i = 1#1) (X11 : (BufTy.Contents (Elt F) arg11.view.ty)) (k : Fin (k0_t5_loop v3).trips) : View.Piece (Elt F) S1x1x1792x1024 .bf16 :=
  ⟨Rect.unit (s := S1x1x1792x1024) (k0_off8 v3 k) S1x1x448x1024.size (k0_off8_inb i v3 k0_hw1 k k0_h2),
    k0_pay8 (arg11.view.readAt (Elt F) (Rect.unit (s := S4x448x1024) (k0_off7 v3 k) S1x448x1024.size (k0_off7_inb i v3 k0_hw1 k k0_h2)).toLoadRect X11)⟩
/-- and the zero loop's. -/
def piece7 (c : Dev nD) (i : grid0.Coords) (v3 : Elt F .i32) (k0_hw1 : k0_chk1 i v3)
    (k0_h2 : k0_cond2 i = 1#1) (k : Fin (k0_t7_loop v3).trips) : View.Piece (Elt F) S1x1x1792x1024 .bf16 :=
  ⟨Rect.unit (s := S1x1x1792x1024) (k0_off11 v3 k) S1x1x448x1024.size (k0_off11_inb i v3 k0_hw1 k k0_h2), k0_pay10 (F := F)⟩

set_option warn.classDefReducibility false in
/-- The copy loop by its invariant. -/
@[sl_loop] def loop5 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3) (k0_h2 : k0_cond2 i = 1#1) (G9 : (BufTy.Contents (Elt F) arg9.view.ty)) (X11 : (BufTy.Contents (Elt F) arg11.view.ty)) :
    LoopInvTy_k0_t5 (F := F) Unit ℕ (UR sig nD τ) ℕ 𝒱 c bd E i arg3 harg3 arg4 harg4 arg5 harg5 arg6 harg6 arg7 harg7 arg8 harg8 arg9 harg9 arg10 harg10 arg11 harg11 v3 k0_hw1 k0_h2 where
  inv k _ := iprop((arg11.view.loc (c : Thread nD τ) ↦[arg11.view.set]{fullShare} X11)
    ∗ (∃ f, (arg9.view.loc (c : Thread nD τ) ↦[arg9.view.set]{fullShare} f) ∗ ⌜f = arg9.view.writes (Elt F) G9 (pcs _ (piece5 c i arg11 v3 k0_hw1 k0_h2 X11) k)⌝))
  step k acc := by
    iintro ⟨H11, ⟨%f9, H9, %h9⟩⟩
    subst h9
    unfold k0_t5_body
    sl_exec
    sl_step
    isplitl [H11]; · iexact H11
    rw [pcs_succ]
    iexists _; isplitl [H9]; · iexact H9
    ipureintro; rfl

set_option warn.classDefReducibility false in
/-- The zero loop by its invariant. -/
@[sl_loop] def loop7 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3) (k0_h2 : k0_cond2 i = 1#1) (G9 : (BufTy.Contents (Elt F) arg9.view.ty)) :
    LoopInvTy_k0_t7 (F := F) Unit ℕ (UR sig nD τ) ℕ 𝒱 c bd E i arg3 harg3 arg4 harg4 arg5 harg5 arg6 harg6 arg7 harg7 arg8 harg8 arg9 harg9 arg10 harg10 arg11 harg11 v3 k0_hw1 k0_h2 where
  inv k _ := iprop(∃ f, (arg9.view.loc (c : Thread nD τ) ↦[arg9.view.set]{fullShare} f) ∗ ⌜f = arg9.view.writes (Elt F) G9 (pcs _ (piece7 c i v3 k0_hw1 k0_h2) k)⌝)
  step k acc := by
    iintro ⟨%f9, H9, %h9⟩
    subst h9
    unfold k0_t7_body
    sl_exec
    sl_step
    rw [pcs_succ]
    iexists _; isplitl [H9]; · iexact H9
    ipureintro; rfl

/-! ## The four that run none -/

set_option warn.classDefReducibility false in
/-- A remainder loop, which runs no trip. -/
@[sl_loop] def loop2 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3) (k0_h1 : k0_cond1 i = 1#1) (v16 : Vec F S1x1x1536 .i32) (hsm : Small v3) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 v3 k0_hw1 k0_h1 v16 where
  inv _ _ := iprop(emp)
  step k acc := absurd (Nat.lt_of_lt_of_eq k.isLt (trips2 hsm)) (Nat.not_lt_zero _)

set_option warn.classDefReducibility false in
/-- A remainder loop, which runs no trip. -/
@[sl_loop] def loop4 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3)  (hsm : Small v3) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 v3 k0_hw1  where
  inv _ _ := iprop(emp)
  step k acc := absurd (Nat.lt_of_lt_of_eq k.isLt (trips4 hsm)) (Nat.not_lt_zero _)

set_option warn.classDefReducibility false in
/-- A remainder loop, which runs no trip. -/
@[sl_loop] def loop6 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3) (k0_h2 : k0_cond2 i = 1#1) (hsm : Small v3) :
    LoopInvTy_k0_t6 (F := F) Unit ℕ (UR sig nD τ) ℕ 𝒱 c bd E i arg3 harg3 arg4 harg4 arg5 harg5 arg6 harg6 arg7 harg7 arg8 harg8 arg9 harg9 arg10 harg10 arg11 harg11 v3 k0_hw1 k0_h2 where
  inv _ _ := iprop(emp)
  step k acc := absurd (Nat.lt_of_lt_of_eq k.isLt (trips6 hsm)) (Nat.not_lt_zero _)

set_option warn.classDefReducibility false in
/-- A remainder loop, which runs no trip. -/
@[sl_loop] def loop8 (𝒱 : Variants) (c : Dev nD) (bd : Option 𝒱.V) (E : Set ℕ) (i : grid0.Coords) (arg3 : Memref sig .tc .smem S88 .i32) (harg3 : arg3.IsWhole) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole)
    (v3 : Elt F .i32) (k0_hw1 : k0_chk1 i v3) (k0_h2 : k0_cond2 i = 1#1) (hsm : Small v3) :
    LoopInvTy_k0_t8 (F := F) Unit ℕ (UR sig nD τ) ℕ 𝒱 c bd E i arg3 harg3 arg4 harg4 arg5 harg5 arg6 harg6 arg7 harg7 arg8 harg8 arg9 harg9 arg10 harg10 arg11 harg11 v3 k0_hw1 k0_h2 where
  inv _ _ := iprop(emp)
  step k acc := absurd (Nat.lt_of_lt_of_eq k.isLt (trips8 hsm)) (Nat.not_lt_zero _)

end Cert.Proof.Experts

end
-- ==== Proof.ExpertsRun.lean ====
/- The experts' body at a point, run: what its scratch buffers hold after a first half, and its output after a second. -/
module

public import proofs.«01_k».proof.Proof.ExpertsLoops
public import Idealize.ShloMosaic.Lib.VecWindow
public import Idealize.ShloMosaic.Lib.Pipeline.FrameBody
public import Idealize.ShloMosaic.Lib.Ring
public import Idealize.ShloMosaic.Lib.WordCmp

@[expose] public section

set_option maxRecDepth 16384

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The counts' table as the body is handed it. -/
abbrev tbM : Memref sig .tc .smem S88 .i32 := Memref.whole main_arg0
abbrev htbM : tbM.IsWhole := Memref.isWhole_whole _
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The count the body reads: its expert's number of row chunks in its row tile. -/
abbrev word (c : Dev nD) (i : grid0.Coords) (xt : Buf (Elt F) (tbM.view.loc (c : Thread nD τ))) : BitVec 32 :=
  tbM.view.readAt (Elt F) (Rect.unit (s := S88) (k0_off1 i) S1.size (k0_off1_inb i)).toLoadRect xt (Shape.Idx.first (numel1_S1.symm ▸ Nat.one_pos))

/-- The slots of the body's expert: its row of the slots' block. -/
def slotsOf (i : grid0.Coords) (h : k0_cond1 i = 1#1) (x0 : Vec F S1x8x1536 .i32) : Vec F S1x1x1536 .i32 :=
  fun y => x0 ((Rect.unit (s := S1x8x1536) (k0_off2 i) S1x1x1536.size (k0_off2_inb i h)).toLoadRect.idx y)

/-- What the scratch buffers hold after a first half: chunk `j` of the one its gathered rows, of the other the product through the
    first half of the hidden units. -/
def Half (v : BitVec 32) (v16 : Vec F S1x1x1536 .i32) (x1 : Vec F S1536x1024 .bf16) (x2 x3 : Vec F S1x1024x1408 .bf16) (x4 : Vec F S1x1408x1024 .bf16)
    (X : Vec F S4x448x1024 .bf16) (Y : Vec F S4x448x1024 .f32) : Prop :=
  ∀ (j : ℕ) (h : j < (k0_t1_loop v).trips) (y : S1x448x1024.Idx),
    X (row3 j y) = k0_pay2 (F := F) v v16 ⟨j, h⟩ x1 y
      ∧ Y (row3 j y) = k0_pay6 (F := F) (fun y => X (row3 j y)) x2 x3 (k0_pay3 (F := F)) x4 y

/-- Row `y` of chunk `j` of the output's block. -/
abbrev row4 (j : ℕ) (y : S1x1x448x1024.Idx) : S1x1x1792x1024.Idx :=
  ix4 (y 0) (y 1) ⟨(448 * j + (y 2).val) % 1792, Nat.mod_lt _ (by decide)⟩ (y 3)

/-- What the output's block holds after a second half. -/
def Out (v : BitVec 32) (x2 x3 : Vec F S1x1024x1408 .bf16) (x4 : Vec F S1x1408x1024 .bf16)
    (X : Vec F S4x448x1024 .bf16) (Y : Vec F S4x448x1024 .f32) (W : Vec F S1x1x1792x1024 .bf16) : Prop :=
  (∀ (j : ℕ), j < v.toNat → ∀ y : S1x1x448x1024.Idx,
      W (row4 j y) = k0_pay8 (F := F) (k0_pay6 (F := F) (fun y => X (row3 j y)) x2 x3 (fun y => Y (row3 j y)) x4) y)
    ∧ ∀ (j : ℕ), v.toNat ≤ j → j < 4 → ∀ y : S1x1x448x1024.Idx, W (row4 j y) = k0_pay10 (F := F) y

theorem small_le {v : BitVec 32} (h : Small v) : v.toNat ≤ 4 := by
  rcases h with rfl | rfl | rfl | rfl | rfl <;> decide
theorem trips1_le {v : BitVec 32} (h : Small v) : (k0_t1_loop v).trips ≤ 4 := (trips1 h).trans_le (small_le h)
theorem trips3_le {v : BitVec 32} (h : Small v) : (k0_t3_loop v).trips ≤ 4 := (trips3 h).trans_le (small_le h)

/-! ## What the loops' stores leave -/

section leave
variable (c : Dev nD) (i : grid0.Coords) {arg4 : Memref sig .tc .vmem S1x8x1536 .i32} {arg5 : Memref sig .tc .vmem S1536x1024 .bf16} {arg6 : Memref sig .tc .vmem S1x1024x1408 .bf16} {arg7 : Memref sig .tc .vmem S1x1024x1408 .bf16} {arg8 : Memref sig .tc .vmem S1x1408x1024 .bf16} {arg9 : Memref sig .tc .vmem S1x1x1792x1024 .bf16} {arg10 : Memref sig .tc .vmem S4x448x1024 .bf16} {arg11 : Memref sig .tc .vmem S4x448x1024 .f32} {v : BitVec 32} (hw : k0_chk1 i v) (hsm : Small v)

include hsm

theorem gathered_read (h1 : k0_cond1 i = 1#1) (v16 : Vec F S1x1x1536 .i32) (X5 : BufTy.Contents (Elt F) arg5.view.ty)
    (G10 : BufTy.Contents (Elt F) arg10.view.ty) (j : ℕ) (hj : j < (k0_t1_loop v).trips) (y : S1x448x1024.Idx) :
    arg10.view.read (Elt F) (arg10.view.writes (Elt F) G10 (pcs _ (piece1a c i arg5 v hw h1 v16 X5) (k0_t1_loop v).trips)) (row3 j y)
      = k0_pay2 v v16 ⟨j, hj⟩ (arg5.view.read (Elt F) X5) y := by
  refine (read_pcs3 arg10 G10 (k0_off3 v) _ _ (off3_eq hsm) (trips1_le hsm) _ ⟨j, hj⟩ y hj).trans ?_
  rw [View.readAt_full]

theorem cleared_read (h1 : k0_cond1 i = 1#1) (G11 : BufTy.Contents (Elt F) arg11.view.ty) (j : ℕ) (hj : j < (k0_t1_loop v).trips) (y : S1x448x1024.Idx) :
    arg11.view.read (Elt F) (arg11.view.writes (Elt F) G11 (pcs _ (piece1b c i v hw h1) (k0_t1_loop v).trips)) (row3 j y)
      = k0_pay3 (F := F) y :=
  read_pcs3 arg11 G11 (k0_off3 v) _ _ (off3_eq hsm) (trips1_le hsm) _ ⟨j, hj⟩ y hj

theorem sums_read (X6 : BufTy.Contents (Elt F) arg6.view.ty) (X7 : BufTy.Contents (Elt F) arg7.view.ty) (X8 : BufTy.Contents (Elt F) arg8.view.ty)
    (X10 : BufTy.Contents (Elt F) arg10.view.ty) (G11 : BufTy.Contents (Elt F) arg11.view.ty) (j : ℕ) (hj : j < (k0_t3_loop v).trips) (y : S1x448x1024.Idx) :
    arg11.view.read (Elt F) (arg11.view.writes (Elt F) G11 (pcs _ (piece3 c i arg6 arg7 arg8 arg10 arg11 v hw X6 X7 X8 X10 G11) (k0_t3_loop v).trips)) (row3 j y)
      = k0_pay6 (fun y => arg10.view.read (Elt F) X10 (row3 j y)) (arg6.view.read (Elt F) X6) (arg7.view.read (Elt F) X7)
          (fun y => arg11.view.read (Elt F) G11 (row3 j y)) (arg8.view.read (Elt F) X8) y := by
  have hj4 : j < 4 := Nat.lt_of_lt_of_le hj (trips3_le hsm)
  refine (read_pcs3 arg11 G11 (k0_off5 v) _ _ (off5_eq hsm) (trips3_le hsm) _ ⟨j, hj⟩ y hj).trans ?_
  rw [View.readAt_full, View.readAt_full, View.readAt_full, readAt_chunk arg10 X10 _ hj4 (off5_eq hsm ⟨j, hj⟩), readAt_chunk arg11 G11 _ hj4 (off5_eq hsm ⟨j, hj⟩)]

end leave

/-- The stores of a loop's trips into the output's block, trip `k` storing chunk `b + k`: a chunk of a trip run holds its payload, -/
theorem read_pcs4 (M : Memref sig .tc .vmem S1x1x1792x1024 .bf16) (G : BufTy.Contents (Elt F) M.view.ty) {n : ℕ} (b : ℕ)
    (off : Fin n → Fin 4 → ℕ) (inb : ∀ k a, off k a + S1x1x448x1024.size a ≤ S1x1x1792x1024.size a)
    (pay : Fin n → S1x1x448x1024.Idx → Elt F .bf16) (hoff : ∀ k, off k = ![0, 0, 448 * (b + k.val), 0]) (hn : b + n ≤ 4) :
    ∀ (k : ℕ) (j : Fin n) (y : S1x1x448x1024.Idx), j.val < k →
      M.view.read (Elt F) (M.view.writes (Elt F) G (pcs n (fun k => (⟨Rect.unit (s := S1x1x1792x1024) (off k) S1x1x448x1024.size (inb k), pay k⟩ : View.Piece (Elt F) S1x1x1792x1024 .bf16)) k)) (row4 (b + j.val) y)
        = pay j y := by
  intro k
  induction k with
  | zero => intro j y h; omega
  | succ k ih =>
    intro j y h
    have hjn := j.isLt
    have hy : (y 2).val < 448 := (y 2).isLt
    rw [pcs]
    by_cases hk : k < n
    · rw [dif_pos hk]
      by_cases hjk : j.val = k
      · obtain rfl : j = ⟨k, hk⟩ := Fin.ext hjk
        refine View.read_writes_cons_unit_of_mem M.view G (inb ⟨k, hk⟩) (pay ⟨k, hk⟩) _ _ y (hoff ⟨k, hk⟩) fun a => ?_
        match a with
        | ⟨0, _⟩ => show (y 0).val = 0 + (y 0).val; omega
        | ⟨1, _⟩ => show (y 1).val = 0 + (y 1).val; omega
        | ⟨2, _⟩ => show (448 * (b + k) + (y 2).val) % 1792 = 448 * (b + k) + (y 2).val; omega
        | ⟨3, _⟩ => show (y 3).val = 0 + (y 3).val; omega
      · refine (View.read_writes_cons_unit_of_not_mem M.view G (inb ⟨k, hk⟩) (pay ⟨k, hk⟩) _ _ (hoff ⟨k, hk⟩) 2 ?_).trans (ih j y (by omega))
        show (448 * (b + j.val) + (y 2).val) % 1792 < 448 * (b + k) ∨ 448 * (b + k) + 448 ≤ (448 * (b + j.val) + (y 2).val) % 1792
        omega
    · rw [dif_neg hk]
      exact ih j y (by omega)

/-- and a chunk of none what it held. -/
theorem read_pcs4_of_lt (M : Memref sig .tc .vmem S1x1x1792x1024 .bf16) (G : BufTy.Contents (Elt F) M.view.ty) {n : ℕ} (b : ℕ)
    (off : Fin n → Fin 4 → ℕ) (inb : ∀ k a, off k a + S1x1x448x1024.size a ≤ S1x1x1792x1024.size a)
    (pay : Fin n → S1x1x448x1024.Idx → Elt F .bf16) (hoff : ∀ k, off k = ![0, 0, 448 * (b + k.val), 0]) :
    ∀ (k j : ℕ) (y : S1x1x448x1024.Idx), j < b → j < 4 →
      M.view.read (Elt F) (M.view.writes (Elt F) G (pcs n (fun k => (⟨Rect.unit (s := S1x1x1792x1024) (off k) S1x1x448x1024.size (inb k), pay k⟩ : View.Piece (Elt F) S1x1x1792x1024 .bf16)) k)) (row4 j y)
        = M.view.read (Elt F) G (row4 j y) := by
  intro k
  induction k with
  | zero => intro j y _ _; rfl
  | succ k ih =>
    intro j y hj h4
    have hy : (y 2).val < 448 := (y 2).isLt
    rw [pcs]
    by_cases hk : k < n
    · rw [dif_pos hk]
      refine (View.read_writes_cons_unit_of_not_mem M.view G (inb ⟨k, hk⟩) (pay ⟨k, hk⟩) _ _ (hoff ⟨k, hk⟩) 2 ?_).trans (ih j y hj h4)
      show (448 * j + (y 2).val) % 1792 < 448 * (b + k) ∨ 448 * (b + k) + 448 ≤ (448 * j + (y 2).val) % 1792
      omega
    · rw [dif_neg hk]
      exact ih j y hj h4

theorem off8_eq' {v : BitVec 32} (h : Small v) (k : Fin (k0_t5_loop v).trips) : k0_off8 v k = ![0, 0, 448 * (0 + k.val), 0] := by
  rw [off8_eq h, Nat.zero_add]

/-- What the copy and the zero loop leave of the output's block. -/
theorem output_read (c : Dev nD) (i : grid0.Coords) {arg9 : Memref sig .tc .vmem S1x1x1792x1024 .bf16} {arg11 : Memref sig .tc .vmem S4x448x1024 .f32} {v : BitVec 32} (hw : k0_chk1 i v) (hsm : Small v)
    (h2 : k0_cond2 i = 1#1) (G9 : BufTy.Contents (Elt F) arg9.view.ty) (X11 : BufTy.Contents (Elt F) arg11.view.ty) :
    (∀ j, j < v.toNat → ∀ y : S1x1x448x1024.Idx,
      arg9.view.read (Elt F) (arg9.view.writes (Elt F) (arg9.view.writes (Elt F) G9 (pcs _ (piece5 c i arg11 v hw h2 X11) (k0_t5_loop v).trips))
        (pcs _ (piece7 c i v hw h2) (k0_t7_loop v).trips)) (row4 j y)
        = k0_pay8 (F := F) (fun y => arg11.view.read (Elt F) X11 (row3 j y)) y)
    ∧ (∀ j, v.toNat ≤ j → j < 4 → ∀ y : S1x1x448x1024.Idx,
      arg9.view.read (Elt F) (arg9.view.writes (Elt F) (arg9.view.writes (Elt F) G9 (pcs _ (piece5 c i arg11 v hw h2 X11) (k0_t5_loop v).trips))
        (pcs _ (piece7 c i v hw h2) (k0_t7_loop v).trips)) (row4 j y) = k0_pay10 (F := F) y) := by
  have hv := small_le hsm
  refine ⟨fun j hj y => ?_, fun j hj h4 y => ?_⟩
  · have hj5 : j < (k0_t5_loop v).trips := by rw [trips5 hsm]; exact hj
    refine (read_pcs4_of_lt arg9 _ v.toNat (k0_off11 v) _ _ (off11_eq hsm) _ j y hj (by omega)).trans ?_
    have := read_pcs4 arg9 G9 0 (k0_off8 v) (fun k => k0_off8_inb i v hw k h2)
      (fun k => k0_pay8 (arg11.view.readAt (Elt F) (Rect.unit (s := S4x448x1024) (k0_off7 v k) S1x448x1024.size (k0_off7_inb i v hw k h2)).toLoadRect X11))
      (off8_eq' hsm) (by rw [trips5 hsm]; omega) (k0_t5_loop v).trips ⟨j, hj5⟩ y hj5
    rw [Nat.zero_add] at this
    refine this.trans ?_
    rw [readAt_chunk arg11 X11 _ (Nat.lt_of_lt_of_le hj hv) (off7_eq hsm ⟨j, hj5⟩)]
  · have hj7 : j - v.toNat < (k0_t7_loop v).trips := by rw [trips7 hsm]; omega
    have := read_pcs4 arg9 (arg9.view.writes (Elt F) G9 (pcs _ (piece5 c i arg11 v hw h2 X11) (k0_t5_loop v).trips)) v.toNat (k0_off11 v)
      (fun k => k0_off11_inb i v hw k h2) (fun _ => k0_pay10 (F := F))
      (off11_eq hsm) (by rw [trips7 hsm]; omega) (k0_t7_loop v).trips ⟨j - v.toNat, hj7⟩ y hj7
    rw [show v.toNat + (j - v.toNat) = j by omega] at this
    exact this

/-- THE FIRST HALF's run. -/
theorem runA (c : Dev nD) (i : grid0.Coords) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole) (h1 : k0_cond1 i = 1#1) (h2 : ¬k0_cond2 i = 1#1)
    (x0 : Vec F S1x8x1536 .i32) (x1 : Vec F S1536x1024 .bf16) (x2 x3 : Vec F S1x1024x1408 .bf16) (x4 : Vec F S1x1408x1024 .bf16)
    (xt : Buf (Elt F) (tbM.view.loc (c : Thread nD τ))) (hsm : Small (word c i xt)) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ (∃ d, owns (c : Thread nD τ) arg10 fullShare d) ∗ (∃ d, owns (c : Thread nD τ) arg11 fullShare d) ∗ tbPt c tbM xt
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ X Y, ⌜Half (word c i xt) (slotsOf i h1 x0) x1 x2 x3 x4 X Y⌝ ∗ owns (c : Thread nD τ) arg10 fullShare X ∗ owns (c : Thread nD τ) arg11 fullShare Y)
            ∗ tbPt c tbM xt) -∗ K ⟨⟩))
      ⊢ wp frame (wpE (defs₀ (F := F)) Variants.none c none) E (cc0_moe_experts i tbM htbM arg4 harg4 arg5 harg5 arg6 harg6 arg7 harg7 arg8 harg8 arg9 harg9 arg10 harg10 arg11 harg11) K := by
  have hw : k0_chk1 i (word c i xt) := chk_of_small i hsm
  simp only [cc0_moe_experts_eq_skeleton]; unfold cc0_moe_experts_skel
  unfold owns
  iintro ⟨⟨%f0, %hf0, H4⟩, ⟨%f1, %hf1, H5⟩, ⟨%f2, %hf2, H6⟩, ⟨%f3, %hf3, H7⟩, ⟨%f4, %hf4, H8⟩, ⟨%d10, %f10, -, H10⟩, ⟨%d11, %f11, -, H11⟩, HT, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact h1 | sl_exact h2 | sl_exact hw)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitr [HT]
  swap; · iexact HT
  iexists _, _
  isplitr
  swap
  · isplitl [H10]
    · iexists _; isplitr; swap; · iexact H10
      ipureintro; rfl
    · iexists _; isplitr; swap; · iexact H11
      ipureintro; rfl
  ipureintro
  intro j hj y
  refine ⟨(gathered_read c i hw hsm h1 _ _ f10 j hj y).trans ?_, ?_⟩
  · rw [hf1]
    unfold slotsOf
    conv_rhs => rw [← hf0]
    rfl
  · have hj3 : j < (k0_t3_loop (word c i xt)).trips := by rw [trips3 hsm, ← trips1 hsm]; exact hj
    refine (congrArg (fun z => arg11.view.read (Elt F) z (row3 j y)) (View.writes_append _ _ _ _)).trans ?_
    refine (sums_read c i hw hsm _ _ _ _ _ j hj3 y).trans ?_
    rw [hf2, hf3, hf4]
    exact congrArg (fun z => k0_pay6 (F := F) _ x2 x3 z x4 y) (funext fun y => cleared_read c i hw hsm h1 f11 j hj y)

/-- THE SECOND HALF's run. -/
theorem runB (c : Dev nD) (i : grid0.Coords) (arg4 : Memref sig .tc .vmem S1x8x1536 .i32) (harg4 : arg4.IsWhole) (arg5 : Memref sig .tc .vmem S1536x1024 .bf16) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1x1792x1024 .bf16) (harg9 : arg9.IsWhole) (arg10 : Memref sig .tc .vmem S4x448x1024 .bf16) (harg10 : arg10.IsWhole) (arg11 : Memref sig .tc .vmem S4x448x1024 .f32) (harg11 : arg11.IsWhole) (h1 : ¬k0_cond1 i = 1#1) (h2 : k0_cond2 i = 1#1)
    (x0 : Vec F S1x8x1536 .i32) (x1 : Vec F S1536x1024 .bf16) (x2 x3 : Vec F S1x1024x1408 .bf16) (x4 : Vec F S1x1408x1024 .bf16)
    (X : Vec F S4x448x1024 .bf16) (Y : Vec F S4x448x1024 .f32)
    (xt : Buf (Elt F) (tbM.view.loc (c : Thread nD τ))) (hsm : Small (word c i xt)) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ (∃ d, owns (c : Thread nD τ) arg9 fullShare d)
        ∗ owns (c : Thread nD τ) arg10 fullShare X ∗ owns (c : Thread nD τ) arg11 fullShare Y ∗ tbPt c tbM xt
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ W, ⌜Out (word c i xt) x2 x3 x4 X Y W⌝ ∗ owns (c : Thread nD τ) arg9 fullShare W)
            ∗ (∃ d, owns (c : Thread nD τ) arg10 fullShare d) ∗ (∃ d, owns (c : Thread nD τ) arg11 fullShare d)
            ∗ tbPt c tbM xt) -∗ K ⟨⟩))
      ⊢ wp frame (wpE (defs₀ (F := F)) Variants.none c none) E (cc0_moe_experts i tbM htbM arg4 harg4 arg5 harg5 arg6 harg6 arg7 harg7 arg8 harg8 arg9 harg9 arg10 harg10 arg11 harg11) K := by
  have hw : k0_chk1 i (word c i xt) := chk_of_small i hsm
  simp only [cc0_moe_experts_eq_skeleton]; unfold cc0_moe_experts_skel
  unfold owns
  iintro ⟨⟨%f0, %hf0, H4⟩, ⟨%f1, %hf1, H5⟩, ⟨%f2, %hf2, H6⟩, ⟨%f3, %hf3, H7⟩, ⟨%f4, %hf4, H8⟩, ⟨%d9, %f9, -, H9⟩, ⟨%f10, %hf10, H10⟩, ⟨%f11, %hf11, H11⟩, HT, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact h1 | sl_exact h2 | sl_exact hw)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitr [H10 H11 HT]
  swap
  · isplitl [H10]
    · iexists _, _; isplitr; swap; · iexact H10
      ipureintro; rfl
    isplitl [H11]
    · iexists _, _; isplitr; swap; · iexact H11
      ipureintro; rfl
    iexact HT
  iexists _
  isplitr
  swap
  · iexists _; isplitr; swap; · iexact H9
    ipureintro; rfl
  ipureintro
  have ho := output_read c i hw hsm h2 f9
    (arg11.view.writes (Elt F) f11 (pcs _ (piece3 c i arg6 arg7 arg8 arg10 arg11 (word c i xt) hw (harg6.unread x2) (harg7.unread x3) (harg8.unread x4) f10 f11) (k0_t3_loop (word c i xt)).trips))
  refine ⟨fun j hj y => ?_, fun j hj h4 y => ?_⟩
  · refine (congrArg (fun z => arg9.view.read (Elt F) z (row4 j y)) (View.writes_append _ _ _ _)).trans ?_
    refine (ho.1 j hj y).trans ?_
    have hj3 : j < (k0_t3_loop (word c i xt)).trips := by rw [trips3 hsm]; exact hj
    refine congrArg (fun z => k0_pay8 (F := F) z y) (funext fun y => ?_)
    refine (sums_read c i hw hsm _ _ _ _ _ j hj3 y).trans ?_
    rw [hf2, hf3, hf4, hf10, hf11]
  · refine (congrArg (fun z => arg9.view.read (Elt F) z (row4 j y)) (View.writes_append _ _ _ _)).trans ?_
    exact ho.2 j hj h4 y

end Cert.Proof.Experts

end
-- ==== Proof.ExpertsFrame.lean ====
/- The experts' call launched: its body point by point over the half-summed chunks its scratch carries from a first half to the
   second, the run of the whole call at any values, and its frame. -/
module

public import proofs.«01_k».proof.Proof.ExpertsRun
public import Idealize.ShloMosaic.Lib.Pipeline.Frame
public import Idealize.ShloMosaic.Lib.Claim

@[expose] public section

set_option maxRecDepth 16384

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The output's block, named -/

/-- Chunk `j` of the output's block: the gathered rows through both halves of the hidden units. -/
def chunk (v : BitVec 32) (v16 : Vec F S1x1x1536 .i32) (x1 : Vec F S1536x1024 .bf16) (x2 x3 : Vec F S1x1024x1408 .bf16) (x4 : Vec F S1x1408x1024 .bf16)
    (u2 u3 : Vec F S1x1024x1408 .bf16) (u4 : Vec F S1x1408x1024 .bf16) (j : Fin (k0_t1_loop v).trips) : Vec F S1x1x448x1024 .bf16 :=
  k0_pay8 (F := F) (k0_pay6 (F := F) (k0_pay2 (F := F) v v16 j x1) u2 u3 (k0_pay6 (F := F) (k0_pay2 (F := F) v v16 j x1) x2 x3 (k0_pay3 (F := F)) x4) u4)

/-- A row's place within its chunk. -/
abbrev within (z : S1x1x1792x1024.Idx) : S1x1x448x1024.Idx := ix4 (z 0) (z 1) ⟨(z 2).val % 448, Nat.mod_lt _ (by decide)⟩ (z 3)

/-- The output's block after both halves: its expert's chunks, zero past their number. -/
def outBlk (v : BitVec 32) (v16 : Vec F S1x1x1536 .i32) (x1 : Vec F S1536x1024 .bf16) (x2 x3 : Vec F S1x1024x1408 .bf16) (x4 : Vec F S1x1408x1024 .bf16)
    (u2 u3 : Vec F S1x1024x1408 .bf16) (u4 : Vec F S1x1408x1024 .bf16) : Vec F S1x1x1792x1024 .bf16 := fun z =>
  if h : (z 2).val / 448 < (k0_t1_loop v).trips then chunk v v16 x1 x2 x3 x4 u2 u3 u4 ⟨(z 2).val / 448, h⟩ (within z) else k0_pay10 (F := F) (within z)

theorem outBlk_eq {v : BitVec 32} (hsm : Small v) {v16 : Vec F S1x1x1536 .i32} {x1 : Vec F S1536x1024 .bf16} {x2 x3 : Vec F S1x1024x1408 .bf16} {x4 : Vec F S1x1408x1024 .bf16}
    {u2 u3 : Vec F S1x1024x1408 .bf16} {u4 : Vec F S1x1408x1024 .bf16} {X : Vec F S4x448x1024 .bf16} {Y : Vec F S4x448x1024 .f32} {W : Vec F S1x1x1792x1024 .bf16}
    (hh : Half v v16 x1 x2 x3 x4 X Y) (ho : Out v u2 u3 u4 X Y W) : W = outBlk v v16 x1 x2 x3 x4 u2 u3 u4 := by
  funext z
  have hz : (z 2).val < 1792 := (z 2).isLt
  have e : row4 ((z 2).val / 448) (within z) = z := by
    funext a
    match a with
    | ⟨0, _⟩ => rfl
    | ⟨1, _⟩ => rfl
    | ⟨2, _⟩ => exact Fin.ext (show (448 * ((z 2).val / 448) + (z 2).val % 448) % 1792 = (z 2).val by omega)
    | ⟨3, _⟩ => rfl
  unfold outBlk
  by_cases h : (z 2).val / 448 < (k0_t1_loop v).trips
  · rw [dif_pos h]
    have hX : (fun y => X (row3 ((z 2).val / 448) y)) = k0_pay2 (F := F) v v16 ⟨(z 2).val / 448, h⟩ x1 := funext fun y => (hh _ h y).1
    have hY : (fun y => Y (row3 ((z 2).val / 448) y)) = k0_pay6 (F := F) (k0_pay2 (F := F) v v16 ⟨(z 2).val / 448, h⟩ x1) x2 x3 (k0_pay3 (F := F)) x4 :=
      funext fun y => by rw [(hh _ h y).2, hX]
    have := ho.1 ((z 2).val / 448) (by rw [← trips1 hsm]; exact h) (within z)
    rw [e, hX, hY] at this
    exact this
  · rw [dif_neg h]
    have := ho.2 ((z 2).val / 448) (by rw [← trips1 hsm]; omega) (by omega) (within z)
    rw [e] at this
    exact this

/-! ## The points -/

theorem coord0 (t : Fin grid0.N) : (grid0.coords t 0).val = t.val / 22 % 8 := Pipeline.Grid.coords_val t 0 (by decide) rfl
theorem coord1 (t : Fin grid0.N) : (grid0.coords t 1).val = t.val / 2 % 11 := Pipeline.Grid.coords_val t 1 (by decide) rfl
theorem coord2 (t : Fin grid0.N) : (grid0.coords t 2).val = t.val / 1 % 2 := Pipeline.Grid.coords_val t 2 (by decide) rfl

/-- The even points are the first halves, -/
theorem first_iff (t : Fin grid0.N) : k0_cond1 (grid0.coords t) = 1#1 ↔ t.val % 2 = 0 := by
  have ht : t.val < 176 := Nat.lt_of_lt_of_eq t.isLt N_0
  have e2 := coord2 t
  simp only [k0_cond1, e2]
  word_cmp
/-- the odd points the second. -/
theorem second_iff (t : Fin grid0.N) : k0_cond2 (grid0.coords t) = 1#1 ↔ t.val % 2 = 1 := by
  have ht : t.val < 176 := Nat.lt_of_lt_of_eq t.isLt N_0
  have e2 := coord2 t
  simp only [k0_cond2, e2]
  word_cmp

/-- The point before. -/
abbrev prev (t : Fin grid0.N) : Fin grid0.N := ⟨t.val - 1, Nat.lt_of_le_of_lt (Nat.sub_le _ _) t.isLt⟩

theorem word_congr (c : Dev nD) (xt : Buf (Elt F) (tbM.view.loc (c : Thread nD τ))) {i i' : grid0.Coords}
    (h0 : (i 0).val = (i' 0).val) (h1 : (i 1).val = (i' 1).val) : word c i xt = word c i' xt := by
  have h : k0_off1 i = k0_off1 i' := by unfold k0_off1; rw [h0, h1]
  have key : ∀ (o o' : Fin 1 → ℕ) (hi : ∀ a, o a + S1.size a ≤ S88.size a) (hi' : ∀ a, o' a + S1.size a ≤ S88.size a), o = o' →
      tbM.view.readAt (Elt F) (Rect.unit (s := S88) o S1.size hi).toLoadRect xt (Shape.Idx.first (numel1_S1.symm ▸ Nat.one_pos))
        = tbM.view.readAt (Elt F) (Rect.unit (s := S88) o' S1.size hi').toLoadRect xt (Shape.Idx.first (numel1_S1.symm ▸ Nat.one_pos)) := by
    intro o o' hi hi' e; subst e; rfl
  exact key _ _ _ _ h

/-- A second half reads the count its first half read. -/
theorem word_prev (c : Dev nD) (xt : Buf (Elt F) (tbM.view.loc (c : Thread nD τ))) (t : Fin grid0.N) (h : t.val % 2 = 1) :
    word c (grid0.coords t) xt = word c (grid0.coords (prev t)) xt :=
  word_congr c xt (by rw [coord0, coord0]; show t.val / 22 % 8 = (t.val - 1) / 22 % 8; omega)
    (by rw [coord1, coord1]; show t.val / 2 % 11 = (t.val - 1) / 2 % 11; omega)

variable (m : (ℓ : Loc nD τ sig) → Buf (Elt F) ℓ) (ρ : Dev nD → PrngReg)

/-! ## The call's arrays and tables -/

abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main (fun _ => rfl)

/-- The counts' table, as launched. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The count at point `t`. -/
abbrev wordAt (c : Dev nD) (t : Fin (cfgM m).N) : BitVec 32 := word c (grid0.coords t) (tbl m 0)

/-- What the scratch holds after the first half at point `t`. -/
def HalfAt (c : Dev nD) (t : Fin (cfgM m).N) (X : Vec F S4x448x1024 .bf16) (Y : Vec F S4x448x1024 .f32) : Prop :=
  ∀ h1 : k0_cond1 (grid0.coords t) = 1#1,
    Half (wordAt m c t) (slotsOf (grid0.coords t) h1 (iblk m c 0 t)) (iblk m c 1 t) (iblk m c 2 t) (iblk m c 3 t) (iblk m c 4 t) X Y

/-- What the second half at point `t` leaves in the output's block. -/
def outAt (c : Dev nD) (t : Fin (cfgM m).N) : Vec F S1x1x1792x1024 .bf16 :=
  if h : k0_cond1 (grid0.coords (prev t)) = 1#1 then
    outBlk (wordAt m c (prev t)) (slotsOf (grid0.coords (prev t)) h (iblk m c 0 (prev t))) (iblk m c 1 (prev t)) (iblk m c 2 (prev t)) (iblk m c 3 (prev t)) (iblk m c 4 (prev t))
      (iblk m c 2 t) (iblk m c 3 t) (iblk m c 4 t)
  else fun z => k0_pay10 (F := F) (within z)

abbrev scX : Memref sig .tc .vmem S4x448x1024 .bf16 := Memref.whole cc0_scratch0
abbrev scY : Memref sig .tc .vmem S4x448x1024 .f32 := Memref.whole cc0_scratch1

theorem PhiA_eq (c : Dev nD) :
    (Pipeline.ΦA spec0 c : sProp 𝕄)
      = iprop(iprop((∃ d, owns (c : Thread nD τ) scX fullShare d) ∗ (∃ d, owns (c : Thread nD τ) scY fullShare d)) ∗ (∃ r, prngReg c r)) := by
  unfold Pipeline.ΦA; rw [scopedRest0_eq]; simp only [scX, scY, owns_whole]; try rfl

/-- What the scratch holds before position `n`: the half-summed chunks of the first half at the position before, at an odd one. -/
def PhiS (c : Dev nD) (n : ℕ) (hn : n ≤ (cfgM m).N) : sProp 𝕄 :=
  if h : n % 2 = 1 then
    iprop((∃ X Y, ⌜HalfAt m c ⟨n - 1, by omega⟩ X Y⌝ ∗ owns (c : Thread nD τ) scX fullShare X ∗ owns (c : Thread nD τ) scY fullShare Y) ∗ (∃ r, prngReg c r))
  else Pipeline.ΦA spec0 c

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := iprop(PhiS m c t.val (Nat.le_of_lt_succ t.isLt) ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = outAt m c t := by dsimp only [dats]; try rfl

/-- An input's staging buffer holds its block at every point. -/
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- The output is written back at the odd points. -/
theorem flush0_5 : ∀ t : Fin (cfgM m).N, ((cfgM m).win 5).flush t = true ↔ t.val % 2 = 1 :=
  (fun t => Pipeline.Window.flushOf_reads cc0_transform_5 reads0_5 hreads0_5 1 (by decide) (by decide) (Pipeline.Window.sep_of_coord cc0_transform_5 1 1 (fun _ => rfl) (by decide)) (P := 2) (m := 1) (by decide) rfl t : ∀ t : Fin grid0.N, Pipeline.Window.flushOf grid0 true cc0_transform_5 t = true ↔ t.val % 2 = 1)

theorem idle5 (t : Fin (cfgM m).N) (h : t.val % 2 = 0) : (cfgM m).idle 5 (grid0.coords t) = true := by
  show (!(k0_cond2 (grid0.coords t) == 1#1)) = true
  have : ¬ k0_cond2 (grid0.coords t) = 1#1 := fun e => by have := (second_iff t).mp e; omega
  simp [this]
theorem live5 (t : Fin (cfgM m).N) (h : t.val % 2 = 1) : (cfgM m).idle 5 (grid0.coords t) = false := by
  show (!(k0_cond2 (grid0.coords t) == 1#1)) = false
  have : k0_cond2 (grid0.coords t) = 1#1 := (second_iff t).mpr h
  simp [this]

/-! ## The body at a point -/

abbrev ms0_0 (t : Fin (cfgM m).N) : Memref sig .tc .vmem S1x8x1536 .i32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1536x1024 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1024x1408 .bf16 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1024x1408 .bf16 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x1408x1024 .bf16 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x1x1792x1024 .bf16 := spec0_5.stage ((cfgM m).slots t 5)
abbrev hs0_5 (t : Fin (cfgM m).N) : (ms0_5 m t).IsWhole := hstage0_5 (((cfgM m).slots t 5).cast nbuf0_5)

abbrev bodyAt (t : Fin (cfgM m).N) : Prog (TpuEff nD τ sig (Elt F) Λ₀ .tc) PUnit :=
  cc0_moe_experts (grid0.coords t) tbM htbM (ms0_0 m t) (hs0_0 m t) (ms0_1 m t) (hs0_1 m t) (ms0_2 m t) (hs0_2 m t) (ms0_3 m t) (hs0_3 m t) (ms0_4 m t) (hs0_4 m t) (ms0_5 m t) (hs0_5 m t)
    scX (Memref.isWhole_whole _) scY (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin (cfgM m).N) : (dats m 0 c).leavesExact 0 t = owns (c : Thread nD τ) (ms0_0 m t) fullShare (iblk m c 0 t) := by
  unfold Dat.leavesExact; rw [show (cfgM m).idle 0 (grid0.coords t) = false from rfl, after0_0]; rfl
theorem leaves_1 (c : Dev nD) (t : Fin (cfgM m).N) : (dats m 0 c).leavesExact 1 t = owns (c : Thread nD τ) (ms0_1 m t) fullShare (iblk m c 1 t) := by
  unfold Dat.leavesExact; rw [show (cfgM m).idle 1 (grid0.coords t) = false from rfl, after0_1]; rfl
theorem leaves_2 (c : Dev nD) (t : Fin (cfgM m).N) : (dats m 0 c).leavesExact 2 t = owns (c : Thread nD τ) (ms0_2 m t) fullShare (iblk m c 2 t) := by
  unfold Dat.leavesExact; rw [show (cfgM m).idle 2 (grid0.coords t) = false from rfl, after0_2]; rfl
theorem leaves_3 (c : Dev nD) (t : Fin (cfgM m).N) : (dats m 0 c).leavesExact 3 t = owns (c : Thread nD τ) (ms0_3 m t) fullShare (iblk m c 3 t) := by
  unfold Dat.leavesExact; rw [show (cfgM m).idle 3 (grid0.coords t) = false from rfl, after0_3]; rfl
theorem leaves_4 (c : Dev nD) (t : Fin (cfgM m).N) : (dats m 0 c).leavesExact 4 t = owns (c : Thread nD τ) (ms0_4 m t) fullShare (iblk m c 4 t) := by
  unfold Dat.leavesExact; rw [show (cfgM m).idle 4 (grid0.coords t) = false from rfl, after0_4]; rfl
theorem leaves_5 (c : Dev nD) (t : Fin (cfgM m).N) (h : t.val % 2 = 1) :
    (dats m 0 c).leavesExact 5 t = owns (c : Thread nD τ) (ms0_5 m t) fullShare (outAt m c t) := by
  unfold Dat.leavesExact; rw [live5 m t h, after0_5]; rfl

theorem Phi_castSucc (c : Dev nD) (t : Fin (cfgM m).N) :
    (dats m 0 c).Φ t.castSucc = iprop(PhiS m c t.val (Nat.le_of_lt t.isLt) ∗ Pipeline.ΦT pre0 (tbl m) c) := by
  dsimp only [dats]
  rw [Pipeline.Dat.Φ_castSucc (PhiS m c) t]

set_option maxHeartbeats 3200000 in
/-- THE BODY at any point, its count one the precondition admits. -/
theorem sound_body (hsm : ∀ c t, Small (wordAt m c t)) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2, before0_3, before0_4]
  rw [show (dats m 0 c).owesAt () t.succ = (dats m 0 c).owesAt () t.castSucc from rfl]
  rw [show (dats m 0 c).Φ t.succ = iprop(PhiS m c (t.val + 1) t.isLt ∗ Pipeline.ΦT pre0 (tbl m) c) from rfl,
    Phi_castSucc, PhiT_eq]
  rw [leaves_0, leaves_1, leaves_2, leaves_3, leaves_4]
  by_cases h0 : t.val % 2 = 0
  · have h1 : k0_cond1 (grid0.coords t) = 1#1 := (first_iff t).mpr h0
    have h2 : ¬k0_cond2 (grid0.coords t) = 1#1 := fun e => by have := (second_iff t).mp e; omega
    rw [Dat.leavesExact_idle (dats m 0 c) 5 t (idle5 m t h0) (Bool.eq_false_iff.mpr fun h => by have := (flush0_5 m t).mp h; omega)]
    unfold PhiS
    rw [dif_neg (show ¬ t.val % 2 = 1 by omega), dif_pos (show (t.val + 1) % 2 = 1 by omega), PhiA_eq]
    iintro ⟨⟨⟨⟨HX, HY⟩, Hg⟩, HT⟩, Ho, ⟨%d0, H0⟩, ⟨%d1, H1⟩, ⟨%d2, H2⟩, ⟨%d3, H3⟩, ⟨%d4, H4⟩, ⟨%d5, H5⟩⟩
    iapply (runA c (grid0.coords t) _ (hs0_0 m t) _ (hs0_1 m t) _ (hs0_2 m t) _ (hs0_3 m t) _ (hs0_4 m t) _ (hs0_5 m t) _ (Memref.isWhole_whole _) _ (Memref.isWhole_whole _) h1 h2
      (iblk m c 0 t) (iblk m c 1 t) (iblk m c 2 t) (iblk m c 3 t) (iblk m c 4 t) (tbl m 0) (hsm c t) Set.univ _)
    isplitl [H0]; · iexact H0
    isplitl [H1]; · iexact H1
    isplitl [H2]; · iexact H2
    isplitl [H3]; · iexact H3
    isplitl [H4]; · iexact H4
    isplitl [HX]; · iexact HX
    isplitl [HY]; · iexact HY
    isplitl [HT]; · iexact HT
    iintro ⟨H0, H1, H2, H3, H4, ⟨%X, %Y, %hXY, HX, HY⟩, HT⟩
    isplitl [HX HY Hg HT]
    · isplitl [HX HY Hg]
      · isplitl [HX HY]
        · iexists X, Y
          isplitr; · ipureintro; exact fun _ => hXY
          isplitl [HX]; · iexact HX
          iexact HY
        iexact Hg
      iexact HT
    isplitl [Ho]; · iexact Ho
    isplitl [H0]; · iexact H0
    isplitl [H1]; · iexact H1
    isplitl [H2]; · iexact H2
    isplitl [H3]; · iexact H3
    isplitl [H4]; · iexact H4
    iexists _; iexact H5
  · have h0' : t.val % 2 = 1 := by omega
    have h1 : ¬k0_cond1 (grid0.coords t) = 1#1 := fun e => h0 ((first_iff t).mp e)
    have h2 : k0_cond2 (grid0.coords t) = 1#1 := (second_iff t).mpr h0'
    have hp : k0_cond1 (grid0.coords (prev t)) = 1#1 := (first_iff (prev t)).mpr (show (t.val - 1) % 2 = 0 by omega)
    rw [leaves_5 m c t h0']
    unfold PhiS
    rw [dif_pos h0', dif_neg (show ¬ (t.val + 1) % 2 = 1 by omega), PhiA_eq]
    iintro ⟨⟨⟨⟨%X, %Y, %hXY, HX, HY⟩, Hg⟩, HT⟩, Ho, ⟨%d0, H0⟩, ⟨%d1, H1⟩, ⟨%d2, H2⟩, ⟨%d3, H3⟩, ⟨%d4, H4⟩, ⟨%d5, H5⟩⟩
    iapply (runB c (grid0.coords t) _ (hs0_0 m t) _ (hs0_1 m t) _ (hs0_2 m t) _ (hs0_3 m t) _ (hs0_4 m t) _ (hs0_5 m t) _ (Memref.isWhole_whole _) _ (Memref.isWhole_whole _) h1 h2
      (iblk m c 0 t) (iblk m c 1 t) (iblk m c 2 t) (iblk m c 3 t) (iblk m c 4 t) X Y (tbl m 0) (hsm c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HX]; · iexact HX
    isplitl [HY]; · iexact HY
    isplitl [HT]; · iexact HT
    iintro ⟨H0, H1, H2, H3, H4, ⟨%W, %hW, H5⟩, HX, HY, HT⟩
    have hWe : W = outAt m c t := by
      unfold outAt
      rw [dif_pos hp]
      rw [word_prev c (tbl m 0) t h0'] at hW
      exact outBlk_eq (hsm c (prev t)) (hXY hp) hW
    subst hWe
    isplitl [HX HY Hg HT]
    · isplitl [HX HY Hg]
      · isplitl [HX HY]
        · isplitl [HX]; · iexact HX
          iexact HY
        iexact Hg
      iexact HT
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin (cfgM m).N) :
    defs₀ (F := F) .tc (cfgM m).body ((cfgM m).bodyArgs t ((cfgM m).slots t)) = bodyAt m t := by
  unfold defs₀; rw [Defs.onTc_tc]

theorem body_obligation (hsm : ∀ c t, Small (wordAt m c t)) (c : Dev nD) : BodyObligation (dats (F := F) m 0 c) (defs₀ (F := F)) Variants.none () Set.univ := fun t => by
  rw [bigSep_W0, bigSep_W0, defs₀_row m]
  exact triple_restated (sound_body m hsm c t) rfl .rfl fun _ => .rfl

/-! ## The launch -/

theorem hin (c : Dev nD) : iprop(Pipeline.ΦA spec0 c ∗ Pipeline.ΦT pre0 (tbl m) c) ⊢ (dats m 0 c).Φ 0 := by
  rw [show (dats m 0 c).Φ 0 = iprop(PhiS m c 0 (Nat.zero_le _) ∗ Pipeline.ΦT pre0 (tbl m) c) from rfl]
  unfold PhiS
  rw [dif_neg (by decide)]

theorem hout (c : Dev nD) : (dats m 0 c).Φ (Fin.last (cfgM m).N) ⊢ Pipeline.ΦA spec0 c := by
  rw [show (dats m 0 c).Φ (Fin.last (cfgM m).N) = iprop(PhiS m c (cfgM m).N (Nat.le_refl _) ∗ Pipeline.ΦT pre0 (tbl m) c) from rfl]
  unfold PhiS
  rw [dif_neg (show ¬ (cfgM m).N % 2 = 1 by rw [show (cfgM m).N = 176 from N_0]; decide)]
  iintro ⟨H, HT⟩
  iexact H

set_option backward.isDefEq.respectTransparency.types false in
/-- THE RUN of the call, its counts ones the precondition admits, and every counter at zero after it. -/
theorem run_quiescent (hsm : ∀ c t, Small (wordAt m c t)) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m hsm c).loose) (hshare := fun c => (dats m 0 c).share_full fun _ => rfl)
    (howed := fun _ _ => rfl) (V := V m) (hmain := hmain m Variants.none) (hA := A_eq m) (hpf := V_pre m) (hin := hin m) (hout := hout m)

theorem run_main (hsm : ∀ c t, Small (wordAt m c t)) : θ_run defs (onTc (τ := τ) (main (F := F))) (s₀ m ρ)
    (Pipeline.FramePost (Pipeline.pin pcfgs fun _ => adm m) (dats m) 0 (V m)) :=
  (θ_run defs _ _).mono (fun _ h => h.1) (run_quiescent m ρ hsm)

/-- THE FRAME, at any values. -/
theorem frame (hsm : ∀ c t, Small (wordAt m c t)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).2 main_arg0 (by decide : main_arg0 ∈ Pipeline.restRefs sig spec0),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩) (run_quiescent m ρ hsm)

end Cert.Proof.Experts

end
-- ==== Proof.ExpertsMath.lean ====
/- The experts' call and its reference read at an index. -/
module

public import proofs.«01_k».proof.Proof.Math
public import proofs.«01_k».proof.Proof.ExpertsFrame
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem Cert.Rows

namespace Cert.Proof.Experts

/-- One where a token's slot is the row asked for, zero elsewhere. -/
def hit (a b : BitVec 32) : EReal := if a = b then 1 else 0

theorem cmpi_eq_of (a b : BitVec 32) : IntOp.cmpi .eq a b = if a = b then 1#1 else 0#1 := by
  by_cases h : a = b
  · subst h; rw [if_pos rfl]; simp [IntOp.cmpi]
  · rw [if_neg h]
    show BitVec.ofBool (a == b) = 0#1
    rw [beq_eq_false_iff_ne.mpr h]; rfl

theorem uitofp_hit (a b : BitVec 32) : (FloatOps.uitofp .f32 (IntOp.cmpi .eq a b) : Ideal .f32) = hit a b := by
  unfold hit
  rw [cmpi_eq_of]
  by_cases h : a = b
  · rw [if_pos h, if_pos h]
    show ((((1#1 : BitVec 1).toNat : ℝ)) : EReal) = 1
    norm_num
  · rw [if_neg h, if_neg h]
    show ((((0#1 : BitVec 1).toNat : ℝ)) : EReal) = 0
    norm_num

theorem select_hit (a b : BitVec 32) (x : EReal) : Scalar.select (IntOp.cmpi .eq a b) x 0 = hit a b * x := by
  unfold hit
  rw [cmpi_eq_of]
  by_cases h : a = b
  · rw [if_pos h, if_pos h, one_mul]; rfl
  · rw [if_neg h, if_neg h, zero_mul]; rfl

theorem select_slt (a b : BitVec 32) (x y : EReal) : Scalar.select (IntOp.cmpi .slt a b) x y = if a.slt b = true then x else y := by
  show Scalar.select (BitVec.ofBool (a.slt b)) x y = _
  by_cases h : a.slt b = true
  · rw [if_pos h, h]; rfl
  · rw [if_neg h, Bool.eq_false_iff.mpr h]; rfl

/-- A row of the gathered tokens: the tokens' rows summed where the slot is the row's number. -/
def gat (s : Fin 1536 → BitVec 32) (x : Fin 1536 → Fin 1024 → EReal) (r : BitVec 32) (k : Fin 1024) : EReal :=
  ∑ q : Fin 1536, hit (s q) r * x q k

section Kernel
open Cert.KernelIdeal Cert.KernelIdeal.Gen

theorem pay6_apply (g : FVec Ideal S1x448x1024 .bf16) (u v : FVec Ideal S1x1024x1408 .bf16) (a : FVec Ideal S1x448x1024 .f32) (w : FVec Ideal S1x1408x1024 .bf16)
    (y : S1x448x1024.Idx) :
    k0_pay6 (F := Ideal) g u v a w y
      = a (ix3 0 (y 1) (y 2)) + ∑ h : Fin 1408, hid (fun k => g (ix3 0 (y 1) k)) (fun k => u (ix3 0 k h)) (fun k => v (ix3 0 k h)) * w (ix3 0 h (y 2)) := by
  have hy : y = ix3 0 (y 1) (y 2) := by
    funext a
    match a with
    | ⟨0, _⟩ => exact Subsingleton.elim (α := Fin 1) _ _
    | ⟨1, _⟩ => rfl
    | ⟨2, _⟩ => rfl
  pointwise [k0_pay6, hid]
  conv_lhs => rw [hy]
  rfl

theorem pay2_apply (v : BitVec 32) (s : IVec S1x1x1536 32) (j : Fin (k0_t1_loop v).trips) (hj : j.val < 4) (x : FVec Ideal S1536x1024 .bf16) (y : S1x448x1024.Idx) :
    k0_pay2 (F := Ideal) v s j x y
      = gat (fun q => s (ix3 0 0 q)) (fun q k => x (ix2 q k)) (BitVec.ofNat 32 (448 * j.val + (y 1).val)) (y 2) := by
  have hy : (y 1).val < 448 := (y 1).isLt
  have e : IntOp.addi (Scalar.muli (Scf.iv 0#32 1#32 j.val) 448#32) (BitVec.ofNat 32 (y 1).val) = BitVec.ofNat 32 (448 * j.val + (y 1).val) := by
    generalize j.val = n at hj
    generalize (y 1).val = r at hy
    apply BitVec.eq_of_toNat_eq
    have h4 : n = 0 ∨ n = 1 ∨ n = 2 ∨ n = 3 := by omega
    rcases h4 with rfl | rfl | rfl | rfl <;> simp [IntOp.addi, Scalar.muli, IntOp.muli, Scf.iv]
  pointwise [k0_pay2, k0_pay1, gat]
  exact Finset.sum_congr rfl fun q _ => by rw [e]; exact select_hit _ _ _

theorem pay8_apply (a : FVec Ideal S1x448x1024 .f32) (y : S1x1x448x1024.Idx) : k0_pay8 (F := Ideal) a y = a (ix3 0 (y 2) (y 3)) := by
  pointwise [k0_pay8]

theorem pay10_apply (y : S1x1x448x1024.Idx) : k0_pay10 (F := Ideal) y = (0 : EReal) := by
  pointwise [k0_pay10]

theorem pay3_apply (y : S1x448x1024.Idx) : k0_pay3 (F := Ideal) y = (0 : EReal) := by
  pointwise [k0_pay3]
end Kernel

section Ref
open Cert.ReferenceIdeal Cert.ReferenceIdeal.Gen Cert.ReferenceIdeal.Read

theorem ref_gat (x1 : IVec S11x8x1536 32) (x2 : FVec Ideal S16896x1024 .bf16) (i : S8x11x1792x1024.Idx) :
    val_main_v8 (F := Ideal) x1 x2 i
      = gat (fun q => x1 (ix3 (i 1) (i 0) q)) (fun q k => x2 (ix2 ⟨(i 1).val * 1536 + q.val, by have h : (i 1).val < 11 := (i 1).isLt; omega⟩ k)) (BitVec.ofNat 32 (i 2).val) (i 3) := by
  pointwise [val_main_v8, val_main_v7, val_main_v6, val_main_v5, val_main_v4, val_main_v3, val_main_v2, val_main_v1, val_main_v0, gat, uitofp_hit]
  exact Finset.sum_congr rfl fun q _ => mul_comm _ _

theorem ref_sum (x1 : IVec S11x8x1536 32) (x2 : FVec Ideal S16896x1024 .bf16) (x3 x4 : FVec Ideal S8x1024x2816 .bf16) (x5 : FVec Ideal S8x2816x1024 .bf16) (i : S8x11x1792x1024.Idx) :
    val_main_v13 (F := Ideal) x1 x2 x3 x4 x5 i
      = ∑ h : Fin 2816, hid (fun k => val_main_v8 (F := Ideal) x1 x2 (ix4 (i 0) (i 1) (i 2) k)) (fun k => x3 (ix3 (i 0) k h)) (fun k => x4 (ix3 (i 0) k h)) * x5 (ix3 (i 0) h (i 3)) := by
  pointwise [val_main_v13, val_main_v12, val_main_v11, val_main_v10, val_main_v9, val_main_call0_v5, val_main_call0_v4, val_main_call0_cst_0, val_main_call0_v3,
    val_main_call0_v2, val_main_call0_cst, val_main_call0_v1, val_main_call0_v0, hid, Ideal.logistic]

theorem ref_apply (x0 : IVec S88 32) (x1 : IVec S11x8x1536 32) (x2 : FVec Ideal S16896x1024 .bf16) (x3 x4 : FVec Ideal S8x1024x2816 .bf16) (x5 : FVec Ideal S8x2816x1024 .bf16) (i : S8x11x1792x1024.Idx) :
    val_main_v23 (F := Ideal) x0 x1 x2 x3 x4 x5 i
      = if (BitVec.ofNat 32 (i 2).val).slt (x0 (ix1 ⟨(i 1).val * 8 + (i 0).val, by have h : (i 1).val < 11 := (i 1).isLt; have h' : (i 0).val < 8 := (i 0).isLt; omega⟩) * 448#32) = true
          then val_main_v13 (F := Ideal) x1 x2 x3 x4 x5 i else (0 : EReal) := by
  pointwise [val_main_v23, val_main_v22, val_main_v21, val_main_v20, val_main_v19, val_main_v18, val_main_v17, val_main_v16, val_main_v15, val_main_v14, val_main_c,
    val_main_cst, val_main_call1_v0, val_main_call1_v1, select_slt, id, IntOp.muli]
end Ref

end Cert.Proof.Experts
end
-- ==== Proof.ExpertsValue.lean ====
/- The experts' call's result is its reference's. -/
module

public import proofs.«01_k».proof.Proof.ExpertsMath

@[expose] public section

set_option maxRecDepth 16384

noncomputable section

open Idealize.ShloMosaic Idealize.ShloMosaic.TcCoe Idealize.SL.Sem Cert.Rows

namespace Cert.Proof.Experts
open Cert.KernelIdeal Cert.KernelIdeal.Gen

variable (m : (ℓ : Loc nD τ sig) → Buf (Elt Ideal) ℓ) (ρ : Dev nD → PrngReg)

/-- A row lies in a counted chunk exactly where its number is less than the counted rows. -/
theorem counted {v : BitVec 32} (h : Small v) (r : ℕ) (hr : r < 1792) :
    (BitVec.ofNat 32 r).slt (v * 448#32) = true ↔ r / 448 < v.toNat := by
  have e : (BitVec.ofNat 32 r).toInt = (r : ℤ) := by
    rw [BitVec.toInt_eq_toNat_of_lt (by rw [BitVec.toNat_ofNat]; omega), BitVec.toNat_ofNat]
    omega
  rw [BitVec.slt_iff_toInt_lt, e]
  rcases h with rfl | rfl | rfl | rfl | rfl <;> norm_num [BitVec.toInt] <;> omega

/-- The windows' block indices at a point: row tile `t / 2 % 11`, expert `t / 22 % 8`, hidden half `t % 2`. -/
theorem idx : ∀ t : Fin grid0.N, cc0_transform_0 (grid0.coords t) = ![t.val / 2 % 11, 0, 0] ∧ cc0_transform_1 (grid0.coords t) = ![t.val / 2 % 11, 0]
    ∧ cc0_transform_2 (grid0.coords t) = ![t.val / 22 % 8, 0, t.val % 2] ∧ cc0_transform_3 (grid0.coords t) = ![t.val / 22 % 8, 0, t.val % 2]
    ∧ cc0_transform_4 (grid0.coords t) = ![t.val / 22 % 8, t.val % 2, 0] ∧ cc0_transform_5 (grid0.coords t) = ![t.val / 22 % 8, t.val / 2 % 11, 0, 0] := by
  decide +kernel

/-- The output's blocks cover it. -/
theorem covers : ((cfgM m).win 5).Covers := by
  refine ⟨fun a => ?_, fun β => ?_⟩
  · exact (by decide : ∀ a : Fin 4, 0 < S1x1x1792x1024.size a) a
  · have key : ∀ (b0 : Fin 8) (b1 : Fin 11) (b2 b3 : Fin 1), ∃ t : Fin grid0.N, t.val % 2 = 1 ∧ cc0_transform_5 (grid0.coords t) = ![b0.val, b1.val, b2.val, b3.val] := by
      intro b0 b1 b2 b3
      have hlt : (b0.val * 11 + b1.val) * 2 + 1 < grid0.N := by rw [N_0]; omega
      refine ⟨⟨(b0.val * 11 + b1.val) * 2 + 1, hlt⟩, by dsimp only; omega, ((idx _).2.2.2.2.2).trans ?_⟩
      dsimp only
      rw [show ((b0.val * 11 + b1.val) * 2 + 1) / 22 % 8 = b0.val by omega, show ((b0.val * 11 + b1.val) * 2 + 1) / 2 % 11 = b1.val by omega,
        show b2.val = 0 by omega, show b3.val = 0 by omega]
    have n0 : ((cfgM m).win 5).nblk (0 : Fin 4) = 8 := by show (8 + 1 - 1) / 1 = 8; rfl
    have n1 : ((cfgM m).win 5).nblk (1 : Fin 4) = 11 := by show (11 + 1 - 1) / 1 = 11; rfl
    have n2 : ((cfgM m).win 5).nblk (2 : Fin 4) = 1 := by show (1792 + 1792 - 1) / 1792 = 1; rfl
    have n3 : ((cfgM m).win 5).nblk (3 : Fin 4) = 1 := by show (1024 + 1024 - 1) / 1024 = 1; rfl
    obtain ⟨t, h1, h2⟩ := key ⟨_, lt_of_lt_of_eq (β (0 : Fin 4)).isLt n0⟩ ⟨_, lt_of_lt_of_eq (β (1 : Fin 4)).isLt n1⟩ ⟨_, lt_of_lt_of_eq (β (2 : Fin 4)).isLt n2⟩ ⟨_, lt_of_lt_of_eq (β (3 : Fin 4)).isLt n3⟩
    refine ⟨t, (flush0_5 m t).mpr h1, fun a => ⟨(congrFun h2 a).trans ?_, Or.inl rfl⟩⟩
    match a with
    | ⟨0, _⟩ => rfl
    | ⟨1, _⟩ => rfl
    | ⟨2, _⟩ => rfl
    | ⟨3, _⟩ => rfl

/-! ## The blocks, read from the arrays -/

theorem pt_lt (t : Fin grid0.N) : t.val / 2 % 11 < 11 ∧ t.val / 22 % 8 < 8 ∧ t.val % 2 < 2 := by omega

theorem read0 (c : Dev nD) (t : Fin grid0.N) (e : Fin 8) (q : Fin 1536) :
    (show IVec S1x8x1536 32 from iblk m c 0 t) (ix3 0 e q) = (show IVec S11x8x1536 32 from m ((c : Thread nD τ).loc main_arg1)) (ix3 ⟨t.val / 2 % 11, (pt_lt t).1⟩ e q) := by
  refine congrArg (m ((c : Thread nD τ).loc main_arg1)) (funext fun a => Fin.ext ?_)
  refine (Pipeline.Window.rect_emb_val ((cfgM m).win 0) t (ix3 0 e q) a).trans ?_
  rw [show ((cfgM m).win 0).index t a = ![t.val / 2 % 11, 0, 0] a from congrFun (idx t).1 a]
  match a with
  | ⟨0, _⟩ => exact (by omega : t.val / 2 % 11 * 1 + 0 = t.val / 2 % 11)
  | ⟨1, _⟩ => exact (by omega : 0 * 8 + e.val = e.val)
  | ⟨2, _⟩ => exact (by omega : 0 * 1536 + q.val = q.val)

theorem read1 (c : Dev nD) (t : Fin grid0.N) (q : Fin 1536) (k : Fin 1024) :
    (show FVec Ideal S1536x1024 .bf16 from iblk m c 1 t) (ix2 q k)
      = (show FVec Ideal S16896x1024 .bf16 from m ((c : Thread nD τ).loc main_arg2)) (ix2 ⟨t.val / 2 % 11 * 1536 + q.val, by omega⟩ k) := by
  refine congrArg (m ((c : Thread nD τ).loc main_arg2)) (funext fun a => Fin.ext ?_)
  refine (Pipeline.Window.rect_emb_val ((cfgM m).win 1) t (ix2 q k) a).trans ?_
  rw [show ((cfgM m).win 1).index t a = ![t.val / 2 % 11, 0] a from congrFun (idx t).2.1 a]
  match a with
  | ⟨0, _⟩ => rfl
  | ⟨1, _⟩ => exact (by omega : 0 * 1024 + k.val = k.val)

theorem read2 (c : Dev nD) (t : Fin grid0.N) (k : Fin 1024) (h : Fin 1408) :
    (show FVec Ideal S1x1024x1408 .bf16 from iblk m c 2 t) (ix3 0 k h)
      = (show FVec Ideal S8x1024x2816 .bf16 from m ((c : Thread nD τ).loc main_arg3)) (ix3 ⟨t.val / 22 % 8, (pt_lt t).2.1⟩ k ⟨t.val % 2 * 1408 + h.val, by omega⟩) := by
  refine congrArg (m ((c : Thread nD τ).loc main_arg3)) (funext fun a => Fin.ext ?_)
  refine (Pipeline.Window.rect_emb_val ((cfgM m).win 2) t (ix3 0 k h) a).trans ?_
  rw [show ((cfgM m).win 2).index t a = ![t.val / 22 % 8, 0, t.val % 2] a from congrFun (idx t).2.2.1 a]
  match a with
  | ⟨0, _⟩ => exact (by omega : t.val / 22 % 8 * 1 + 0 = t.val / 22 % 8)
  | ⟨1, _⟩ => exact (by omega : 0 * 1024 + k.val = k.val)
  | ⟨2, _⟩ => rfl

theorem read3 (c : Dev nD) (t : Fin grid0.N) (k : Fin 1024) (h : Fin 1408) :
    (show FVec Ideal S1x1024x1408 .bf16 from iblk m c 3 t) (ix3 0 k h)
      = (show FVec Ideal S8x1024x2816 .bf16 from m ((c : Thread nD τ).loc main_arg4)) (ix3 ⟨t.val / 22 % 8, (pt_lt t).2.1⟩ k ⟨t.val % 2 * 1408 + h.val, by omega⟩) := by
  refine congrArg (m ((c : Thread nD τ).loc main_arg4)) (funext fun a => Fin.ext ?_)
  refine (Pipeline.Window.rect_emb_val ((cfgM m).win 3) t (ix3 0 k h) a).trans ?_
  rw [show ((cfgM m).win 3).index t a = ![t.val / 22 % 8, 0, t.val % 2] a from congrFun (idx t).2.2.2.1 a]
  match a with
  | ⟨0, _⟩ => exact (by omega : t.val / 22 % 8 * 1 + 0 = t.val / 22 % 8)
  | ⟨1, _⟩ => exact (by omega : 0 * 1024 + k.val = k.val)
  | ⟨2, _⟩ => rfl

theorem read4 (c : Dev nD) (t : Fin grid0.N) (h : Fin 1408) (d : Fin 1024) :
    (show FVec Ideal S1x1408x1024 .bf16 from iblk m c 4 t) (ix3 0 h d)
      = (show FVec Ideal S8x2816x1024 .bf16 from m ((c : Thread nD τ).loc main_arg5)) (ix3 ⟨t.val / 22 % 8, (pt_lt t).2.1⟩ ⟨t.val % 2 * 1408 + h.val, by omega⟩ d) := by
  refine congrArg (m ((c : Thread nD τ).loc main_arg5)) (funext fun a => Fin.ext ?_)
  refine (Pipeline.Window.rect_emb_val ((cfgM m).win 4) t (ix3 0 h d) a).trans ?_
  rw [show ((cfgM m).win 4).index t a = ![t.val / 22 % 8, t.val % 2, 0] a from congrFun (idx t).2.2.2.2.1 a]
  match a with
  | ⟨0, _⟩ => exact (by omega : t.val / 22 % 8 * 1 + 0 = t.val / 22 % 8)
  | ⟨1, _⟩ => rfl
  | ⟨2, _⟩ => exact (by omega : 0 * 1024 + d.val = d.val)

/-- Where the output's block lies in its array. -/
theorem emb5 (t : Fin grid0.N) (y : S1x1x1792x1024.Idx) :
    (show S8x11x1792x1024.Idx from (((cfgM m).win 5).blk t).view.emb y) = ix4 ⟨t.val / 22 % 8, (pt_lt t).2.1⟩ ⟨t.val / 2 % 11, (pt_lt t).1⟩ (y 2) (y 3) := by
  refine funext fun a => Fin.ext ?_
  refine (Pipeline.Window.rect_emb_val ((cfgM m).win 5) t y a).trans ?_
  rw [show ((cfgM m).win 5).index t a = ![t.val / 22 % 8, t.val / 2 % 11, 0, 0] a from congrFun (idx t).2.2.2.2.2 a]
  have h0 : (y 0).val < 1 := (y 0).isLt
  have h1 : (y 1).val < 1 := (y 1).isLt
  match a with
  | ⟨0, _⟩ => exact (by omega : t.val / 22 % 8 * 1 + (y 0).val = t.val / 22 % 8)
  | ⟨1, _⟩ => exact (by omega : t.val / 2 % 11 * 1 + (y 1).val = t.val / 2 % 11)
  | ⟨2, _⟩ => exact (by omega : 0 * 1792 + (y 2).val = (y 2).val)
  | ⟨3, _⟩ => exact (by omega : 0 * 1024 + (y 3).val = (y 3).val)

theorem off1_at (i : grid0.Coords) : k0_off1 i 0 + 1 * 0 = (i 1).val * 8 + (i 0).val := by
  have key : ∀ (a : Fin 8) (b : Fin 11), (Scalar.indexCast (Scalar.addi (Scalar.muli (BitVec.ofNat 32 b.val) 8#32) (BitVec.ofNat 32 a.val))).toNat + 1 * 0 = b.val * 8 + a.val := by
    decide +kernel
  exact key (i 0) (i 1)

theorem off2_at (i : grid0.Coords) : k0_off2 i 1 + 1 * 0 = (i 0).val := by
  have key : ∀ a : Fin 8, (Scalar.indexCast (BitVec.ofNat 32 a.val)).toNat + 1 * 0 = a.val := by
    decide +kernel
  exact key (i 0)

/-- The count at a point. -/
theorem word_read (c : Dev nD) (t : Fin grid0.N) :
    wordAt m c t = (show IVec S88 32 from m ((c : Thread nD τ).loc main_arg0)) (ix1 ⟨t.val / 2 % 11 * 8 + t.val / 22 % 8, by omega⟩) := by
  obtain rfl : c = 0 := Subsingleton.elim _ _
  refine congrArg (m (((0 : Dev nD) : Thread nD τ).loc main_arg0)) (funext fun a => Fin.ext ?_)
  have e0 := coord0 t
  have e1 := coord1 t
  match a with
  | ⟨0, _⟩ =>
    refine (off1_at (grid0.coords t)).trans ?_
    show (grid0.coords t 1).val * 8 + (grid0.coords t 0).val = _
    rw [e0, e1]
    rfl

/-- The slots at a first half. -/
theorem slots_read (c : Dev nD) (t : Fin grid0.N) (h : k0_cond1 (grid0.coords t) = 1#1) (q : Fin 1536) :
    (show IVec S1x1x1536 32 from slotsOf (F := Ideal) (grid0.coords t) h (iblk m c 0 t)) (ix3 0 0 q)
      = (show IVec S11x8x1536 32 from m ((c : Thread nD τ).loc main_arg1)) (ix3 ⟨t.val / 2 % 11, (pt_lt t).1⟩ ⟨t.val / 22 % 8, (pt_lt t).2.1⟩ q) := by
  rw [← read0 m c t ⟨t.val / 22 % 8, (pt_lt t).2.1⟩ q]
  refine congrArg (iblk m c 0 t) (funext fun a => Fin.ext ?_)
  have e0 := coord0 t
  match a with
  | ⟨0, _⟩ => rfl
  | ⟨1, _⟩ => exact (off2_at (grid0.coords t)).trans e0
  | ⟨2, _⟩ => exact (by omega : 0 + 1 * q.val = q.val)

/-! ## The block's value -/

theorem hid_congr {f f' u u' v v' : Fin 1024 → EReal} (hf : ∀ k, f k = f' k) (hu : ∀ k, u k = u' k) (hv : ∀ k, v k = v' k) : hid f u v = hid f' u' v' := by
  rw [funext hf, funext hu, funext hv]

/-- The output's block at an index is the reference's element, the blocks read from the arrays. -/
theorem block_eq {v : BitVec 32} (hv : Small v) (s : IVec S1x1x1536 32) (x1 : FVec Ideal S1536x1024 .bf16) (x2 x3 u2 u3 : FVec Ideal S1x1024x1408 .bf16)
    (x4 u4 : FVec Ideal S1x1408x1024 .bf16) (A0 : IVec S88 32) (A1 : IVec S11x8x1536 32) (A2 : FVec Ideal S16896x1024 .bf16) (A3 A4 : FVec Ideal S8x1024x2816 .bf16)
    (A5 : FVec Ideal S8x2816x1024 .bf16) (e : Fin 8) (r : Fin 11)
    (hw : v = A0 (ix1 ⟨r.val * 8 + e.val, by omega⟩)) (hs : ∀ q, s (ix3 0 0 q) = A1 (ix3 r e q)) (h1 : ∀ q k, x1 (ix2 q k) = A2 (ix2 ⟨r.val * 1536 + q.val, by omega⟩ k))
    (h2 : ∀ k h, x2 (ix3 0 k h) = A3 (ix3 e k ⟨h.val, by omega⟩)) (g2 : ∀ k h, u2 (ix3 0 k h) = A3 (ix3 e k ⟨1408 + h.val, by omega⟩))
    (h3 : ∀ k h, x3 (ix3 0 k h) = A4 (ix3 e k ⟨h.val, by omega⟩)) (g3 : ∀ k h, u3 (ix3 0 k h) = A4 (ix3 e k ⟨1408 + h.val, by omega⟩))
    (h4 : ∀ h d, x4 (ix3 0 h d) = A5 (ix3 e ⟨h.val, by omega⟩ d)) (g4 : ∀ h d, u4 (ix3 0 h d) = A5 (ix3 e ⟨1408 + h.val, by omega⟩ d))
    (p : Fin 1792) (d : Fin 1024) :
    outBlk (F := Ideal) v s x1 x2 x3 x4 u2 u3 u4 (ix4 0 0 p d) = Cert.ReferenceIdeal.Read.val_main_v23 (F := Ideal) A0 A1 A2 A3 A4 A5 (ix4 e r p d) := by
  have hr : Cert.ReferenceIdeal.Read.val_main_v23 (F := Ideal) A0 A1 A2 A3 A4 A5 (ix4 e r p d)
      = if (BitVec.ofNat 32 p.val).slt (A0 (ix1 ⟨r.val * 8 + e.val, by omega⟩) * 448#32) = true then Cert.ReferenceIdeal.Read.val_main_v13 (F := Ideal) A1 A2 A3 A4 A5 (ix4 e r p d) else (0 : EReal) :=
    ref_apply A0 A1 A2 A3 A4 A5 (ix4 e r p d)
  have hs' : Cert.ReferenceIdeal.Read.val_main_v13 (F := Ideal) A1 A2 A3 A4 A5 (ix4 e r p d)
      = ∑ h : Fin 2816, hid (fun k => Cert.ReferenceIdeal.Read.val_main_v8 (F := Ideal) A1 A2 (ix4 e r p k)) (fun k => A3 (ix3 e k h)) (fun k => A4 (ix3 e k h)) * A5 (ix3 e h d) :=
    ref_sum A1 A2 A3 A4 A5 (ix4 e r p d)
  rw [hr, hs', sum_halves]
  have hc := counted hv p.val p.isLt
  rw [hw] at hc
  by_cases hj : p.val / 448 < (k0_t1_loop v).trips
  · have hj' : p.val / 448 < v.toNat := by rw [← trips1 hv]; exact hj
    rw [hw] at hj'
    rw [if_pos (hc.mpr hj')]
    have key : ∀ k, k0_pay2 (F := Ideal) v s ⟨p.val / 448, hj⟩ x1 (ix3 0 ⟨p.val % 448, Nat.mod_lt _ (by decide)⟩ k)
        = Cert.ReferenceIdeal.Read.val_main_v8 (F := Ideal) A1 A2 (ix4 e r p k) := by
      intro k
      refine ((pay2_apply v s ⟨p.val / 448, hj⟩ (by dsimp only; omega) x1 _).trans ?_).trans (ref_gat A1 A2 (ix4 e r p k)).symm
      unfold gat
      refine Finset.sum_congr rfl fun q _ => ?_
      have en : 448 * (p.val / 448) + p.val % 448 = p.val := by omega
      exact congrArg₂ (· * ·) (congrArg₂ hit (hs q) (congrArg (BitVec.ofNat 32) en)) (h1 q k)
    refine Eq.trans (b := chunk (F := Ideal) v s x1 x2 x3 x4 u2 u3 u4 ⟨p.val / 448, hj⟩ (within (ix4 0 0 p d))) (dif_pos hj) ?_
    unfold chunk
    rw [pay8_apply, pay6_apply, pay6_apply, pay3_apply, zero_add]
    refine congrArg₂ (· + ·) (Finset.sum_congr rfl fun h _ => ?_) (Finset.sum_congr rfl fun h _ => ?_)
    · exact congrArg₂ (· * ·) (hid_congr key (fun k => h2 k h) fun k => h3 k h) (h4 h d)
    · exact congrArg₂ (· * ·) (hid_congr key (fun k => g2 k h) fun k => g3 k h) (g4 h d)
  · have hj' : ¬ p.val / 448 < v.toNat := by rw [← trips1 hv]; exact hj
    rw [hw] at hj'
    rw [if_neg (fun h => hj' (hc.mp h))]
    exact (dif_neg hj).trans (pay10_apply _)

/-- The result array after the run is the reference's term over the arguments. -/
theorem final (hsm : ∀ c t, Small (wordAt m c t)) (c : Dev nD) : (dats m 0 c).arrAt 5 (cfgM m).N
    = Cert.ReferenceIdeal.Read.val_main_v23 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 5 _ (covers m) fun t hf (y : S1x1x1792x1024.Idx) => ?_
  have h1 := (flush0_5 m t).mp hf
  have hp : k0_cond1 (grid0.coords (prev t)) = 1#1 := (first_iff (prev t)).mpr (show (t.val - 1) % 2 = 0 by omega)
  blk_simp
  rw [after0_5]
  unfold outAt
  rw [dif_pos hp]
  have ea : (t.val - 1) / 2 % 11 = t.val / 2 % 11 := by omega
  have eb : (t.val - 1) / 22 % 8 = t.val / 22 % 8 := by omega
  have ec : (t.val - 1) % 2 = 0 := by omega
  have hy : y = (ix4 0 0 (y 2) (y 3) : S1x1x1792x1024.Idx) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg (outBlk (F := Ideal) _ _ _ _ _ _ _ _ _) hy).trans ?_
  refine (block_eq (hsm c (prev t)) _ _ _ _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) ⟨t.val / 22 % 8, (pt_lt t).2.1⟩ ⟨t.val / 2 % 11, (pt_lt t).1⟩
    ?_ ?_ ?_ ?_ ?_ ?_ ?_ ?_ ?_ (y 2) (y 3)).trans (congrArg _ (emb5 m t y).symm)
  · refine (word_read m c (prev t)).trans (congrArg _ (congrArg ix1 (Fin.ext ?_)))
    show (t.val - 1) / 2 % 11 * 8 + (t.val - 1) / 22 % 8 = _
    rw [ea, eb]
  · intro q
    refine (slots_read m c (prev t) hp q).trans (congrArg (m ((c : Thread nD τ).loc main_arg1)) ?_)
    exact congrArg₂ (fun a b => (ix3 a b q : S11x8x1536.Idx)) (Fin.ext ea) (Fin.ext eb)
  · intro q k
    refine (read1 m c (prev t) q k).trans (congrArg (m ((c : Thread nD τ).loc main_arg2)) ?_)
    exact congrArg (fun a => (ix2 a k : S16896x1024.Idx)) (Fin.ext (by dsimp only; rw [ea]))
  · intro k h
    refine (read2 m c (prev t) k h).trans (congrArg (m ((c : Thread nD τ).loc main_arg3)) ?_)
    exact congrArg₂ (fun a b => (ix3 a k b : S8x1024x2816.Idx)) (Fin.ext eb) (Fin.ext (by dsimp only; omega))
  · intro k h
    refine (read2 m c t k h).trans (congrArg (m ((c : Thread nD τ).loc main_arg3)) ?_)
    exact congrArg (fun b => (ix3 _ k b : S8x1024x2816.Idx)) (Fin.ext (by dsimp only; omega))
  · intro k h
    refine (read3 m c (prev t) k h).trans (congrArg (m ((c : Thread nD τ).loc main_arg4)) ?_)
    exact congrArg₂ (fun a b => (ix3 a k b : S8x1024x2816.Idx)) (Fin.ext eb) (Fin.ext (by dsimp only; omega))
  · intro k h
    refine (read3 m c t k h).trans (congrArg (m ((c : Thread nD τ).loc main_arg4)) ?_)
    exact congrArg (fun b => (ix3 _ k b : S8x1024x2816.Idx)) (Fin.ext (by dsimp only; omega))
  · intro h d
    refine (read4 m c (prev t) h d).trans (congrArg (m ((c : Thread nD τ).loc main_arg5)) ?_)
    exact congrArg₂ (fun a b => (ix3 a b d : S8x2816x1024.Idx)) (Fin.ext eb) (Fin.ext (by dsimp only; omega))
  · intro h d
    refine (read4 m c t h d).trans (congrArg (m ((c : Thread nD τ).loc main_arg5)) ?_)
    exact congrArg (fun b => (ix3 _ b d : S8x2816x1024.Idx)) (Fin.ext (by dsimp only; omega))

end Cert.Proof.Experts
end
-- ==== Proof.ExpertsClaim.lean ====
/- The claims about the routed experts: the frames of its programs and the equality of its result with its reference's. -/
module

public import proofs.«01_k».proof.Defs
public import proofs.«01_k».proof.Proof.ExpertsValue
public import proofs.«01_k».proof.Proof.Gen.Kernel
public import proofs.«01_k».proof.Proof.Gen.Pre_counts_in_range
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem

namespace Experts

/-- A count the precondition admits is one of zero to four. -/
theorem small_of_bits (a : BitVec 32) (h : IntOp.andi (IntOp.cmpi .sge a 0#32) (IntOp.cmpi .sle a 4#32) = 1#1) : Small a := by
  have h' : BitVec.ofBool ((0#32).sle a) &&& BitVec.ofBool (a.sle 4#32) = 1#1 := h
  have h12 : (0#32).sle a = true ∧ a.sle 4#32 = true := by
    cases h1 : (0#32).sle a <;> cases h2 : a.sle 4#32 <;> rw [h1, h2] at h' <;> revert h' <;> decide
  obtain ⟨h1, h2⟩ := h12
  rw [BitVec.sle_iff_toInt_le] at h1 h2
  have e0 : (0#32).toInt = 0 := by decide
  have e4 : (4#32).toInt = 4 := by decide
  rw [e0] at h1
  rw [e4] at h2
  have e : a = BitVec.ofInt 32 a.toInt := (BitVec.ofInt_toInt).symm
  generalize a.toInt = n at *
  subst e
  unfold Small
  interval_cases n <;> decide

section
open Cert.KernelIdeal Cert.KernelIdeal.Gen

variable {F : FTy → Type} [FloatOps F]

/-- With every count one of zero to four, so is the count at every point. -/
theorem small_at (m : (ℓ : Loc nD τ sig) → Buf (Elt F) ℓ)
    (h : ∀ j : S88.Idx, Small ((show IVec S88 32 from m (((0 : Dev nD) : Thread nD τ).loc main_arg0)) j)) (c : Dev nD) (t : Fin (cfgM m).N) : Small (wordAt m c t) := by
  obtain rfl : c = 0 := Subsingleton.elim _ _
  exact h _
end

end Experts

open Experts

/-- The kernel and its ideal form have the same bodies. -/
theorem bodies_eq : @Cert.Kernel.defs₀ Bits _ _ = @Cert.KernelIdeal.defs₀ Bits _ _ := by
  refine congrArg Defs.onTc (funext fun l => funext fun ts => ?_)
  match l, ts with
  | 0, (t, s) => rfl

/-- The kernel and its ideal form run the same table of bodies. -/
theorem defs_eq : @Cert.Kernel.defs Bits _ _ = @Cert.KernelIdeal.defs Bits _ _ :=
  congrArg (Pipeline.defs (Cert.KernelIdeal.pcfgs (F := Bits))) bodies_eq

theorem frame_kernel : Cert.quiescent_Kernel := by
  intro m ρ h
  have H := Experts.frame (F := Bits) m ρ (small_at (F := Bits) m fun j => small_of_bits _ (congrFun (h 0) j))
  rw [defs_eq]
  exact H

theorem frame_kernel_ideal : Cert.quiescent_KernelIdeal := fun m ρ h =>
  Experts.frame (F := Ideal) m ρ (small_at m fun j => small_of_bits _ (congrFun (h 0) j))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_counts_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_kernel : Cert.algebraic_KernelIdeal_ReferenceIdeal := by
  intro m g m' g' hpre hagree
  have hS := small_at m fun j => small_of_bits _ (congrFun (hpre 0) j)
  refine ⟨fun c => (Cert.ReferenceIdeal.Read.val_main_v23 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) : FVec Ideal Cert.ReferenceIdeal.S8x11x1792x1024 .bf16), ?_, ?_⟩
  · refine (θ_run Cert.KernelIdeal.defs _ _).mono (fun r h c => ?_) (θ_run_and (Experts.run_main (F := Ideal) m g hS) (Experts.frame (F := Ideal) m g hS))
    exact ⟨((h.1 c).1 5).trans (Experts.final m hS c), h.2.1 c⟩
  · run_from Cert.ReferenceIdeal.Value.run m' g'
    rfl

end Cert.Proof
end
-- ==== Proof.FfnValue.lean ====
/- The gated feed-forward's kernel read at an index. -/
module

public import proofs.«01_k».proof.Proof.Math
public import proofs.«01_k».proof.Proof.Gen.FfnIdeal.Value
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem Cert.Rows

namespace Cert.FfnRefIdeal.Read
open Cert.FfnRefIdeal Cert.FfnRefIdeal.Gen

/-- The reference at an index: the row plus the gated feed-forward of its norm, the hidden units in two halves. -/
theorem ref_apply (x0 : FVec Ideal S16896x1024 .f32) (x1 : FVec Ideal S1024 .f32) (x2 x3 : FVec Ideal S1024x2816 .f32) (x4 : FVec Ideal S2816x1024 .f32)
    (i : S16896x1024.Idx) :
    val_main_v18 (F := Ideal) x0 x1 x2 x3 x4 i
      = x0 (ix2 (i 0) (i 1)) + ((∑ h : Fin 1408, hid (rms (fun k => x0 (ix2 (i 0) k)) fun k => x1 (ix1 k)) (fun k => x2 (ix2 k ⟨h.val, by omega⟩)) (fun k => x3 (ix2 k ⟨h.val, by omega⟩)) * x4 (ix2 ⟨h.val, by omega⟩ (i 1)))
          + ∑ h : Fin 1408, hid (rms (fun k => x0 (ix2 (i 0) k)) fun k => x1 (ix1 k)) (fun k => x2 (ix2 k ⟨1408 + h.val, by omega⟩)) (fun k => x3 (ix2 k ⟨1408 + h.val, by omega⟩)) * x4 (ix2 ⟨1408 + h.val, by omega⟩ (i 1))) := by
  rw [← sum_halves fun h : Fin 2816 => hid (rms (fun k => x0 (ix2 (i 0) k)) fun k => x1 (ix1 k)) (fun k => x2 (ix2 k h)) (fun k => x3 (ix2 k h)) * x4 (ix2 h (i 1))]
  pointwise [val_main_v18, val_main_v17, val_main_v16, val_main_v15, val_main_v14, val_main_call0_v5, val_main_call0_v4, val_main_call0_cst_0, val_main_call0_v3,
    val_main_call0_v2, val_main_call0_cst, val_main_call0_v1, val_main_call0_v0, val_main_v13, val_main_v12, val_main_v11, val_main_v10, val_main_v9, val_main_v8,
    val_main_v7, val_main_v6, val_main_v5, val_main_cst_1, val_main_v4, val_main_v3, val_main_cst_0, val_main_v2, val_main_v1, val_main_cst, val_main_v0, hid, rms, Ideal.logistic]

end Cert.FfnRefIdeal.Read

namespace Cert.FfnIdeal.Value
open Cert.FfnIdeal Cert.FfnIdeal.Gen

variable (m : (ℓ : Loc nD τ sig) → Buf (Elt Ideal) ℓ) (ρ : Dev nD → PrngReg)

/-- The windows' block indices at a point: the rows' block is `t / 2`, the hidden half `t % 2`. -/
theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, _)

/-- What a rows' block ends holding, at an index: the row plus the two halves of its gated feed-forward. -/
theorem block_apply (x x' : FVec Ideal S768x1024 .f32) (g : FVec Ideal S1x1024 .f32) (u v u' v' : FVec Ideal S1024x1408 .bf16) (w w' : FVec Ideal S1408x1024 .bf16)
    (y : S768x1024.Idx) :
    k0_pay4 (F := Ideal) x (k0_pay3 (F := Ideal) (k0_pay1 (F := Ideal) x' g) u v (k0_pay3 (F := Ideal) (k0_pay1 (F := Ideal) x' g) u' v' (k0_pay2 (F := Ideal)) w') w) y
      = x (ix2 (y 0) (y 1)) + ((∑ h : Fin 1408, hid (rms (fun k => x' (ix2 (y 0) k)) fun k => g (ix2 0 k)) (fun k => u' (ix2 k h)) (fun k => v' (ix2 k h)) * w' (ix2 h (y 1)))
          + ∑ h : Fin 1408, hid (rms (fun k => x' (ix2 (y 0) k)) fun k => g (ix2 0 k)) (fun k => u (ix2 k h)) (fun k => v (ix2 k h)) * w (ix2 h (y 1))) := by
  pointwise [k0_pay4, k0_pay3, k0_pay2, k0_pay1, hid, rms]

/-- The result array after the run is the reference's term over the arguments. -/
theorem final (c : Dev nD) : (dats m 0 c).arrAt 5 (cfgs 0).N
    = FfnRefIdeal.Read.val_main_v18 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h1 := (flush0_5 t).mp hf
  have ht : t.val - 1 < cfg0.N := lt_of_le_of_lt (Nat.sub_le _ _) t.isLt
  have e1 : (t.val - 1) % 2 = 0 := by omega
  have e2 : (t.val - 1) / 2 = t.val / 2 := by omega
  have hA := outsAt0_A m c ⟨t.val - 1, ht⟩ e1 (by dsimp only; omega)
  have hI := idx ⟨t.val - 1, ht⟩
  dsimp only at hA hI
  rw [e1, e2] at hI
  have hJ := idx t
  rw [h1] at hJ
  blk_simp
  rw [after0_5, outsAt0_B m c t (by omega) h1]
  frame_out
  rw [hA]
  frame_out
  erw [(Memref.isWhole_whole cc0_scratch0).read_unread, (Memref.isWhole_whole cc0_scratch1).read_unread]
  rw [block_apply, FfnRefIdeal.Read.ref_apply]
  blk_point [iblk, V, hI, hJ]

end Cert.FfnIdeal.Value
end
-- ==== Proof.FfnClaim.lean ====
/- The claims about the gated feed-forward: the frames of its programs and the equality of its result with its reference's. -/
module

public import proofs.«01_k».proof.Defs
public import proofs.«01_k».proof.Proof.FfnValue
public import proofs.«01_k».proof.Proof.Gen.Ffn.Frame
public import proofs.«01_k».proof.Proof.Gen.FfnRefIdeal.Run
public import Idealize.ShloMosaic.Lib.Claim

@[expose] public section

set_option maxRecDepth 16384

noncomputable section

namespace Cert.Proof

open Idealize.ShloMosaic Idealize.ShloMosaic.TcCoe Idealize.SL.Sem

theorem frame_ffn : Cert.quiescent_Ffn := fun m ρ _ => Cert.Ffn.Gen.frame m ρ

theorem frame_ffn_ideal : Cert.quiescent_FfnIdeal := fun m ρ _ => Cert.FfnIdeal.Gen.frame m ρ

theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_ffn : Cert.algebraic_FfnIdeal_FfnRefIdeal := by
  pair_intro
  · run_from Cert.FfnIdeal.Gen.run_main m g
  · run_from Cert.FfnRefIdeal.Value.run m' g'
    exact (Cert.FfnIdeal.Value.final m c).symm

end Cert.Proof
end
-- ==== Proof.CombineMath.lean ====
/- A one-hot row picks at most one slot, so gating the chunks one by one is gating their sum. -/
module

public import proofs.«01_k».proof.Proof.Math

@[expose] public section

noncomputable section

open Idealize.ShloMosaic

namespace Cert.Proof.Combine

/-- One where the slot asked for is row `n`, zero elsewhere. -/
def at1 (a : EReal) (n : ℕ) : EReal := if a = ((n : ℝ) : EReal) then 1 else 0

theorem at1_ne {a : EReal} {n k : ℕ} (h : a = ((n : ℝ) : EReal)) (hk : k ≠ n) : at1 a k = 0 := by
  unfold at1
  rw [if_neg]
  intro e
  rw [h] at e
  exact hk (by exact_mod_cast (EReal.coe_injective e).symm)

theorem at1_none {a : EReal} {k : ℕ} (h : ¬ a = ((k : ℝ) : EReal)) : at1 a k = 0 := if_neg h

/-- The rows below `n` picked by the slot. -/
def picked (a : EReal) (y : ℕ → EReal) (n : ℕ) : EReal := ∑ k ∈ Finset.range n, at1 a k * y k

/-- The rows of one chunk picked by the slot. -/
def pickedIn (a : EReal) (y : ℕ → EReal) (c : ℕ) : EReal := ∑ j : Fin 448, at1 a (448 * c + j.val) * y (448 * c + j.val)

theorem picked_succ (a : EReal) (y : ℕ → EReal) (c : ℕ) : picked a y (448 * (c + 1)) = picked a y (448 * c) + pickedIn a y c := by
  unfold picked pickedIn
  rw [show 448 * (c + 1) = 448 * c + 448 by ring, Finset.sum_range_add, Finset.sum_range (n := 448)]

theorem one_zero (a : EReal) (y : ℕ → EReal) (c : ℕ) : picked a y (448 * c) = 0 ∨ pickedIn a y c = 0 := by
  by_cases h : ∃ k, k < 448 * c ∧ a = ((k : ℝ) : EReal)
  · obtain ⟨k, hk, e⟩ := h
    right
    exact Finset.sum_eq_zero fun j _ => by rw [at1_ne e (by omega), zero_mul]
  · left
    refine Finset.sum_eq_zero fun k hk => ?_
    rw [at1_none fun e => h ⟨k, Finset.mem_range.mp hk, e⟩, zero_mul]

/-- The gate spreads over a chunk and the chunks before it. -/
theorem gate_succ (g a : EReal) (y : ℕ → EReal) (c : ℕ) : g * picked a y (448 * (c + 1)) = g * picked a y (448 * c) + g * pickedIn a y c := by
  rw [picked_succ]
  rcases one_zero a y c with h | h <;> rw [h] <;> simp

/-- The rows of a whole block, the unused ones zero. -/
theorem picked_masked (a : EReal) (y : ℕ → EReal) {n : ℕ} (hn : n ≤ 1792) :
    ∑ k : Fin 1792, (if k.val < n then y k.val else 0) * at1 a k.val = picked a y n := by
  unfold picked
  rw [← Finset.sum_range (f := fun k => (if k < n then y k else 0) * at1 a k)]
  rw [← Finset.sum_subset (Finset.range_subset_range.mpr hn) (f := fun k => (if k < n then y k else 0) * at1 a k)]
  · refine Finset.sum_congr rfl fun k hk => ?_
    rw [if_pos (Finset.mem_range.mp hk), mul_comm]
  · intro k _ hk
    rw [if_neg fun h => hk (Finset.mem_range.mpr h), zero_mul]

end Cert.Proof.Combine
end
-- ==== Proof.CombineLoops.lean ====
/- The combining call's counted loop: the stores of its trips read back as a running sum. -/
module

public import proofs.«01_k».proof.Proof.Gen.CombineIdeal.Skeleton
public import proofs.«01_k».proof.Proof.Gen.CombineIdeal.Loops
public import Idealize.ShloMosaic.Lib.Pointwise.Index
public import Idealize.ShloMosaic.Lib.WritesUnit
public import Idealize.ShloMosaic.Lib.Pipeline.Kit

@[expose] public section

set_option maxRecDepth 8192

noncomputable section

namespace Cert.Proof.Combine

open Cert.CombineIdeal Cert.CombineIdeal.Gen
open Idealize.ShloMosaic Idealize.ShloMosaic.TcCoe Idealize.SL.Sem

variable {F : FTy → Type} [FloatOps F]

/-- The counts the precondition admits. -/
abbrev Small (v : BitVec 32) : Prop := v = 0#32 ∨ v = 1#32 ∨ v = 2#32 ∨ v = 3#32 ∨ v = 4#32

theorem trips1 {v : BitVec 32} (h : Small v) : (k0_t1_loop v).trips = v.toNat := by
  rcases h with rfl | rfl | rfl | rfl | rfl <;> decide
theorem trips2 {v : BitVec 32} (h : Small v) : (k0_t2_loop v).trips = 0 := by
  rcases h with rfl | rfl | rfl | rfl | rfl <;> decide
theorem small_le {v : BitVec 32} (h : Small v) : v.toNat ≤ 4 := by
  rcases h with rfl | rfl | rfl | rfl | rfl <;> decide
theorem off2_eq {v : BitVec 32} (h : Small v) : ∀ k : Fin (k0_t1_loop v).trips, k0_off2 v k = ![0, 0, 448 * k.val, 0] := by
  rcases h with rfl | rfl | rfl | rfl | rfl <;> decide

/-- The side conditions the body assumes of the count it reads hold at the counts the precondition admits. -/
theorem chk_of_small {v : BitVec 32} (h : Small v) : k0_chk1 v := by
  unfold k0_chk1
  rcases h with rfl | rfl | rfl | rfl | rfl <;> decide

/-- The chunk of the experts' rows a trip loads. -/
def chunk (v3 : BitVec 32) (hw : k0_chk1 v3) (x3 : Vec F S1x1x1792x1024 .bf16) (k : Fin (k0_t1_loop v3).trips) : Vec F S1x1x448x1024 .bf16 :=
  fun y => x3 ((Rect.unit (s := S1x1x1792x1024) (k0_off2 v3 k) S1x1x448x1024.size (k0_off2_inb v3 hw k)).emb y)

/-- What the output's block holds after `k` trips, from what it held before the first. -/
def acc (i : grid0.Coords) (v3 : BitVec 32) (hw : k0_chk1 v3) (v10 v17 : Vec F S1536x128 .f32) (x3 : Vec F S1x1x1792x1024 .bf16) (a : Vec F S1536x1024 .f32) :
    ℕ → Vec F S1536x1024 .f32
  | 0 => a
  | k + 1 => if h : k < (k0_t1_loop v3).trips then k0_pay3 i v3 v10 v17 ⟨k, h⟩ (chunk v3 hw x3 ⟨k, h⟩) (acc i v3 hw v10 v17 x3 a k) else acc i v3 hw v10 v17 x3 a k

/-- A load of the whole block reads it, -/
theorem readAt_all (M : Memref sig .tc .vmem S1536x1024 .f32) (f : BufTy.Contents (Elt F) M.view.ty) :
    M.view.readAt (Elt F) (Rect.unit (s := S1536x1024) ![0, 0] S1536x1024.size inb_S1536x1024_S1536x1024_0_0).toLoadRect f = M.view.read (Elt F) f := by
  funext y
  rw [View.readAt_apply]
  congr 1
  funext a
  apply Fin.ext
  match a with
  | ⟨0, _⟩ => show 0 + 1 * (y 0).val = (y 0).val; omega
  | ⟨1, _⟩ => show 0 + 1 * (y 1).val = (y 1).val; omega

/-- and a store of the whole block leaves what it stored. -/
theorem read_store_all (M : Memref sig .tc .vmem S1536x1024 .f32) (f : BufTy.Contents (Elt F) M.view.ty) (w : Vec F S1536x1024 .f32)
    (L : List (View.Piece (Elt F) S1536x1024 .f32)) :
    M.view.read (Elt F) (M.view.writes (Elt F) f (⟨Rect.unit (s := S1536x1024) ![0, 0] S1536x1024.size inb_S1536x1024_S1536x1024_0_0, w⟩ :: L)) = w := by
  funext y
  refine View.read_writes_cons_unit_of_mem M.view f inb_S1536x1024_S1536x1024_0_0 w L y y rfl fun a => ?_
  match a with
  | ⟨0, _⟩ => show (y 0).val = 0 + (y 0).val; omega
  | ⟨1, _⟩ => show (y 1).val = 0 + (y 1).val; omega

section
variable (c : Dev nD) (i : grid0.Coords) (arg2 : Memref sig .tc .smem S88 .i32) (harg2 : arg2.IsWhole) (arg3 : Memref sig .tc .vmem S1536x1024 .f32) (harg3 : arg3.IsWhole)
  (arg4 : Memref sig .tc .vmem S1536x128 .f32) (harg4 : arg4.IsWhole) (arg5 : Memref sig .tc .vmem S1536x128 .f32) (harg5 : arg5.IsWhole)
  (arg6 : Memref sig .tc .vmem S1x1x1792x1024 .bf16) (harg6 : arg6.IsWhole) (arg7 : Memref sig .tc .vmem S1x1024 .f32) (harg7 : arg7.IsWhole)
  (arg8 : Memref sig .tc .vmem S1536x1024 .f32) (harg8 : arg8.IsWhole) (v3 : Elt F .i32) (hw : k0_chk1 v3) (v10 v17 : Vec F S1536x128 .f32)

/-- The one store of a trip. -/
theorem trip_pieces (X : BufTy.Contents (Elt F) arg6.view.ty) (k : Fin (k0_t1_loop v3).trips) (f : BufTy.Contents (Elt F) arg8.view.ty) :
    tripL_k0_t1 (F := F) Variants.none c none i arg2 harg2 arg3 harg3 arg4 harg4 arg5 harg5 arg6 harg6 arg7 harg7 arg8 harg8 v3 hw v10 v17 X k f
      = [⟨Rect.unit (s := S1536x1024) ![0, 0] S1536x1024.size inb_S1536x1024_S1536x1024_0_0,
          k0_pay3 i v3 v10 v17 k (arg6.view.readAt (Elt F) (Rect.unit (s := S1x1x1792x1024) (k0_off2 v3 k) S1x1x448x1024.size (k0_off2_inb v3 hw k)).toLoadRect X)
            (arg8.view.readAt (Elt F) (Rect.unit (s := S1536x1024) ![0, 0] S1536x1024.size inb_S1536x1024_S1536x1024_0_0).toLoadRect f)⟩] := by
  unfold tripL_k0_t1 trip_k0_t1
  rfl

/-- After `k` trips the block reads the running sum. -/
theorem read_pb (X : BufTy.Contents (Elt F) arg6.view.ty) (x3 : Vec F S1x1x1792x1024 .bf16) (hX : arg6.view.read (Elt F) X = x3) (G : BufTy.Contents (Elt F) arg8.view.ty) :
    ∀ k : ℕ, k ≤ (k0_t1_loop v3).trips →
      arg8.view.read (Elt F) (arg8.view.writes (Elt F) G (pb_k0_t1 (F := F) Variants.none c none i arg2 harg2 arg3 harg3 arg4 harg4 arg5 harg5 arg6 harg6 arg7 harg7 arg8 harg8 v3 hw v10 v17 X G k))
        = acc i v3 hw v10 v17 x3 (arg8.view.read (Elt F) G) k := by
  intro k
  induction k with
  | zero => intro _; rfl
  | succ k ih =>
    intro hk
    have e := pb_k0_t1_succ (F := F) Variants.none c none i arg2 harg2 arg3 harg3 arg4 harg4 arg5 harg5 arg6 harg6 arg7 harg7 arg8 harg8 v3 hw v10 v17 X G ⟨k, hk⟩
    dsimp only at e
    rw [e, trip_pieces, List.singleton_append, read_store_all, readAt_all, ih (Nat.le_of_succ_le hk), acc, dif_pos (show k < (k0_t1_loop v3).trips from hk)]
    refine congrArg (fun z => k0_pay3 i v3 v10 v17 ⟨k, hk⟩ z _) ?_
    funext y
    rw [View.readAt_apply, hX]
    rfl
end

end Cert.Proof.Combine
end
-- ==== Proof.CombineRead.lean ====
/- The combining call's payloads and its reference read at an index. -/
module

public import proofs.«01_k».proof.Proof.CombineMath
public import proofs.«01_k».proof.Proof.CombineLoops
public import proofs.«01_k».proof.Proof.Gen.CombineRefIdeal.Read
public import Idealize.ShloMosaic.Lib.Pipeline.ValueKit

@[expose] public section

set_option maxRecDepth 16384

noncomputable section

open Idealize.ShloMosaic Idealize.ShloMosaic.TcCoe Idealize.SL.Sem Cert.Rows

namespace Cert.Proof.Combine

theorem cmpi_eq_of (a b : BitVec 32) : IntOp.cmpi .eq a b = if a = b then 1#1 else 0#1 := by
  by_cases h : a = b
  · subst h; rw [if_pos rfl]; simp [IntOp.cmpi]
  · rw [if_neg h]
    show BitVec.ofBool (a == b) = 0#1
    rw [beq_eq_false_iff_ne.mpr h]; rfl

theorem ofNat_inj {a b : ℕ} (ha : a < 128) (hb : b < 128) : BitVec.ofNat 32 a = BitVec.ofNat 32 b ↔ a = b := by
  constructor
  · intro h
    have := congrArg BitVec.toNat h
    rw [BitVec.toNat_ofNat, BitVec.toNat_ofNat] at this
    omega
  · rintro rfl; rfl

/-- The lane asked for, from the lanes summed with every other masked. -/
theorem lane_sum (f : Fin 128 → EReal) (e : ℕ) (he : e < 128) :
    ∑ k : Fin 128, Scalar.select (IntOp.cmpi .eq (BitVec.ofNat 32 k.val) (BitVec.ofNat 32 e)) (f k) (0 : EReal) = f ⟨e, he⟩ := by
  rw [Finset.sum_eq_single_of_mem ⟨e, he⟩ (Finset.mem_univ _)]
  · rw [cmpi_eq_of, if_pos rfl]; rfl
  · intro k _ hk
    rw [cmpi_eq_of, if_neg fun h => hk (Fin.ext ((ofNat_inj k.isLt he).mp h))]
    rfl

/-- The float of a row's number. -/
theorem sitofp_ofNat (n : ℕ) (hn : n < 2048) : (FloatOps.sitofp .f32 (BitVec.ofNat 32 n) : Ideal .f32) = (((n : ℝ)) : EReal) := by
  have e : (BitVec.ofNat 32 n).toInt = (n : ℤ) := by
    rw [BitVec.toInt_eq_toNat_of_lt (by rw [BitVec.toNat_ofNat]; omega), BitVec.toNat_ofNat]
    omega
  show ((((BitVec.ofNat 32 n).toInt : ℝ)) : EReal) = _
  rw [e]
  norm_num

/-- The test of a slot against a row's number, as a float. -/
theorem uitofp_at1 (a : EReal) (n : ℕ) (hn : n < 2048) :
    (FloatOps.uitofp .f32 (BitVec.ofBool (decide (a = (FloatOps.sitofp .f32 (BitVec.ofNat 32 n) : Ideal .f32)))) : Ideal .f32) = at1 a n := by
  rw [sitofp_ofNat n hn]
  unfold at1
  by_cases h : a = ((n : ℝ) : EReal)
  · rw [if_pos h, decide_eq_true h]
    show ((((1#1 : BitVec 1).toNat : ℝ)) : EReal) = 1
    norm_num
  · rw [if_neg h, decide_eq_false h]
    show ((((0#1 : BitVec 1).toNat : ℝ)) : EReal) = 0
    norm_num

/-- A row is counted exactly where its number is less than the counted chunks' rows. -/
theorem counted {v : BitVec 32} (h : Small v) (r : ℕ) (hr : r < 1792) : IntOp.cmpi .slt (BitVec.ofNat 32 r) (v * 448#32) = if r < 448 * v.toNat then 1#1 else 0#1 := by
  have e : (BitVec.ofNat 32 r).toInt = (r : ℤ) := by
    rw [BitVec.toInt_eq_toNat_of_lt (by rw [BitVec.toNat_ofNat]; omega), BitVec.toNat_ofNat]
    omega
  have hc : (BitVec.ofNat 32 r).slt (v * 448#32) = true ↔ r < 448 * v.toNat := by
    rw [BitVec.slt_iff_toInt_lt, e]
    rcases h with rfl | rfl | rfl | rfl | rfl <;> norm_num [BitVec.toInt] <;> omega
  show BitVec.ofBool ((BitVec.ofNat 32 r).slt (v * 448#32)) = _
  by_cases hb : r < 448 * v.toNat
  · rw [if_pos hb, hc.mpr hb]; rfl
  · rw [if_neg hb, Bool.eq_false_iff.mpr fun h => hb (hc.mp h)]; rfl

section Kernel
open Cert.CombineIdeal Cert.CombineIdeal.Gen

/-- The expert's lane. -/
abbrev laneOf (i : grid0.Coords) : Fin 128 := ⟨(i 1).val, lt_trans (show (i 1).val < 8 from (i 1).isLt) (by decide)⟩

theorem pay1_apply (i : grid0.Coords) (v : FVec Ideal S1536x128 .f32) (y : S1536x1.Idx) : k0_pay1 (F := Ideal) i v y = v (ix2 (y 0) (laneOf i)) := by
  pointwise [k0_pay1]
  exact lane_sum (fun k => v (ix2 (y 0) k)) _ _

theorem pay2_apply (i : grid0.Coords) (v : FVec Ideal S1536x128 .f32) (y : S1536x1.Idx) : k0_pay2 (F := Ideal) i v y = v (ix2 (y 0) (laneOf i)) := by
  pointwise [k0_pay2]
  exact lane_sum (fun k => v (ix2 (y 0) k)) _ _

theorem pay3_apply (i : grid0.Coords) (v : BitVec 32) (x1 x2 : FVec Ideal S1536x128 .f32) (k : Fin (k0_t1_loop v).trips) (hk : k.val < 4)
    (w : FVec Ideal S1x1x448x1024 .bf16) (o : FVec Ideal S1536x1024 .f32) (y : S1536x1024.Idx) :
    k0_pay3 (F := Ideal) i v x1 x2 k w o y
      = o y + x2 (ix2 (y 0) (laneOf i)) * ∑ j : Fin 448, at1 (x1 (ix2 (y 0) (laneOf i))) (448 * k.val + j.val) * w (ix4 0 0 j (y 1)) := by
  have e : ∀ j : Fin 448, IntOp.addi (Scalar.muli (Scf.iv 0#32 1#32 k.val) 448#32) (BitVec.ofNat 32 j.val) = BitVec.ofNat 32 (448 * k.val + j.val) := by
    intro j
    have hy := j.isLt
    generalize k.val = n at hk
    generalize j.val = r at hy
    apply BitVec.eq_of_toNat_eq
    have h4 : n = 0 ∨ n = 1 ∨ n = 2 ∨ n = 3 := by omega
    rcases h4 with rfl | rfl | rfl | rfl <;> simp [IntOp.addi, Scalar.muli, IntOp.muli, Scf.iv]
  have hit : ∀ j : Fin 448, (if x1 (ix2 (y 0) (laneOf i)) = (FloatOps.sitofp .f32 (IntOp.addi (Scalar.muli (Scf.iv 0#32 1#32 k.val) 448#32) (BitVec.ofNat 32 j.val)) : Ideal .f32) then (1 : EReal) else 0)
      = at1 (x1 (ix2 (y 0) (laneOf i))) (448 * k.val + j.val) := by
    intro j
    rw [e j, sitofp_ofNat _ (by omega)]
    rfl
  pointwise [k0_pay3, pay1_apply, pay2_apply]
  exact congrArg (fun z : EReal => o y + x2 (ix2 (y 0) (laneOf i)) * z) (Finset.sum_congr rfl fun j _ => congrArg (· * w (ix4 0 0 j (y 1))) (hit j))

theorem pay5_apply (o : FVec Ideal S1536x1024 .f32) (g : FVec Ideal S1x1024 .f32) (y : S1536x1024.Idx) :
    k0_pay5 (F := Ideal) o g y = rms (fun k => o (ix2 (y 0) k)) (fun k => g (ix2 0 k)) (y 1) := by
  pointwise [k0_pay5, rms]
end Kernel

section Ref
open Cert.CombineRefIdeal Cert.CombineRefIdeal.Gen Cert.CombineRefIdeal.Read

/-- The experts' rows of a tile at a feature, by their number. -/
def rowsOf (x4 : FVec Ideal S8x11x1792x1024 .bf16) (e : Fin 8) (r : Fin 11) (d : Fin 1024) : ℕ → EReal :=
  fun n => if h : n < 1792 then x4 (ix4 e r ⟨n, h⟩ d) else 0

theorem ref_rows (x0 : IVec S88 32) (x2 : FVec Ideal S16896x128 .f32) (x4 : FVec Ideal S8x11x1792x1024 .bf16) (hs : ∀ j, Small (x0 j)) (i : S11x1536x8x1024.Idx) :
    val_main_v20 (F := Ideal) x0 x2 x4 i
      = picked (x2 (ix2 ⟨(i 0).val * 1536 + (i 1).val, by have h0 : (i 0).val < 11 := (i 0).isLt; have h1 : (i 1).val < 1536 := (i 1).isLt; omega⟩ ⟨(i 2).val, lt_trans (show (i 2).val < 8 from (i 2).isLt) (by decide)⟩))
          (rowsOf x4 (i 2) (i 0) (i 3)) (448 * (x0 (ix1 ⟨(i 0).val * 8 + (i 2).val, by have h0 : (i 0).val < 11 := (i 0).isLt; have h1 : (i 2).val < 8 := (i 2).isLt; omega⟩)).toNat) := by
  have hle := small_le (hs (ix1 ⟨(i 0).val * 8 + (i 2).val, by have h0 : (i 0).val < 11 := (i 0).isLt; have h1 : (i 2).val < 8 := (i 2).isLt; omega⟩))
  rw [← picked_masked _ _ (by omega)]
  pointwise [val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_c, val_main_cst,
    val_main_call0_v0, val_main_call0_v1, id, IntOp.muli]
  refine Finset.sum_congr rfl fun k _ => ?_
  have hk := k.isLt
  rw [counted (hs _) k.val hk, uitofp_at1 _ _ (by omega)]
  have hr : rowsOf x4 (i 2) (i 0) (i 3) k.val = x4 (ix4 (i 2) (i 0) k (i 3)) := dif_pos hk
  rw [hr]
  split
  · rfl
  · exact (zero_mul _).symm

theorem ref_sum (x0 : IVec S88 32) (x1 : FVec Ideal S16896x1024 .f32) (x2 x3 : FVec Ideal S16896x128 .f32) (x4 : FVec Ideal S8x11x1792x1024 .bf16) (i : S16896x1024.Idx) :
    val_main_v25 (F := Ideal) x0 x1 x2 x3 x4 i
      = x1 i + ∑ e : Fin 8, x3 (ix2 (i 0) ⟨e.val, lt_trans e.isLt (by decide)⟩)
          * val_main_v20 (F := Ideal) x0 x2 x4 (ix4 ⟨(i 0).val / 1536, by have h0 : (i 0).val < 16896 := (i 0).isLt; omega⟩ ⟨(i 0).val % 1536, Nat.mod_lt _ (by decide)⟩ e (i 1)) := by
  pointwise [val_main_v25, val_main_v24, val_main_v23, val_main_v22, val_main_v21]

theorem ref_apply (x0 : IVec S88 32) (x1 : FVec Ideal S16896x1024 .f32) (x2 x3 : FVec Ideal S16896x128 .f32) (x4 : FVec Ideal S8x11x1792x1024 .bf16) (x5 : FVec Ideal S1024 .f32)
    (i : S16896x1024.Idx) :
    val_main_v38 (F := Ideal) x0 x1 x2 x3 x4 x5 i
      = rms (fun k => val_main_v25 (F := Ideal) x0 x1 x2 x3 x4 (ix2 (i 0) k)) (fun k => x5 (ix1 k)) (i 1) := by
  pointwise [val_main_v38, val_main_v37, val_main_v36, val_main_v35, val_main_v34, val_main_v33, val_main_v32, val_main_v31, val_main_v30, val_main_v29, val_main_v28, val_main_v27,
    val_main_v26, val_main_cst_0, val_main_cst_1, val_main_cst_2, rms]
end Ref

end Cert.Proof.Combine
end
-- ==== Proof.CombineRuns.lean ====
/- What each case of the combining call's body leaves in the output's block: a running sum over the counted chunks, from the rows
   it adds to, normed at the last expert. -/
module

public import proofs.«01_k».proof.Proof.CombineLoops
public import proofs.«01_k».proof.Proof.Gen.CombineIdeal.Frame
public import Idealize.ShloMosaic.Lib.WholeRead

@[expose] public section

set_option maxRecDepth 8192

noncomputable section

namespace Cert.Proof.Combine

open Cert.CombineIdeal Cert.CombineIdeal.Gen
open Idealize.ShloMosaic Idealize.ShloMosaic.TcCoe Idealize.SL.Sem

variable {F : FTy → Type} [FloatOps F]

/-- A load of a whole buffer of lanes reads it, -/
theorem readAt_lanes (M : Memref sig .tc .vmem S1536x128 .f32) (hM : M.IsWhole) (x : Vec F S1536x128 .f32) :
    M.view.readAt (Elt F) (Rect.unit (s := S1536x128) ![0, 0] S1536x128.size inb_S1536x128_S1536x128_0_0).toLoadRect (hM.unread x) = x := by
  funext y
  rw [View.readAt_apply, hM.read_unread]
  congr 1
  funext a
  apply Fin.ext
  match a with
  | ⟨0, _⟩ => show 0 + 1 * (y 0).val = (y 0).val; omega
  | ⟨1, _⟩ => show 0 + 1 * (y 1).val = (y 1).val; omega

/-- and so does a load of the gain's row. -/
theorem readAt_gain (M : Memref sig .tc .vmem S1x1024 .f32) (hM : M.IsWhole) (x : Vec F S1x1024 .f32) :
    M.view.readAt (Elt F) (Rect.unit (s := S1x1024) ![0, 0] S1x1024.size inb_S1x1024_S1x1024_0_0).toLoadRect (hM.unread x) = x := by
  funext y
  rw [View.readAt_apply, hM.read_unread]
  congr 1
  funext a
  apply Fin.ext
  match a with
  | ⟨0, _⟩ => show 0 + 1 * (y 0).val = (y 0).val; omega
  | ⟨1, _⟩ => show 0 + 1 * (y 1).val = (y 1).val; omega

/-- The count a point's body reads from the table. -/
abbrev word (c : Dev nD) (i : grid0.Coords) (xt0 : TbBuf0 (F := F) c tbM0_0) : BitVec 32 :=
  tbM0_0.view.readAt (Elt F) (Rect.unit (s := S88) (k0_off1 i) S1.size (k0_off1_inb i)).toLoadRect xt0 (Shape.Idx.first (numel1_S1.symm ▸ Nat.one_pos))

section
variable (c : Dev nD) (i : grid0.Coords) (arg3 : Memref sig .tc .vmem S1536x1024 .f32) (harg3 : arg3.IsWhole)
  (arg4 : Memref sig .tc .vmem S1536x128 .f32) (harg4 : arg4.IsWhole) (arg5 : Memref sig .tc .vmem S1536x128 .f32) (harg5 : arg5.IsWhole)
  (arg6 : Memref sig .tc .vmem S1x1x1792x1024 .bf16) (harg6 : arg6.IsWhole) (arg7 : Memref sig .tc .vmem S1x1024 .f32) (harg7 : arg7.IsWhole)
  (arg8 : Memref sig .tc .vmem S1536x1024 .f32) (harg8 : arg8.IsWhole)
  (x0 : Vec F S1536x1024 .f32) (x1 x2 : Vec F S1536x128 .f32) (x3 : Vec F S1x1x1792x1024 .bf16) (x4 : Vec F S1x1024 .f32)
  (xt0 : TbBuf0 (F := F) c tbM0_0) (xo5 : Vec F S1536x1024 .f32) (hw : k0_chk1 (word c i xt0))

/-- The loop's remainder runs no trip. -/
theorem no_rest (hs : Small (word c i xt0)) (X : BufTy.Contents (Elt F) arg6.view.ty) (G : BufTy.Contents (Elt F) arg8.view.ty) (v10 v17 : Vec F S1536x128 .f32) :
    pb_k0_t2 (F := F) Variants.none c none i tbM0_0 htbM0_0 arg3 harg3 arg4 harg4 arg5 harg5 arg6 harg6 arg7 harg7 arg8 harg8 (word c i xt0) hw v10 v17 X G (k0_t2_loop (word c i xt0)).trips = [] := by
  rw [trips2 hs]
  rfl

/-- The stores of the first expert's points, -/
theorem pieces_A (hc0 : cond0_0 i) (hc1 : ¬cond0_1 i) : ∃ G, (kernelRun0_A c i arg3 harg3 arg4 harg4 arg5 harg5 arg6 harg6 arg7 harg7 arg8 harg8 hc0 hc1 x0 x1 x2 x3 x4 xt0 hw).1
    = pb_k0_t2 (F := F) Variants.none c none i tbM0_0 htbM0_0 arg3 harg3 arg4 harg4 arg5 harg5 arg6 harg6 arg7 harg7 arg8 harg8 (word c i xt0) hw (arg4.view.readAt (Elt F) (Rect.unit (s := S1536x128) ![0, 0] S1536x128.size inb_S1536x128_S1536x128_0_0).toLoadRect (harg4.unread x1)) (arg5.view.readAt (Elt F) (Rect.unit (s := S1536x128) ![0, 0] S1536x128.size inb_S1536x128_S1536x128_0_0).toLoadRect (harg5.unread x2)) (harg6.unread x3) G (k0_t2_loop (word c i xt0)).trips
      ++ (pb_k0_t1 (F := F) Variants.none c none i tbM0_0 htbM0_0 arg3 harg3 arg4 harg4 arg5 harg5 arg6 harg6 arg7 harg7 arg8 harg8 (word c i xt0) hw (arg4.view.readAt (Elt F) (Rect.unit (s := S1536x128) ![0, 0] S1536x128.size inb_S1536x128_S1536x128_0_0).toLoadRect (harg4.unread x1)) (arg5.view.readAt (Elt F) (Rect.unit (s := S1536x128) ![0, 0] S1536x128.size inb_S1536x128_S1536x128_0_0).toLoadRect (harg5.unread x2)) (harg6.unread x3) (arg8.view.writes (Elt F) arg8.view.junk [⟨Rect.unit (s := S1536x1024) ![0, 0] S1536x1024.size inb_S1536x1024_S1536x1024_0_0, arg3.view.readAt (Elt F) (Rect.unit (s := S1536x1024) ![0, 0] S1536x1024.size inb_S1536x1024_S1536x1024_0_0).toLoadRect (harg3.unread x0)⟩]) (k0_t1_loop (word c i xt0)).trips
      ++ [⟨Rect.unit (s := S1536x1024) ![0, 0] S1536x1024.size inb_S1536x1024_S1536x1024_0_0, arg3.view.readAt (Elt F) (Rect.unit (s := S1536x1024) ![0, 0] S1536x1024.size inb_S1536x1024_S1536x1024_0_0).toLoadRect (harg3.unread x0)⟩]) := by
  unfold kernelRun0_A
  exact ⟨_, rfl⟩

/-- of the experts' between, -/
theorem pieces_B (hc0 : ¬cond0_0 i) (hc1 : ¬cond0_1 i) : ∃ G, (kernelRun0_B c i arg3 harg3 arg4 harg4 arg5 harg5 arg6 harg6 arg7 harg7 arg8 harg8 hc0 hc1 x0 x1 x2 x3 x4 xt0 xo5 hw).1
    = pb_k0_t2 (F := F) Variants.none c none i tbM0_0 htbM0_0 arg3 harg3 arg4 harg4 arg5 harg5 arg6 harg6 arg7 harg7 arg8 harg8 (word c i xt0) hw (arg4.view.readAt (Elt F) (Rect.unit (s := S1536x128) ![0, 0] S1536x128.size inb_S1536x128_S1536x128_0_0).toLoadRect (harg4.unread x1)) (arg5.view.readAt (Elt F) (Rect.unit (s := S1536x128) ![0, 0] S1536x128.size inb_S1536x128_S1536x128_0_0).toLoadRect (harg5.unread x2)) (harg6.unread x3) G (k0_t2_loop (word c i xt0)).trips
      ++ pb_k0_t1 (F := F) Variants.none c none i tbM0_0 htbM0_0 arg3 harg3 arg4 harg4 arg5 harg5 arg6 harg6 arg7 harg7 arg8 harg8 (word c i xt0) hw (arg4.view.readAt (Elt F) (Rect.unit (s := S1536x128) ![0, 0] S1536x128.size inb_S1536x128_S1536x128_0_0).toLoadRect (harg4.unread x1)) (arg5.view.readAt (Elt F) (Rect.unit (s := S1536x128) ![0, 0] S1536x128.size inb_S1536x128_S1536x128_0_0).toLoadRect (harg5.unread x2)) (harg6.unread x3) (harg8.unread xo5) (k0_t1_loop (word c i xt0)).trips := by
  unfold kernelRun0_B
  exact ⟨_, rfl⟩

theorem out_A (hc0 : cond0_0 i) (hc1 : ¬cond0_1 i) (hs : Small (word c i xt0)) :
    out0_A_5 c i arg3 harg3 arg4 harg4 arg5 harg5 arg6 harg6 arg7 harg7 arg8 harg8 hc0 hc1 x0 x1 x2 x3 x4 xt0 hw = acc i (word c i xt0) hw x1 x2 x3 x0 (word c i xt0).toNat := by
  obtain ⟨G, hG⟩ := pieces_A c i arg3 harg3 arg4 harg4 arg5 harg5 arg6 harg6 arg7 harg7 arg8 harg8 x0 x1 x2 x3 x4 xt0 hw hc0 hc1
  unfold out0_A_5
  refine (View.read_writes_of_cover VO0_5 _ arg8.view arg8.view.junk _ (cover0_A_5 c i arg3 harg3 arg4 harg4 arg5 harg5 arg6 harg6 arg7 harg7 arg8 harg8 hc0 hc1 x0 x1 x2 x3 x4 xt0 hw)).trans ?_
  rw [hG, no_rest c i arg3 harg3 arg4 harg4 arg5 harg5 arg6 harg6 arg7 harg7 arg8 harg8 xt0 hw hs, List.nil_append, View.writes_append]
  rw [read_pb c i tbM0_0 htbM0_0 arg3 harg3 arg4 harg4 arg5 harg5 arg6 harg6 arg7 harg7 arg8 harg8 _ hw _ _ _ x3 (harg6.read_unread x3) _ _ le_rfl]
  rw [readAt_lanes, readAt_lanes, read_store_all, readAt_all, harg3.read_unread, trips1 hs]

theorem out_B (hc0 : ¬cond0_0 i) (hc1 : ¬cond0_1 i) (hs : Small (word c i xt0)) :
    out0_B_5 c i arg3 harg3 arg4 harg4 arg5 harg5 arg6 harg6 arg7 harg7 arg8 harg8 hc0 hc1 x0 x1 x2 x3 x4 xt0 xo5 hw = acc i (word c i xt0) hw x1 x2 x3 xo5 (word c i xt0).toNat := by
  obtain ⟨G, hG⟩ := pieces_B c i arg3 harg3 arg4 harg4 arg5 harg5 arg6 harg6 arg7 harg7 arg8 harg8 x0 x1 x2 x3 x4 xt0 xo5 hw hc0 hc1
  unfold out0_B_5
  rw [hG, no_rest c i arg3 harg3 arg4 harg4 arg5 harg5 arg6 harg6 arg7 harg7 arg8 harg8 xt0 hw hs, List.nil_append]
  rw [read_pb c i tbM0_0 htbM0_0 arg3 harg3 arg4 harg4 arg5 harg5 arg6 harg6 arg7 harg7 arg8 harg8 _ hw _ _ _ x3 (harg6.read_unread x3) _ _ le_rfl]
  rw [readAt_lanes, readAt_lanes, harg8.read_unread, trips1 hs]

theorem out_C (hc0 : ¬cond0_0 i) (hc1 : cond0_1 i) (hs : Small (word c i xt0)) :
    out0_C_5 c i arg3 harg3 arg4 harg4 arg5 harg5 arg6 harg6 arg7 harg7 arg8 harg8 hc0 hc1 x0 x1 x2 x3 x4 xt0 xo5 hw = k0_pay5 (acc i (word c i xt0) hw x1 x2 x3 xo5 (word c i xt0).toNat) x4 := by
  unfold out0_C_5 kernelRun0_C
  refine (read_store_all (Memref.whole cc0_stg5_0) _ _ _).trans ?_
  refine congrArg₂ k0_pay5 ?_ (readAt_gain _ _ _)
  unfold kernelRun0_C.sl.v30
  refine (readAt_all arg8 _).trans ?_
  refine (congrArg (fun L => arg8.view.read (Elt F) (arg8.view.writes (Elt F) (harg8.unread xo5) (L ++ pb_k0_t1 (F := F) Variants.none c none i tbM0_0 htbM0_0 arg3 harg3 arg4 harg4 arg5 harg5 arg6 harg6 arg7 harg7 arg8 harg8 (word c i xt0) hw (arg4.view.readAt (Elt F) (Rect.unit (s := S1536x128) ![0, 0] S1536x128.size inb_S1536x128_S1536x128_0_0).toLoadRect (harg4.unread x1)) (arg5.view.readAt (Elt F) (Rect.unit (s := S1536x128) ![0, 0] S1536x128.size inb_S1536x128_S1536x128_0_0).toLoadRect (harg5.unread x2)) (harg6.unread x3) (harg8.unread xo5) (k0_t1_loop (word c i xt0)).trips)))
    (no_rest c i arg3 harg3 arg4 harg4 arg5 harg5 arg6 harg6 arg7 harg7 arg8 harg8 xt0 hw hs _ _ _ _)).trans ?_
  rw [List.nil_append]
  rw [read_pb c i tbM0_0 htbM0_0 arg3 harg3 arg4 harg4 arg5 harg5 arg6 harg6 arg7 harg7 arg8 harg8 _ hw _ _ _ x3 (harg6.read_unread x3) _ _ le_rfl]
  rw [readAt_lanes, readAt_lanes, harg8.read_unread, trips1 hs]
end

end Cert.Proof.Combine
end
-- ==== Proof.CombineValue.lean ====
/- The combining call's result is its reference's. -/
module

public import proofs.«01_k».proof.Proof.CombineRead
public import proofs.«01_k».proof.Proof.CombineRuns
public import Idealize.ShloMosaic.Lib.StableHlo.ReadAt
public import Idealize.ShloMosaic.Lib.StableHlo.RunClose

@[expose] public section

set_option maxRecDepth 16384

noncomputable section

open Idealize.ShloMosaic Idealize.ShloMosaic.TcCoe Idealize.SL.Sem Idealize.ShloMosaic.StableHlo Cert.Rows

namespace Cert.Proof.Combine
open Cert.CombineIdeal Cert.CombineIdeal.Gen

/-- The rows of a block at a feature, by their number. -/
def blkRows (x3 : FVec Ideal S1x1x1792x1024 .bf16) (d : Fin 1024) : ℕ → EReal := fun n => if h : n < 1792 then x3 (ix4 0 0 ⟨n, h⟩ d) else 0

/-- A trip's chunk, from the block's rows. -/
theorem chunk_apply {v : BitVec 32} (hs : Small v) (hw : k0_chk1 v) (x3 : FVec Ideal S1x1x1792x1024 .bf16) (k : Fin (k0_t1_loop v).trips) (hk : k.val < 4) (j : Fin 448) (d : Fin 1024) :
    chunk (F := Ideal) v hw x3 k (ix4 0 0 j d) = blkRows x3 d (448 * k.val + j.val) := by
  have hn : 448 * k.val + j.val < 1792 := by omega
  have hb : blkRows x3 d (448 * k.val + j.val) = x3 (ix4 0 0 ⟨448 * k.val + j.val, hn⟩ d) := dif_pos hn
  rw [hb]
  refine congrArg x3 (funext fun a => Fin.ext ?_)
  have ho := congrFun (off2_eq hs k)
  match a with
  | ⟨0, _⟩ => exact (show k0_off2 v k 0 + 1 * 0 = 0 by rw [ho]; rfl)
  | ⟨1, _⟩ => exact (show k0_off2 v k 1 + 1 * 0 = 0 by rw [ho]; rfl)
  | ⟨2, _⟩ => exact (show k0_off2 v k 2 + 1 * j.val = 448 * k.val + j.val by rw [ho]; exact (by omega : 448 * k.val + 1 * j.val = 448 * k.val + j.val))
  | ⟨3, _⟩ => exact (show k0_off2 v k 3 + 1 * d.val = d.val by rw [ho]; exact (by omega : 0 + 1 * d.val = d.val))

/-- The block after `k` trips: what it held before, and the gated rows of the chunks gone over. -/
theorem acc_apply (i : grid0.Coords) {v : BitVec 32} (hs : Small v) (hw : k0_chk1 v) (x1 x2 : FVec Ideal S1536x128 .f32) (x3 : FVec Ideal S1x1x1792x1024 .bf16)
    (a : FVec Ideal S1536x1024 .f32) (y : S1536x1024.Idx) (k : ℕ) (hk : k ≤ v.toNat) :
    acc (F := Ideal) i v hw x1 x2 x3 a k y
      = a y + x2 (ix2 (y 0) (laneOf i)) * picked (x1 (ix2 (y 0) (laneOf i))) (blkRows x3 (y 1)) (448 * k) := by
  have h4 := small_le hs
  induction k with
  | zero =>
    show a y = _
    unfold picked
    rw [Nat.mul_zero, Finset.sum_range_zero, mul_zero, add_zero]
  | succ k ih =>
    have hlt : k < (k0_t1_loop v).trips := by rw [trips1 hs]; omega
    have e : acc (F := Ideal) i v hw x1 x2 x3 a (k + 1) = k0_pay3 (F := Ideal) i v x1 x2 ⟨k, hlt⟩ (chunk v hw x3 ⟨k, hlt⟩) (acc (F := Ideal) i v hw x1 x2 x3 a k) := dif_pos hlt
    have hc : ∑ j : Fin 448, at1 (x1 (ix2 (y 0) (laneOf i))) (448 * k + j.val) * chunk (F := Ideal) v hw x3 ⟨k, hlt⟩ (ix4 0 0 j (y 1))
        = pickedIn (x1 (ix2 (y 0) (laneOf i))) (blkRows x3 (y 1)) k :=
      Finset.sum_congr rfl fun j _ => congrArg (at1 _ (448 * k + j.val) * ·) (chunk_apply hs hw x3 ⟨k, hlt⟩ (by dsimp only; omega) j (y 1))
    rw [e]
    refine (pay3_apply i v x1 x2 ⟨k, hlt⟩ (by dsimp only; omega) _ _ y).trans ?_
    dsimp only
    rw [hc, ih (by omega), gate_succ, add_assoc]

/-- One expert's part of a row. -/
def part (A0 : IVec S88 32) (A2 A3 : FVec Ideal S16896x128 .f32) (A4 : FVec Ideal S8x11x1792x1024 .bf16) (p : Fin 16896) (d : Fin 1024) (e : ℕ) : EReal :=
  if h : e < 8 then A3 (ix2 p ⟨e, lt_trans h (by decide)⟩)
      * Cert.CombineRefIdeal.Read.val_main_v20 (F := Ideal) A0 A2 A4 (ix4 ⟨p.val / 1536, by omega⟩ ⟨p.val % 1536, Nat.mod_lt _ (by decide)⟩ ⟨e, h⟩ d)
    else 0

theorem ref_parts (A0 : IVec S88 32) (A1 : FVec Ideal S16896x1024 .f32) (A2 A3 : FVec Ideal S16896x128 .f32) (A4 : FVec Ideal S8x11x1792x1024 .bf16) (p : Fin 16896) (d : Fin 1024) :
    Cert.CombineRefIdeal.Read.val_main_v25 (F := Ideal) A0 A1 A2 A3 A4 (ix2 p d) = A1 (ix2 p d) + ∑ e ∈ Finset.range 8, part A0 A2 A3 A4 p d e := by
  rw [Finset.sum_range]
  refine (ref_sum A0 A1 A2 A3 A4 (ix2 p d)).trans ?_
  refine congrArg (A1 (ix2 p d) + ·) (Finset.sum_congr rfl fun e _ => ?_)
  unfold part
  rw [dif_pos e.isLt]
  rfl

/-- A point's trips add its expert's part. -/
theorem acc_part (i : grid0.Coords) {v : BitVec 32} (hs : Small v) (hw : k0_chk1 v) (x1 x2 : FVec Ideal S1536x128 .f32) (x3 : FVec Ideal S1x1x1792x1024 .bf16)
    (a : FVec Ideal S1536x1024 .f32) (A0 : IVec S88 32) (A2 A3 : FVec Ideal S16896x128 .f32) (A4 : FVec Ideal S8x11x1792x1024 .bf16)
    (hA : ∀ j, Small (A0 j)) (r : Fin 11) (e : Fin 8) (hi : (i 1).val = e.val)
    (h0 : v = A0 (ix1 ⟨r.val * 8 + e.val, by omega⟩))
    (h1 : ∀ q l, x1 (ix2 q l) = A2 (ix2 ⟨r.val * 1536 + q.val, by omega⟩ l)) (h2 : ∀ q l, x2 (ix2 q l) = A3 (ix2 ⟨r.val * 1536 + q.val, by omega⟩ l))
    (h3 : ∀ s d, x3 (ix4 0 0 s d) = A4 (ix4 e r s d)) (q : Fin 1536) (d : Fin 1024) :
    acc (F := Ideal) i v hw x1 x2 x3 a v.toNat (ix2 q d) = a (ix2 q d) + part A0 A2 A3 A4 ⟨r.val * 1536 + q.val, by omega⟩ d e.val := by
  have hl : laneOf i = (⟨e.val, lt_trans e.isLt (by decide)⟩ : Fin 128) := Fin.ext hi
  have hb : blkRows x3 d = rowsOf A4 e r d := by
    funext n
    unfold blkRows rowsOf
    by_cases h : n < 1792
    · rw [dif_pos h, dif_pos h, h3]
    · rw [dif_neg h, dif_neg h]
  refine (acc_apply i hs hw x1 x2 x3 a (ix2 q d) v.toNat le_rfl).trans ?_
  have eg : ∀ x : FVec Ideal S1536x128 .f32, x (ix2 ((ix2 q d : S1536x1024.Idx) 0) (laneOf i)) = x (ix2 q ⟨e.val, lt_trans e.isLt (by decide)⟩) := fun x => congrArg (fun l => x (ix2 q l)) hl
  rw [eg x1, eg x2, h1, h2]
  refine congrArg (a (ix2 q d) + ·) ?_
  unfold part
  rw [dif_pos e.isLt]
  refine congrArg (A3 _ * ·) (Eq.symm ?_)
  rw [ref_rows A0 A2 A4 hA]
  have hd : (r.val * 1536 + q.val) / 1536 = r.val := by omega
  have hm : (r.val * 1536 + q.val) % 1536 = q.val := by omega
  rw [h0]
  show picked (A2 (ix2 ⟨(r.val * 1536 + q.val) / 1536 * 1536 + (r.val * 1536 + q.val) % 1536, _⟩ ⟨e.val, _⟩)) (rowsOf A4 e ⟨(r.val * 1536 + q.val) / 1536, _⟩ d)
    (448 * (A0 (ix1 ⟨(r.val * 1536 + q.val) / 1536 * 8 + e.val, _⟩)).toNat) = picked _ (blkRows x3 d) _
  simp only [hd, hm, hb]

/-! ## The blocks, read from the arrays -/

variable (m : (ℓ : Loc nD τ sig) → Buf (Elt Ideal) ℓ) (ρ : Dev nD → PrngReg)

/-- The windows' block indices at a point: row tile `t / 8`, expert `t % 8`. -/
theorem idx : ∀ t : Fin grid0.N, cc0_transform_0 (grid0.coords t) = ![t.val / 8, 0] ∧ cc0_transform_1 (grid0.coords t) = ![t.val / 8, 0]
    ∧ cc0_transform_2 (grid0.coords t) = ![t.val / 8, 0] ∧ cc0_transform_3 (grid0.coords t) = ![t.val % 8, t.val / 8, 0, 0]
    ∧ cc0_transform_4 (grid0.coords t) = ![0, 0] ∧ cc0_transform_5 (grid0.coords t) = ![t.val / 8, 0] := by
  decide +kernel

theorem coord : ∀ t : Fin grid0.N, (grid0.coords t 0).val = t.val / 8 ∧ (grid0.coords t 1).val = t.val % 8 := by
  decide +kernel

theorem pt_lt (t : Fin grid0.N) : t.val / 8 < 11 ∧ t.val % 8 < 8 := by
  have h : t.val < 88 := t.isLt
  omega

/-- The output's blocks cover it. -/
theorem covers (hO : Ok m) : ((cfgM m hO).win 5).Covers := by
  refine ⟨fun a => ?_, fun β => ?_⟩
  · exact (by decide : ∀ a : Fin 2, 0 < S1536x1024.size a) a
  · have key : ∀ (b0 : Fin 11) (b1 : Fin 1), ∃ t : Fin grid0.N, t.val % 8 = 7 ∧ cc0_transform_5 (grid0.coords t) = ![b0.val, b1.val] := by
      decide +kernel
    have n0 : ((cfgM m hO).win 5).nblk (0 : Fin 2) = 11 := by show (16896 + 1536 - 1) / 1536 = 11; rfl
    have n1 : ((cfgM m hO).win 5).nblk (1 : Fin 2) = 1 := by show (1024 + 1024 - 1) / 1024 = 1; rfl
    obtain ⟨t, h1, h2⟩ := key ⟨_, lt_of_lt_of_eq (β (0 : Fin 2)).isLt n0⟩ ⟨_, lt_of_lt_of_eq (β (1 : Fin 2)).isLt n1⟩
    refine ⟨t, (flush0_5 (adm m hO) t).mpr h1, fun a => ⟨(congrFun h2 a).trans ?_, Or.inl rfl⟩⟩
    match a with
    | ⟨0, _⟩ => rfl
    | ⟨1, _⟩ => rfl

theorem read0 (hO : Ok m) (c : Dev nD) (t : Fin grid0.N) (q : Fin 1536) (k : Fin 1024) :
    (show FVec Ideal S1536x1024 .f32 from iblk m hO c 0 t) (ix2 q k)
      = (show FVec Ideal S16896x1024 .f32 from m ((c : Thread nD τ).loc main_arg1)) (ix2 ⟨t.val / 8 * 1536 + q.val, by have := (pt_lt t).1; omega⟩ k) := by
  rw [← V_main_arg1 m c]
  refine congrArg (V m c main_arg1) (funext fun a => Fin.ext ?_)
  refine (Pipeline.Window.rect_emb_val ((cfgM m hO).win 0) t (ix2 q k) a).trans ?_
  rw [show ((cfgM m hO).win 0).index t a = ![t.val / 8, 0] a from congrFun (idx t).1 a]
  match a with
  | ⟨0, _⟩ => rfl
  | ⟨1, _⟩ => exact (by omega : 0 * 1024 + k.val = k.val)

theorem read1 (hO : Ok m) (c : Dev nD) (t : Fin grid0.N) (q : Fin 1536) (k : Fin 128) :
    (show FVec Ideal S1536x128 .f32 from iblk m hO c 1 t) (ix2 q k)
      = (show FVec Ideal S16896x128 .f32 from m ((c : Thread nD τ).loc main_arg2)) (ix2 ⟨t.val / 8 * 1536 + q.val, by have := (pt_lt t).1; omega⟩ k) := by
  rw [← V_main_arg2 m c]
  refine congrArg (V m c main_arg2) (funext fun a => Fin.ext ?_)
  refine (Pipeline.Window.rect_emb_val ((cfgM m hO).win 1) t (ix2 q k) a).trans ?_
  rw [show ((cfgM m hO).win 1).index t a = ![t.val / 8, 0] a from congrFun (idx t).2.1 a]
  match a with
  | ⟨0, _⟩ => rfl
  | ⟨1, _⟩ => exact (by omega : 0 * 128 + k.val = k.val)

theorem read2 (hO : Ok m) (c : Dev nD) (t : Fin grid0.N) (q : Fin 1536) (k : Fin 128) :
    (show FVec Ideal S1536x128 .f32 from iblk m hO c 2 t) (ix2 q k)
      = (show FVec Ideal S16896x128 .f32 from m ((c : Thread nD τ).loc main_arg3)) (ix2 ⟨t.val / 8 * 1536 + q.val, by have := (pt_lt t).1; omega⟩ k) := by
  rw [← V_main_arg3 m c]
  refine congrArg (V m c main_arg3) (funext fun a => Fin.ext ?_)
  refine (Pipeline.Window.rect_emb_val ((cfgM m hO).win 2) t (ix2 q k) a).trans ?_
  rw [show ((cfgM m hO).win 2).index t a = ![t.val / 8, 0] a from congrFun (idx t).2.2.1 a]
  match a with
  | ⟨0, _⟩ => rfl
  | ⟨1, _⟩ => exact (by omega : 0 * 128 + k.val = k.val)

theorem read3 (hO : Ok m) (c : Dev nD) (t : Fin grid0.N) (s : Fin 1792) (d : Fin 1024) :
    (show FVec Ideal S1x1x1792x1024 .bf16 from iblk m hO c 3 t) (ix4 0 0 s d)
      = (show FVec Ideal S8x11x1792x1024 .bf16 from m ((c : Thread nD τ).loc main_arg4)) (ix4 ⟨t.val % 8, (pt_lt t).2⟩ ⟨t.val / 8, (pt_lt t).1⟩ s d) := by
  rw [← V_main_arg4 m c]
  refine congrArg (V m c main_arg4) (funext fun a => Fin.ext ?_)
  refine (Pipeline.Window.rect_emb_val ((cfgM m hO).win 3) t (ix4 0 0 s d) a).trans ?_
  rw [show ((cfgM m hO).win 3).index t a = ![t.val % 8, t.val / 8, 0, 0] a from congrFun (idx t).2.2.2.1 a]
  match a with
  | ⟨0, _⟩ => exact (by omega : t.val % 8 * 1 + 0 = t.val % 8)
  | ⟨1, _⟩ => exact (by omega : t.val / 8 * 1 + 0 = t.val / 8)
  | ⟨2, _⟩ => exact (by omega : 0 * 1792 + s.val = s.val)
  | ⟨3, _⟩ => exact (by omega : 0 * 1024 + d.val = d.val)

/-- The gain's row, as the run finds it, is the gain. -/
theorem gain_row (c : Dev nD) (d : Fin 1024) :
    (show FVec Ideal S1x1024 .f32 from V m c main_v0) (ix2 0 d) = (show FVec Ideal S1024 .f32 from m ((c : Thread nD τ).loc main_arg5)) (ix1 d) := by
  unfold V
  after_results_simp_entrywise
  pointwise []

theorem read4 (hO : Ok m) (c : Dev nD) (t : Fin grid0.N) (d : Fin 1024) :
    (show FVec Ideal S1x1024 .f32 from iblk m hO c 4 t) (ix2 0 d) = (show FVec Ideal S1024 .f32 from m ((c : Thread nD τ).loc main_arg5)) (ix1 d) := by
  rw [← gain_row m c d]
  refine congrArg (V m c main_v0) (funext fun a => Fin.ext ?_)
  refine (Pipeline.Window.rect_emb_val ((cfgM m hO).win 4) t (ix2 0 d) a).trans ?_
  rw [show ((cfgM m hO).win 4).index t a = ![0, 0] a from congrFun (idx t).2.2.2.2.1 a]
  match a with
  | ⟨0, _⟩ => rfl
  | ⟨1, _⟩ => exact (by omega : 0 * 1024 + d.val = d.val)

/-- Where the output's block lies in its array. -/
theorem emb5 (hO : Ok m) (t : Fin grid0.N) (y : S1536x1024.Idx) :
    (show S16896x1024.Idx from (((cfgM m hO).win 5).blk t).view.emb y)
      = ix2 ⟨t.val / 8 * 1536 + (y 0).val, by have := (pt_lt t).1; have h : (y 0).val < 1536 := (y 0).isLt; omega⟩ (y 1) := by
  refine funext fun a => Fin.ext ?_
  refine (Pipeline.Window.rect_emb_val ((cfgM m hO).win 5) t y a).trans ?_
  rw [show ((cfgM m hO).win 5).index t a = ![t.val / 8, 0] a from congrFun (idx t).2.2.2.2.2 a]
  match a with
  | ⟨0, _⟩ => rfl
  | ⟨1, _⟩ => exact (by omega : 0 * 1024 + (y 1).val = (y 1).val)

theorem off1_at (i : grid0.Coords) : k0_off1 i 0 + 1 * 0 = (i 0).val * 8 + (i 1).val := by
  have key : ∀ (a : Fin 11) (b : Fin 8), (Scalar.indexCast (Scalar.addi (Scalar.muli (BitVec.ofNat 32 a.val) 8#32) (BitVec.ofNat 32 b.val))).toNat + 1 * 0 = a.val * 8 + b.val := by
    decide +kernel
  exact key (i 0) (i 1)

/-- The count at a point. -/
theorem word_read (c : Dev nD) (t : Fin grid0.N) :
    word c (grid0.coords t) (tbl m 0) = (show IVec S88 32 from m (((0 : Dev nD) : Thread nD τ).loc main_arg0)) (ix1 ⟨t.val / 8 * 8 + t.val % 8, by have := pt_lt t; omega⟩) := by
  rw [← V_main_arg0 m 0]
  refine congrArg (V m 0 main_arg0) (funext fun a => Fin.ext ?_)
  match a with
  | ⟨0, _⟩ =>
    refine (off1_at (grid0.coords t)).trans ?_
    rw [(coord t).1, (coord t).2]
    rfl

/-! ## The block's value -/

/-- The totals of a row after `e` experts. -/
def upTo (A0 : IVec S88 32) (A1 : FVec Ideal S16896x1024 .f32) (A2 A3 : FVec Ideal S16896x128 .f32) (A4 : FVec Ideal S8x11x1792x1024 .bf16) (r : Fin 11) (e : ℕ) (q : Fin 1536) (d : Fin 1024) :
    EReal :=
  A1 (ix2 ⟨r.val * 1536 + q.val, by omega⟩ d) + ∑ x ∈ Finset.range e, part A0 A2 A3 A4 ⟨r.val * 1536 + q.val, by omega⟩ d x

theorem small_word (h : ∀ j : S88.Idx, Small ((show IVec S88 32 from m (((0 : Dev nD) : Thread nD τ).loc main_arg0)) j)) (c : Dev nD) (t : Fin grid0.N) :
    Small (word c (grid0.coords t) (tbl m 0)) := by
  rw [word_read m c t]
  exact h _

/-- A point's trips add its expert's part to the row's total. -/
theorem point (h : ∀ j : S88.Idx, Small ((show IVec S88 32 from m (((0 : Dev nD) : Thread nD τ).loc main_arg0)) j)) (hO : Ok m) (c : Dev nD) (t : Fin grid0.N)
    (hw : k0_chk1 (word c (grid0.coords t) (tbl m 0))) (a : FVec Ideal S1536x1024 .f32) (q : Fin 1536) (d : Fin 1024) :
    acc (F := Ideal) (grid0.coords t) (word c (grid0.coords t) (tbl m 0)) hw (iblk m hO c 1 t) (iblk m hO c 2 t) (iblk m hO c 3 t) a (word c (grid0.coords t) (tbl m 0)).toNat (ix2 q d)
      = a (ix2 q d) + part (m (((0 : Dev nD) : Thread nD τ).loc main_arg0)) (m ((c : Thread nD τ).loc main_arg2)) (m ((c : Thread nD τ).loc main_arg3)) (m ((c : Thread nD τ).loc main_arg4))
          ⟨t.val / 8 * 1536 + q.val, by have := (pt_lt t).1; omega⟩ d (t.val % 8) :=
  acc_part (grid0.coords t) (small_word m h c t) hw _ _ _ a _ _ _ _ h ⟨t.val / 8, (pt_lt t).1⟩ ⟨t.val % 8, (pt_lt t).2⟩ (coord t).2 (word_read m c t)
    (read1 m hO c t) (read2 m hO c t) (read3 m hO c t) q d

/-- The output's block after a point that is not its tile's last: the totals after the experts so far. -/
theorem outs (h : ∀ j : S88.Idx, Small ((show IVec S88 32 from m (((0 : Dev nD) : Thread nD τ).loc main_arg0)) j)) (hO : Ok m) (hH : Hyps m hO) (c : Dev nD) :
    ∀ (n : ℕ) (hn : n < grid0.N), n % 8 ≠ 7 → ∀ (q : Fin 1536) (d : Fin 1024),
      outsAt0 m hO hH c n hn (ix2 q d)
        = upTo (m (((0 : Dev nD) : Thread nD τ).loc main_arg0)) (m ((c : Thread nD τ).loc main_arg1)) (m ((c : Thread nD τ).loc main_arg2)) (m ((c : Thread nD τ).loc main_arg3))
            (m ((c : Thread nD τ).loc main_arg4)) ⟨n / 8, (pt_lt ⟨n, hn⟩).1⟩ (n % 8 + 1) q d := by
  intro n
  induction n with
  | zero =>
    intro hn h7 q d
    refine (congrFun ((outsAt0_A m hO hH c ⟨0, hn⟩ rfl h7).trans (out_A c _ _ _ _ _ _ _ _ _ _ _ _ _ _ _ _ _ _ _ _ _ _ (small_word m h c ⟨0, hn⟩))) (ix2 q d)).trans ?_
    refine (point m h hO c ⟨0, hn⟩ _ _ q d).trans ?_
    unfold upTo
    rw [Finset.sum_range_succ, Finset.sum_range_zero, zero_add]
    exact congrArg (· + _) (read0 m hO c ⟨0, hn⟩ q d)
  | succ n ih =>
    intro hn h7 q d
    by_cases h0 : (n + 1) % 8 = 0
    · refine (congrFun ((outsAt0_A m hO hH c ⟨n + 1, hn⟩ h0 h7).trans (out_A c _ _ _ _ _ _ _ _ _ _ _ _ _ _ _ _ _ _ _ _ _ _ (small_word m h c ⟨n + 1, hn⟩))) (ix2 q d)).trans ?_
      refine (point m h hO c ⟨n + 1, hn⟩ _ _ q d).trans ?_
      unfold upTo
      rw [Finset.sum_range_succ]
      simp only [h0]
      rw [Finset.sum_range_zero, zero_add]
      exact congrArg (· + _) (read0 m hO c ⟨n + 1, hn⟩ q d)
    · refine (congrFun ((outsAt0_B m hO hH c ⟨n + 1, hn⟩ h0 h7).trans (out_B c _ _ _ _ _ _ _ _ _ _ _ _ _ _ _ _ _ _ _ _ _ _ _ (small_word m h c ⟨n + 1, hn⟩))) (ix2 q d)).trans ?_
      refine (point m h hO c ⟨n + 1, hn⟩ _ _ q d).trans ?_
      have hr : n / 8 = (n + 1) / 8 := by omega
      have he : n % 8 + 1 = (n + 1) % 8 := by omega
      refine (congrArg (· + _) (ih (by omega) (by omega) q d)).trans ?_
      unfold upTo
      simp only [hr, he]
      rw [Finset.sum_range_succ _ ((n + 1) % 8)]
      exact add_assoc (_ : EReal) _ _

/-- The result array after the run is the reference's term over the arguments. -/
theorem final (h : ∀ j : S88.Idx, Small ((show IVec S88 32 from m (((0 : Dev nD) : Thread nD τ).loc main_arg0)) j)) (hO : Ok m) (hH : Hyps m hO) (c : Dev nD) :
    (dats m hO hH 0 c).arrAt 5 (cfgM m hO).N
    = Cert.CombineRefIdeal.Read.val_main_v38 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m hO hH 0 c).arrAt_eq_of_covers 5 _ (covers m hO) fun t hf (y : S1536x1024.Idx) => ?_
  have h7 := (flush0_5 (adm m hO) t).mp hf
  have hlt : t.val < 88 := t.isLt
  blk_simp
  rw [after0_5]
  refine (congrFun ((outsAt0_C m hO hH c t (by omega) h7).trans (out_C c _ _ _ _ _ _ _ _ _ _ _ _ _ _ _ _ _ _ _ _ _ _ _ (small_word m h c t))) y).trans ?_
  refine (pay5_apply _ _ y).trans ?_
  refine Eq.trans ?_ (congrArg _ (emb5 m hO t y).symm)
  refine Eq.trans ?_ (Cert.Proof.Combine.ref_apply _ _ _ _ _ _ _).symm
  have hx : ∀ k : Fin 1024, acc (F := Ideal) (grid0.coords t) (word c (grid0.coords t) (tbl m 0)) (Hyps.c0 hH c t) (iblk m hO c 1 t) (iblk m hO c 2 t) (iblk m hO c 3 t)
      (outsAt0 m hO hH c (t.val - 1) (lt_of_le_of_lt (Nat.sub_le _ _) t.isLt)) (word c (grid0.coords t) (tbl m 0)).toNat (ix2 (y 0) k)
      = Cert.CombineRefIdeal.Read.val_main_v25 (F := Ideal) (m (((0 : Dev nD) : Thread nD τ).loc main_arg0)) (m ((c : Thread nD τ).loc main_arg1)) (m ((c : Thread nD τ).loc main_arg2))
        (m ((c : Thread nD τ).loc main_arg3)) (m ((c : Thread nD τ).loc main_arg4))
        (ix2 ⟨t.val / 8 * 1536 + (y 0).val, by have h0 : (y 0).val < 1536 := (y 0).isLt; omega⟩ k) := by
    intro k
    refine (point m h hO c t _ _ (y 0) k).trans ?_
    refine (congrArg (· + _) (outs m h hO hH c (t.val - 1) (lt_of_le_of_lt (Nat.sub_le _ _) t.isLt) (by omega) (y 0) k)).trans ?_
    refine Eq.trans ?_ (ref_parts _ _ _ _ _ _ _).symm
    have hr : (t.val - 1) / 8 = t.val / 8 := by omega
    have he : (t.val - 1) % 8 + 1 = 7 := by omega
    unfold upTo
    rw [Finset.sum_range_succ (n := 7)]
    simp only [hr, he, h7]
    exact add_assoc (_ : EReal) _ _
  obtain rfl : c = 0 := Subsingleton.elim _ _
  refine congrArg₂ (fun f g => rms f g (y 1)) (funext hx) (funext fun k => read4 m hO 0 t k)

end Cert.Proof.Combine
end
-- ==== Proof.CombineClaim.lean ====
/- The claims about the combining of the experts' rows: the frames of its programs and the equality of its result with its reference's. -/
module

public import proofs.«01_k».proof.Defs
public import proofs.«01_k».proof.Proof.CombineValue
public import proofs.«01_k».proof.Proof.Gen.Combine
public import proofs.«01_k».proof.Proof.Gen.Combine.Frame
public import proofs.«01_k».proof.Proof.Gen.Pre_counts_in_range3
public import proofs.«01_k».proof.Proof.Gen.CombineRefIdeal.Run
public import Idealize.ShloMosaic.Lib.Claim

@[expose] public section

set_option maxRecDepth 16384

noncomputable section

namespace Cert.Proof

open Idealize.ShloMosaic Idealize.ShloMosaic.TcCoe Idealize.SL.Sem

namespace Combine

/-- A count the precondition admits is one of zero to four. -/
theorem small_of_bits (a : BitVec 32) (h : IntOp.andi (IntOp.cmpi .sge a 0#32) (IntOp.cmpi .sle a 4#32) = 1#1) : Small a := by
  have h' : BitVec.ofBool ((0#32).sle a) &&& BitVec.ofBool (a.sle 4#32) = 1#1 := h
  have h12 : (0#32).sle a = true ∧ a.sle 4#32 = true := by
    cases h1 : (0#32).sle a <;> cases h2 : a.sle 4#32 <;> rw [h1, h2] at h' <;> revert h' <;> decide
  obtain ⟨h1, h2⟩ := h12
  rw [BitVec.sle_iff_toInt_le] at h1 h2
  have e0 : (0#32).toInt = 0 := by decide
  have e4 : (4#32).toInt = 4 := by decide
  rw [e0] at h1
  rw [e4] at h2
  have e : a = BitVec.ofInt 32 a.toInt := (BitVec.ofInt_toInt).symm
  generalize a.toInt = n at *
  subst e
  unfold Small
  interval_cases n <;> decide

section
open Cert.CombineIdeal Cert.CombineIdeal.Gen
variable {F : FTy → Type} [FloatOps F] (m : (ℓ : Loc nD τ sig) → Buf (Elt F) ℓ)

/-- No window's index map reads the table, so nothing is asked of it. -/
theorem ok : Ok m := by
  unfold Ok ok0
  trivial

/-- Every count of the table being one of zero to four, the body's side condition holds at every point. -/
theorem hyps (h : ∀ j : S88.Idx, Small ((show IVec S88 32 from m (((0 : Dev nD) : Thread nD τ).loc main_arg0)) j)) : Hyps m (ok m) := by
  refine Hyps.of fun c t => ?_
  have e : tbl m 0 = m (((0 : Dev nD) : Thread nD τ).loc main_arg0) := V_main_arg0 m 0
  unfold Hyps.p0
  rw [e]
  exact chk_of_small (h _)
end

section
open Cert.Combine Cert.Combine.Gen
variable {F : FTy → Type} [FloatOps F] (m : (ℓ : Loc nD τ sig) → Buf (Elt F) ℓ)

theorem ok_bits : Ok m := by
  unfold Ok ok0
  trivial

theorem hyps_bits (h : ∀ j : S88.Idx, Small ((show IVec S88 32 from m (((0 : Dev nD) : Thread nD τ).loc main_arg0)) j)) : Hyps m (ok_bits m) := by
  refine Hyps.of fun c t => ?_
  have e : tbl m 0 = m (((0 : Dev nD) : Thread nD τ).loc main_arg0) := V_main_arg0 m 0
  unfold Hyps.p0
  rw [e]
  exact chk_of_small (h _)
end

end Combine

open Combine

theorem frame_combine : Cert.quiescent_Combine := fun m ρ h =>
  Cert.Combine.Gen.frame (F := Bits) m ρ (ok_bits m) (hyps_bits m fun j => Combine.small_of_bits _ (congrFun (h 0) j))

theorem frame_combine_ideal : Cert.quiescent_CombineIdeal := fun m ρ h =>
  Cert.CombineIdeal.Gen.frame (F := Ideal) m ρ (ok m) (hyps m fun j => Combine.small_of_bits _ (congrFun (h 0) j))

theorem frame_combine_ref : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

theorem frame_combine_ref_pre : Cert.quiescent_CombineRefIdeal_pre_counts_in_range3 := fun m ρ _ =>
  (θ_run Cert.CombineRefIdeal.defs _ _).mono (fun r h => ⟨fun c => (h c).2, sem_eq_zero_of_no_sems (by decide) r.2⟩)
    (Cert.CombineRefIdeal.Value.run (F := Ideal) m ρ)

theorem algebraic_combine : Cert.algebraic_CombineIdeal_CombineRefIdeal := by
  intro m g m' g' hpre hagree
  have hS : ∀ j : Cert.CombineIdeal.S88.Idx, Small ((show IVec Cert.CombineIdeal.S88 32 from m (((0 : Dev Cert.CombineIdeal.nD) : Thread Cert.CombineIdeal.nD Cert.CombineIdeal.τ).loc Cert.CombineIdeal.main_arg0)) j) :=
    fun j => Combine.small_of_bits _ (congrFun (hpre 0) j)
  refine ⟨fun c => (Cert.CombineRefIdeal.Read.val_main_v38 (F := Ideal) (m ((c.tc : Thread Cert.CombineIdeal.nD Cert.CombineIdeal.τ).loc Cert.CombineIdeal.main_arg0))
      (m ((c.tc : Thread Cert.CombineIdeal.nD Cert.CombineIdeal.τ).loc Cert.CombineIdeal.main_arg1)) (m ((c.tc : Thread Cert.CombineIdeal.nD Cert.CombineIdeal.τ).loc Cert.CombineIdeal.main_arg2))
      (m ((c.tc : Thread Cert.CombineIdeal.nD Cert.CombineIdeal.τ).loc Cert.CombineIdeal.main_arg3)) (m ((c.tc : Thread Cert.CombineIdeal.nD Cert.CombineIdeal.τ).loc Cert.CombineIdeal.main_arg4))
      (m ((c.tc : Thread Cert.CombineIdeal.nD Cert.CombineIdeal.τ).loc Cert.CombineIdeal.main_arg5)) : FVec Ideal Cert.CombineRefIdeal.S16896x1024 .f32), ?_, ?_⟩
  · refine (θ_run Cert.CombineIdeal.defs _ _).mono (fun r h c => ?_)
      (θ_run_and (Cert.CombineIdeal.Gen.run_main (F := Ideal) m g (ok m) (hyps m hS)) (Cert.CombineIdeal.Gen.frame (F := Ideal) m g (ok m) (hyps m hS)))
    exact ⟨((h.1 c).1 5).trans (Combine.final m hS (ok m) (hyps m hS) c), h.2.1 c⟩
  · run_from Cert.CombineRefIdeal.Value.run m' g'
    rw [Cert.CombineRefIdeal.Read.val_main_v38_eq m' c]
    obtain ⟨h0, h1, h2, h3, h4, h5⟩ := hagree c
    rw [h0, h1, h2, h3, h4, h5]

end Cert.Proof
end
-- ==== Proof.MergeValue.lean ====
/- The branches' merge: the kernel's result array is the reference's term. -/
module

public import proofs.«01_k».proof.Proof.Math
public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem Cert.Rows

namespace Cert.Rows

/-- One gated branch at hidden place `j`: the logistic of the gate times the branch's row through its projection. -/
def branch (gate : Fin 1024 → EReal) (f : Fin 512 → EReal) (w : Fin 512 → Fin 1024 → EReal) (j : Fin 1024) : EReal :=
  Ideal.logistic (gate j) * ∑ k : Fin 512, f k * w k j

end Cert.Rows

namespace Cert.MergeRefIdeal.Read
open Cert.MergeRefIdeal Cert.MergeRefIdeal.Gen

/-- The reference at an index of the prompt's rows: the row plus the gated branches' sum through the output projection. -/
theorem ref_apply_lt (x0 : FVec Ideal S16896x1024 .f32) (x1 x2 x3 : FVec Ideal S16384x512 .bf16) (x4 x5 x6 : FVec Ideal S512x512 .bf16) (x7 : FVec Ideal S16896x7168 .f32)
    (x8 x9 x10 : FVec Ideal S512x1024 .f32) (x11 : FVec Ideal S1024x1024 .f32) (i : S16896x1024.Idx) (h : (i 0).val < 16384) :
    val_main_v25 (F := Ideal) x0 x1 x2 x3 x4 x5 x6 x7 x8 x9 x10 x11 i
      = x0 (ix2 (i 0) (i 1)) + ∑ j : Fin 1024,
          (branch (fun j => x7 (ix2 (i 0) ⟨2048 + j.val, by omega⟩)) (fun k => x1 (ix2 ⟨(i 0).val, h⟩ k)) (fun k j => x8 (ix2 k j)) j
            + branch (fun j => x7 (ix2 (i 0) ⟨2048 + (1024 + j.val), by omega⟩)) (fun k => x2 (ix2 ⟨(i 0).val, h⟩ k)) (fun k j => x9 (ix2 k j)) j
            + branch (fun j => x7 (ix2 (i 0) ⟨2048 + (2048 + j.val), by omega⟩)) (fun k => x3 (ix2 ⟨(i 0).val, h⟩ k)) (fun k j => x10 (ix2 k j)) j)
          * x11 (ix2 j (i 1)) := by
  pointwise [val_main_v25, val_main_v24, val_main_v23, val_main_v22, val_main_v21, val_main_v20, val_main_v19, val_main_v18, val_main_v17, val_main_v16, val_main_v15,
    val_main_v14, val_main_v13, val_main_v12, val_main_v11, val_main_cst_0, val_main_v10, val_main_v9, val_main_cst, val_main_v8, val_main_v7, val_main_v6, val_main_v5,
    val_main_v4, val_main_v3, val_main_v2, val_main_v1, val_main_v0, branch, Ideal.logistic]
  simp only [dif_pos h]

/-- The reference at an index of the sample's rows: the row plus the gated branches' sum through the output projection. -/
theorem ref_apply_ge (x0 : FVec Ideal S16896x1024 .f32) (x1 x2 x3 : FVec Ideal S16384x512 .bf16) (x4 x5 x6 : FVec Ideal S512x512 .bf16) (x7 : FVec Ideal S16896x7168 .f32)
    (x8 x9 x10 : FVec Ideal S512x1024 .f32) (x11 : FVec Ideal S1024x1024 .f32) (i : S16896x1024.Idx) (h : ¬(i 0).val < 16384) :
    val_main_v25 (F := Ideal) x0 x1 x2 x3 x4 x5 x6 x7 x8 x9 x10 x11 i
      = x0 (ix2 (i 0) (i 1)) + ∑ j : Fin 1024,
          (branch (fun j => x7 (ix2 (i 0) ⟨2048 + j.val, by omega⟩)) (fun k => x4 (ix2 ⟨(i 0).val - 16384, by have h2 : (i 0).val < 16896 := (i 0).isLt; omega⟩ k)) (fun k j => x8 (ix2 k j)) j
            + branch (fun j => x7 (ix2 (i 0) ⟨2048 + (1024 + j.val), by omega⟩)) (fun k => x5 (ix2 ⟨(i 0).val - 16384, by have h2 : (i 0).val < 16896 := (i 0).isLt; omega⟩ k)) (fun k j => x9 (ix2 k j)) j
            + branch (fun j => x7 (ix2 (i 0) ⟨2048 + (2048 + j.val), by omega⟩)) (fun k => x6 (ix2 ⟨(i 0).val - 16384, by have h2 : (i 0).val < 16896 := (i 0).isLt; omega⟩ k)) (fun k j => x10 (ix2 k j)) j)
          * x11 (ix2 j (i 1)) := by
  pointwise [val_main_v25, val_main_v24, val_main_v23, val_main_v22, val_main_v21, val_main_v20, val_main_v19, val_main_v18, val_main_v17, val_main_v16, val_main_v15,
    val_main_v14, val_main_v13, val_main_v12, val_main_v11, val_main_cst_0, val_main_v10, val_main_v9, val_main_cst, val_main_v8, val_main_v7, val_main_v6, val_main_v5,
    val_main_v4, val_main_v3, val_main_v2, val_main_v1, val_main_v0, branch, Ideal.logistic]
  simp only [dif_neg h]

end Cert.MergeRefIdeal.Read

namespace Cert.MergeIdeal.Value
open Cert.MergeIdeal Cert.MergeIdeal.Gen

variable (m : (ℓ : Loc nD τ sig) → Buf (Elt Ideal) ℓ) (ρ : Dev nD → PrngReg)

/-- The comparison that chooses the prompt's block: true at the first 32 points, false at the last. -/
theorem pick_lt : ∀ a : Fin 33, a.val < 32 → Scalar.cmpi .slt (BitVec.ofNat 32 a.val) 32#32 = 1#1 := by decide
theorem pick_ge : ∀ a : Fin 33, ¬a.val < 32 → Scalar.cmpi .slt (BitVec.ofNat 32 a.val) 32#32 = 0#1 := by decide

/-- What a rows' block ends holding at an index, at a point of the prompt's part. -/
theorem block_lt (i : grid0.Coords) (hi : (i 0).val < 32) (x : FVec Ideal S512x1024 .f32) (b1 c1 b2 c2 b3 c3 : FVec Ideal S512x512 .bf16) (g1 g2 g3 : FVec Ideal S512x1024 .f32)
    (w1 w2 w3 : FVec Ideal S512x1024 .bf16) (wo : FVec Ideal S1024x1024 .bf16) (y : S512x1024.Idx) :
    k0_pay1 (F := Ideal) (k0_pay2 (F := Ideal) i b1 c1 b2 c2 b3 c3 g1 w1 g2 w2 g3 w3) x wo y
      = x (ix2 (y 0) (y 1)) + ∑ j : Fin 1024,
          (branch (fun j => g1 (ix2 (y 0) j)) (fun k => b1 (ix2 (y 0) k)) (fun k j => w1 (ix2 k j)) j
            + branch (fun j => g2 (ix2 (y 0) j)) (fun k => b2 (ix2 (y 0) k)) (fun k j => w2 (ix2 k j)) j
            + branch (fun j => g3 (ix2 (y 0) j)) (fun k => b3 (ix2 (y 0) k)) (fun k j => w3 (ix2 k j)) j) * wo (ix2 j (y 1)) := by
  have hp := pick_lt (i 0) hi
  unfold k0_pay1 k0_pay2
  dsimp only
  rw [hp]
  pointwise [branch, Ideal.logistic]

/-- The same at a point of the sample's part. -/
theorem block_ge (i : grid0.Coords) (hi : ¬(i 0).val < 32) (x : FVec Ideal S512x1024 .f32) (b1 c1 b2 c2 b3 c3 : FVec Ideal S512x512 .bf16) (g1 g2 g3 : FVec Ideal S512x1024 .f32)
    (w1 w2 w3 : FVec Ideal S512x1024 .bf16) (wo : FVec Ideal S1024x1024 .bf16) (y : S512x1024.Idx) :
    k0_pay1 (F := Ideal) (k0_pay2 (F := Ideal) i b1 c1 b2 c2 b3 c3 g1 w1 g2 w2 g3 w3) x wo y
      = x (ix2 (y 0) (y 1)) + ∑ j : Fin 1024,
          (branch (fun j => g1 (ix2 (y 0) j)) (fun k => c1 (ix2 (y 0) k)) (fun k j => w1 (ix2 k j)) j
            + branch (fun j => g2 (ix2 (y 0) j)) (fun k => c2 (ix2 (y 0) k)) (fun k j => w2 (ix2 k j)) j
            + branch (fun j => g3 (ix2 (y 0) j)) (fun k => c3 (ix2 (y 0) k)) (fun k j => w3 (ix2 k j)) j) * wo (ix2 j (y 1)) := by
  have hp := pick_ge (i 0) hi
  unfold k0_pay1 k0_pay2
  dsimp only
  rw [hp]
  pointwise [branch, Ideal.logistic]

/-- The windows' block indices at a point of the prompt's part. -/
theorem idx_lt : ∀ t : Fin cfg0.N, t.val < 32 → win0_0.index t = ![t.val, 0] ∧ win0_1.index t = ![t.val, 0] ∧ win0_2.index t = ![t.val, 0] ∧ win0_3.index t = ![t.val, 0]
    ∧ win0_7.index t = ![t.val, 2] ∧ win0_8.index t = ![t.val, 3] ∧ win0_9.index t = ![t.val, 4] ∧ win0_10.index t = ![0, 0] ∧ win0_11.index t = ![0, 0]
    ∧ win0_12.index t = ![0, 0] ∧ win0_13.index t = ![0, 0] ∧ win0_14.index t = ![t.val, 0] ∧ (grid0.coords t 0).val < 32 :=
  (by decide +kernel : ∀ t : Fin grid0.N, _)

/-- The windows' block indices at the point of the sample's part. -/
theorem idx_ge : ∀ t : Fin cfg0.N, ¬t.val < 32 → win0_0.index t = ![32, 0] ∧ win0_4.index t = ![0, 0] ∧ win0_5.index t = ![0, 0] ∧ win0_6.index t = ![0, 0]
    ∧ win0_7.index t = ![32, 2] ∧ win0_8.index t = ![32, 3] ∧ win0_9.index t = ![32, 4] ∧ win0_10.index t = ![0, 0] ∧ win0_11.index t = ![0, 0]
    ∧ win0_12.index t = ![0, 0] ∧ win0_13.index t = ![0, 0] ∧ win0_14.index t = ![32, 0] ∧ ¬(grid0.coords t 0).val < 32 :=
  (by decide +kernel : ∀ t : Fin grid0.N, _)

/-- The result array after the run is the reference's term over the arguments. -/
theorem final (c : Dev nD) : (dats m 0 c).arrAt 14 (cfgs 0).N
    = MergeRefIdeal.Read.val_main_v25 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) := by
  refine (dats m 0 c).arrAt_eq_of_covers 14 _ (by decide +kernel) fun t _ y => ?_
  blk_simp
  rw [after0_14]
  frame_out
  by_cases ht : t.val < 32
  · have hI := idx_lt t ht
    have hr : ((((cfg0.win 14).blk t).view.emb y) 0).val < 16384 := by
      have h0 : (y 0).val < 512 := (y 0).isLt
      blk_simp [hI]; omega
    rw [block_lt _ hI.2.2.2.2.2.2.2.2.2.2.2.2, MergeRefIdeal.Read.ref_apply_lt _ _ _ _ _ _ _ _ _ _ _ _ _ hr]
    blk_point [iblk, V, hI]
  · have hI := idx_ge t ht
    have hr : ¬((((cfg0.win 14).blk t).view.emb y) 0).val < 16384 := by
      blk_simp [hI]; omega
    rw [block_ge _ hI.2.2.2.2.2.2.2.2.2.2.2.2, MergeRefIdeal.Read.ref_apply_ge _ _ _ _ _ _ _ _ _ _ _ _ _ hr]
    blk_point [iblk, V, hI]

end Cert.MergeIdeal.Value
end
-- ==== Proof.MergeClaim.lean ====
/- The claims about the branches' merge: the frames of its programs and the equality of its result with its reference's. -/
module

public import proofs.«01_k».proof.Defs
public import proofs.«01_k».proof.Proof.MergeValue
public import proofs.«01_k».proof.Proof.Gen.Merge.Frame
public import proofs.«01_k».proof.Proof.Gen.MergeRefIdeal.Run
public import Idealize.ShloMosaic.Lib.Claim

@[expose] public section

set_option maxRecDepth 16384

noncomputable section

namespace Cert.Proof

open Idealize.ShloMosaic Idealize.ShloMosaic.TcCoe Idealize.SL.Sem

theorem frame_merge : Cert.quiescent_Merge := fun m ρ _ => Cert.Merge.Gen.frame m ρ

theorem frame_merge_ideal : Cert.quiescent_MergeIdeal := fun m ρ _ => Cert.MergeIdeal.Gen.frame m ρ

theorem frame_merge_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic_merge : Cert.algebraic_MergeIdeal_MergeRefIdeal := by
  pair_intro
  · run_from Cert.MergeIdeal.Gen.run_main m g
  · run_from Cert.MergeRefIdeal.Value.run m' g'
    rw [Cert.MergeRefIdeal.Read.val_main_v25_eq]
    obtain ⟨-, h1, h2, h3, h4, h5, h6, -⟩ := hagree c
    rw [h1, h2, h3, h4, h5, h6]
    exact (Cert.MergeIdeal.Value.final m c).symm

end Cert.Proof
end
-- ==== Proof.InProjHost.lean ====
/- The input projection's packed weights read at an index: which column of the weights each packed column holds. -/
module

public import proofs.«01_k».proof.Proof.Math
public import proofs.«01_k».proof.Proof.Gen.InProjIdeal.Value
public import Idealize.ShloMosaic.Lib.Pipeline.ValueKit
public import Idealize.ShloMosaic.Lib.StableHlo.ReadAt
public import Idealize.ShloMosaic.Lib.StableHlo.RunClose

@[expose] public section

set_option maxRecDepth 16384

noncomputable section

open Idealize.ShloMosaic Idealize.ShloMosaic.TcCoe Idealize.SL.Sem Idealize.ShloMosaic.StableHlo Cert.Rows

namespace Cert.Rows

/-- The column of the unpacked weights that packed column `j` holds. -/
def col (j : ℕ) : ℕ :=
  if j < 512 then j
  else if j < 1024 then 1092 + (j - 512)
  else if j < 1536 then 2380 + (j - 1024)
  else if j < 2048 then 2892 + (j - 1536)
  else if j < 5120 then 3404 + (j - 2048)
  else if j < 5632 then 1604 + (j - 5120)
  else if j < 6144 then 2372 + (j - 5632) / 64
  else if j < 6400 then 2116 + (j - 6144)
  else if j < 6656 then 768 + (j - 6400)
  else if j < 6784 then 512 + (j - 6656)
  else if j < 6912 then 640 + (j - 6784)
  else if j < 6976 then 1024 + (j - 6912)
  else 1088 + (j - 6976)

theorem col0 {j : ℕ} (h : 0 ≤ j) (h' : j < 512) : col j = j := by
  unfold col
  rw [if_pos (by omega)]

theorem col1 {j : ℕ} (h : 512 ≤ j) (h' : j < 1024) : col j = 1092 + (j - 512) := by
  unfold col
  rw [if_neg (by omega)]; rw [if_pos (by omega)]

theorem col2 {j : ℕ} (h : 1024 ≤ j) (h' : j < 1536) : col j = 2380 + (j - 1024) := by
  unfold col
  rw [if_neg (by omega)]; rw [if_neg (by omega)]; rw [if_pos (by omega)]

theorem col3 {j : ℕ} (h : 1536 ≤ j) (h' : j < 2048) : col j = 2892 + (j - 1536) := by
  unfold col
  rw [if_neg (by omega)]; rw [if_neg (by omega)]; rw [if_neg (by omega)]; rw [if_pos (by omega)]

theorem col4 {j : ℕ} (h : 2048 ≤ j) (h' : j < 5120) : col j = 3404 + (j - 2048) := by
  unfold col
  rw [if_neg (by omega)]; rw [if_neg (by omega)]; rw [if_neg (by omega)]; rw [if_neg (by omega)]; rw [if_pos (by omega)]

theorem col5 {j : ℕ} (h : 5120 ≤ j) (h' : j < 5632) : col j = 1604 + (j - 5120) := by
  unfold col
  rw [if_neg (by omega)]; rw [if_neg (by omega)]; rw [if_neg (by omega)]; rw [if_neg (by omega)]; rw [if_neg (by omega)]; rw [if_pos (by omega)]

theorem col6 {j : ℕ} (h : 5632 ≤ j) (h' : j < 6144) : col j = 2372 + (j - 5632) / 64 := by
  unfold col
  rw [if_neg (by omega)]; rw [if_neg (by omega)]; rw [if_neg (by omega)]; rw [if_neg (by omega)]; rw [if_neg (by omega)]; rw [if_neg (by omega)]; rw [if_pos (by omega)]

theorem col7 {j : ℕ} (h : 6144 ≤ j) (h' : j < 6400) : col j = 2116 + (j - 6144) := by
  unfold col
  rw [if_neg (by omega)]; rw [if_neg (by omega)]; rw [if_neg (by omega)]; rw [if_neg (by omega)]; rw [if_neg (by omega)]; rw [if_neg (by omega)]; rw [if_neg (by omega)]; rw [if_pos (by omega)]

theorem col8 {j : ℕ} (h : 6400 ≤ j) (h' : j < 6656) : col j = 768 + (j - 6400) := by
  unfold col
  rw [if_neg (by omega)]; rw [if_neg (by omega)]; rw [if_neg (by omega)]; rw [if_neg (by omega)]; rw [if_neg (by omega)]; rw [if_neg (by omega)]; rw [if_neg (by omega)]; rw [if_neg (by omega)]; rw [if_pos (by omega)]

theorem col9 {j : ℕ} (h : 6656 ≤ j) (h' : j < 6784) : col j = 512 + (j - 6656) := by
  unfold col
  rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_pos (by omega)]

theorem col10 {j : ℕ} (h : 6784 ≤ j) (h' : j < 6912) : col j = 640 + (j - 6784) := by
  unfold col
  rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_pos (by omega)]

theorem col11 {j : ℕ} (h : 6912 ≤ j) (h' : j < 6976) : col j = 1024 + (j - 6912) := by
  unfold col
  rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_pos (by omega)]

theorem col12 {j : ℕ} (h : 6976 ≤ j) (h' : j < 6980) : col j = 1088 + (j - 6976) := by
  unfold col
  rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; skip

theorem col_lt {j : ℕ} (h : j < 6980) : col j < 6476 := by
  by_cases h0 : j < 512
  · rw [col0 (by omega) h0]; omega
  by_cases h1 : j < 1024
  · rw [col1 (by omega) h1]; omega
  by_cases h2 : j < 1536
  · rw [col2 (by omega) h2]; omega
  by_cases h3 : j < 2048
  · rw [col3 (by omega) h3]; omega
  by_cases h4 : j < 5120
  · rw [col4 (by omega) h4]; omega
  by_cases h5 : j < 5632
  · rw [col5 (by omega) h5]; omega
  by_cases h6 : j < 6144
  · rw [col6 (by omega) h6]; omega
  by_cases h7 : j < 6400
  · rw [col7 (by omega) h7]; omega
  by_cases h8 : j < 6656
  · rw [col8 (by omega) h8]; omega
  by_cases h9 : j < 6784
  · rw [col9 (by omega) h9]; omega
  by_cases h10 : j < 6912
  · rw [col10 (by omega) h10]; omega
  by_cases h11 : j < 6976
  · rw [col11 (by omega) h11]; omega
  rw [col12 (by omega) h]; omega

/-- The packed row: the columns of `g` in the packed order, the first 512 scaled by `s`, zeros after the last. -/
def packed (s : EReal) (g : Fin 6476 → EReal) (j : ℕ) : EReal :=
  if h : j < 6980 then (if j < 512 then g ⟨col j, col_lt h⟩ * s else g ⟨col j, col_lt h⟩) else 0

theorem packed_q (s : EReal) (g : Fin 6476 → EReal) {j : ℕ} (h : j < 512) :
    packed s g j = g ⟨j, by omega⟩ * s := by
  unfold packed; rw [dif_pos (by omega), if_pos h]
  congr 2; unfold col; simp [h]

theorem packed_col (s : EReal) (g : Fin 6476 → EReal) {j : ℕ} (h : 512 ≤ j) (h' : j < 6980) (q : Fin 6476)
    (hq : q.val = col j) : packed s g j = g q := by
  unfold packed; rw [dif_pos h', if_neg (by omega)]
  congr 1; exact Fin.ext hq.symm

theorem packed_pad (s : EReal) (g : Fin 6476 → EReal) {j : ℕ} (h : 6980 ≤ j) : packed s g j = 0 := by
  unfold packed; rw [dif_neg (by omega)]

end Cert.Rows

namespace Cert.InProjIdeal.Value
open Cert.InProjIdeal Cert.InProjIdeal.Gen

variable (m : (ℓ : Loc nD τ sig) → Buf (Elt Ideal) ℓ) (ρ : Dev nD → PrngReg)

/-- The constant the query columns are scaled by. -/
abbrev qs : EReal := Ideal.ofBits .f32 0x3E38AA3B#32

theorem dus512 (x : FVec Ideal S1024x7168 .bf16) (u : FVec Ideal S1024x512 .bf16) (st : Fin 2 → Int)
    (o : ℕ) (ho : o + 512 ≤ 7168) (h0 : st 0 = ((0 : ℕ) : Int)) (h1 : st 1 = (o : Int)) (k : Fin 1024) (j : Fin 7168) :
    Host.dynamicUpdateSlice x u st updateFits_S1024x7168_S1024x512 (ix2 k j)
      = if h : o ≤ j.val ∧ j.val < o + 512 then u (ix2 k ⟨j.val - o, by omega⟩) else x (ix2 k j) := by
  have e0 : Host.clampedStart S1024x7168 S1024x512 updateFits_S1024x7168_S1024x512.1 st 0 = 0 :=
    Host.clampedStart_of_le _ _ _ 0 h0 (by decide)
  have e1 : Host.clampedStart S1024x7168 S1024x512 updateFits_S1024x7168_S1024x512.1 st 1 = o :=
    Host.clampedStart_of_le _ _ _ o h1 (by show o + 512 ≤ 7168; exact ho)
  pointwise
  simp only [e0, e1]
  have hk : 0 ≤ k.val ∧ k.val < 0 + 1024 := by omega
  by_cases h : o ≤ j.val ∧ j.val < o + 512
  · rw [dif_pos h, dif_pos ⟨hk, h⟩]
    rfl
  · rw [dif_neg h, dif_neg (fun h' => h h'.2)]

theorem dus3072 (x : FVec Ideal S1024x7168 .bf16) (u : FVec Ideal S1024x3072 .bf16) (st : Fin 2 → Int)
    (o : ℕ) (ho : o + 3072 ≤ 7168) (h0 : st 0 = ((0 : ℕ) : Int)) (h1 : st 1 = (o : Int)) (k : Fin 1024) (j : Fin 7168) :
    Host.dynamicUpdateSlice x u st updateFits_S1024x7168_S1024x3072 (ix2 k j)
      = if h : o ≤ j.val ∧ j.val < o + 3072 then u (ix2 k ⟨j.val - o, by omega⟩) else x (ix2 k j) := by
  have e0 : Host.clampedStart S1024x7168 S1024x3072 updateFits_S1024x7168_S1024x3072.1 st 0 = 0 :=
    Host.clampedStart_of_le _ _ _ 0 h0 (by decide)
  have e1 : Host.clampedStart S1024x7168 S1024x3072 updateFits_S1024x7168_S1024x3072.1 st 1 = o :=
    Host.clampedStart_of_le _ _ _ o h1 (by show o + 3072 ≤ 7168; exact ho)
  pointwise
  simp only [e0, e1]
  have hk : 0 ≤ k.val ∧ k.val < 0 + 1024 := by omega
  by_cases h : o ≤ j.val ∧ j.val < o + 3072
  · rw [dif_pos h, dif_pos ⟨hk, h⟩]
    rfl
  · rw [dif_neg h, dif_neg (fun h' => h h'.2)]

theorem dus256 (x : FVec Ideal S1024x7168 .bf16) (u : FVec Ideal S1024x256 .bf16) (st : Fin 2 → Int)
    (o : ℕ) (ho : o + 256 ≤ 7168) (h0 : st 0 = ((0 : ℕ) : Int)) (h1 : st 1 = (o : Int)) (k : Fin 1024) (j : Fin 7168) :
    Host.dynamicUpdateSlice x u st updateFits_S1024x7168_S1024x256 (ix2 k j)
      = if h : o ≤ j.val ∧ j.val < o + 256 then u (ix2 k ⟨j.val - o, by omega⟩) else x (ix2 k j) := by
  have e0 : Host.clampedStart S1024x7168 S1024x256 updateFits_S1024x7168_S1024x256.1 st 0 = 0 :=
    Host.clampedStart_of_le _ _ _ 0 h0 (by decide)
  have e1 : Host.clampedStart S1024x7168 S1024x256 updateFits_S1024x7168_S1024x256.1 st 1 = o :=
    Host.clampedStart_of_le _ _ _ o h1 (by show o + 256 ≤ 7168; exact ho)
  pointwise
  simp only [e0, e1]
  have hk : 0 ≤ k.val ∧ k.val < 0 + 1024 := by omega
  by_cases h : o ≤ j.val ∧ j.val < o + 256
  · rw [dif_pos h, dif_pos ⟨hk, h⟩]
    rfl
  · rw [dif_neg h, dif_neg (fun h' => h h'.2)]

theorem dus128 (x : FVec Ideal S1024x7168 .bf16) (u : FVec Ideal S1024x128 .bf16) (st : Fin 2 → Int)
    (o : ℕ) (ho : o + 128 ≤ 7168) (h0 : st 0 = ((0 : ℕ) : Int)) (h1 : st 1 = (o : Int)) (k : Fin 1024) (j : Fin 7168) :
    Host.dynamicUpdateSlice x u st updateFits_S1024x7168_S1024x128 (ix2 k j)
      = if h : o ≤ j.val ∧ j.val < o + 128 then u (ix2 k ⟨j.val - o, by omega⟩) else x (ix2 k j) := by
  have e0 : Host.clampedStart S1024x7168 S1024x128 updateFits_S1024x7168_S1024x128.1 st 0 = 0 :=
    Host.clampedStart_of_le _ _ _ 0 h0 (by decide)
  have e1 : Host.clampedStart S1024x7168 S1024x128 updateFits_S1024x7168_S1024x128.1 st 1 = o :=
    Host.clampedStart_of_le _ _ _ o h1 (by show o + 128 ≤ 7168; exact ho)
  pointwise
  simp only [e0, e1]
  have hk : 0 ≤ k.val ∧ k.val < 0 + 1024 := by omega
  by_cases h : o ≤ j.val ∧ j.val < o + 128
  · rw [dif_pos h, dif_pos ⟨hk, h⟩]
    rfl
  · rw [dif_neg h, dif_neg (fun h' => h h'.2)]

theorem dus64 (x : FVec Ideal S1024x7168 .bf16) (u : FVec Ideal S1024x64 .bf16) (st : Fin 2 → Int)
    (o : ℕ) (ho : o + 64 ≤ 7168) (h0 : st 0 = ((0 : ℕ) : Int)) (h1 : st 1 = (o : Int)) (k : Fin 1024) (j : Fin 7168) :
    Host.dynamicUpdateSlice x u st updateFits_S1024x7168_S1024x64 (ix2 k j)
      = if h : o ≤ j.val ∧ j.val < o + 64 then u (ix2 k ⟨j.val - o, by omega⟩) else x (ix2 k j) := by
  have e0 : Host.clampedStart S1024x7168 S1024x64 updateFits_S1024x7168_S1024x64.1 st 0 = 0 :=
    Host.clampedStart_of_le _ _ _ 0 h0 (by decide)
  have e1 : Host.clampedStart S1024x7168 S1024x64 updateFits_S1024x7168_S1024x64.1 st 1 = o :=
    Host.clampedStart_of_le _ _ _ o h1 (by show o + 64 ≤ 7168; exact ho)
  pointwise
  simp only [e0, e1]
  have hk : 0 ≤ k.val ∧ k.val < 0 + 1024 := by omega
  by_cases h : o ≤ j.val ∧ j.val < o + 64
  · rw [dif_pos h, dif_pos ⟨hk, h⟩]
    rfl
  · rw [dif_neg h, dif_neg (fun h' => h h'.2)]

theorem dus4 (x : FVec Ideal S1024x7168 .bf16) (u : FVec Ideal S1024x4 .bf16) (st : Fin 2 → Int)
    (o : ℕ) (ho : o + 4 ≤ 7168) (h0 : st 0 = ((0 : ℕ) : Int)) (h1 : st 1 = (o : Int)) (k : Fin 1024) (j : Fin 7168) :
    Host.dynamicUpdateSlice x u st updateFits_S1024x7168_S1024x4 (ix2 k j)
      = if h : o ≤ j.val ∧ j.val < o + 4 then u (ix2 k ⟨j.val - o, by omega⟩) else x (ix2 k j) := by
  have e0 : Host.clampedStart S1024x7168 S1024x4 updateFits_S1024x7168_S1024x4.1 st 0 = 0 :=
    Host.clampedStart_of_le _ _ _ 0 h0 (by decide)
  have e1 : Host.clampedStart S1024x7168 S1024x4 updateFits_S1024x7168_S1024x4.1 st 1 = o :=
    Host.clampedStart_of_le _ _ _ o h1 (by show o + 4 ≤ 7168; exact ho)
  pointwise
  simp only [e0, e1]
  have hk : 0 ≤ k.val ∧ k.val < 0 + 1024 := by omega
  by_cases h : o ≤ j.val ∧ j.val < o + 4
  · rw [dif_pos h, dif_pos ⟨hk, h⟩]
    rfl
  · rw [dif_neg h, dif_neg (fun h' => h h'.2)]

/-- The weights before the first of the thirteen updates: all zero. -/
def st0 (w : FVec Ideal S1024x6476 .f32) : FVec Ideal S1024x7168 .bf16 :=
  broadcastInDim S1024x7168 ![] bcast_S_S1024x7168 (constant (F := Ideal) S_ .bf16 0#16)

theorem st0_apply (w : FVec Ideal S1024x6476 .f32) (k : Fin 1024) (j : Fin 7168) : st0 w (ix2 k j) = (0 : EReal) := by
  pointwise [st0]

/-- After update 1: packed columns 0 to 511 written. -/
def st1 (w : FVec Ideal S1024x6476 .f32) : FVec Ideal S1024x7168 .bf16 :=
  Host.dynamicUpdateSlice (st0 w) (truncf .bf16 (mulf (extractStridedSlice S1024x512 ![0, 0] w slices_S1024x6476_S1024x512_0_0)
      (broadcastInDim S1024x512 ![] bcast_S_S1024x512 (constant S_ .f32 1043900987#32))) bitsLt_bf16_f32)
    (fun k => BitVec.toInt (![constantI S_ 32 0#32, constantI S_ 32 0#32] k (Shape.Idx.first h_S_)))
    updateFits_S1024x7168_S1024x512

theorem st1_apply (w : FVec Ideal S1024x6476 .f32) (k : Fin 1024) (j : Fin 7168) :
    st1 w (ix2 k j) = if 0 ≤ j.val ∧ j.val < 0 + 512 then packed qs (fun q => w (ix2 k q)) j.val else st0 w (ix2 k j) := by
  unfold st1
  rw [dus512 _ _ _ 0 (by decide) rfl rfl]
  by_cases h : 0 ≤ j.val ∧ j.val < 0 + 512
  · rw [dif_pos h, if_pos h]
    rw [packed_q _ _ (by omega)]
    pointwise
  · rw [dif_neg h, if_neg h]

/-- After update 2: packed columns 512 to 1023 written. -/
def st2 (w : FVec Ideal S1024x6476 .f32) : FVec Ideal S1024x7168 .bf16 :=
  Host.dynamicUpdateSlice (st1 w) (truncf .bf16 (extractStridedSlice S1024x512 ![0, 1092] w slices_S1024x6476_S1024x512_0_1092) bitsLt_bf16_f32)
    (fun k => BitVec.toInt (![constantI S_ 32 0#32, constantI S_ 32 512#32] k (Shape.Idx.first h_S_)))
    updateFits_S1024x7168_S1024x512

theorem st2_apply (w : FVec Ideal S1024x6476 .f32) (k : Fin 1024) (j : Fin 7168) :
    st2 w (ix2 k j) = if 512 ≤ j.val ∧ j.val < 512 + 512 then packed qs (fun q => w (ix2 k q)) j.val else st1 w (ix2 k j) := by
  unfold st2
  rw [dus512 _ _ _ 512 (by decide) rfl rfl]
  by_cases h : 512 ≤ j.val ∧ j.val < 512 + 512
  · rw [dif_pos h, if_pos h]
    rw [packed_col _ _ (by omega) (by omega) ⟨1092 + (j.val - 512), by omega⟩ (by dsimp only; unfold col; rw [if_neg (by omega)]; rw [if_pos (by omega)])]
    pointwise
  · rw [dif_neg h, if_neg h]

/-- After update 3: packed columns 1024 to 1535 written. -/
def st3 (w : FVec Ideal S1024x6476 .f32) : FVec Ideal S1024x7168 .bf16 :=
  Host.dynamicUpdateSlice (st2 w) (truncf .bf16 (extractStridedSlice S1024x512 ![0, 2380] w slices_S1024x6476_S1024x512_0_2380) bitsLt_bf16_f32)
    (fun k => BitVec.toInt (![constantI S_ 32 0#32, constantI S_ 32 1024#32] k (Shape.Idx.first h_S_)))
    updateFits_S1024x7168_S1024x512

theorem st3_apply (w : FVec Ideal S1024x6476 .f32) (k : Fin 1024) (j : Fin 7168) :
    st3 w (ix2 k j) = if 1024 ≤ j.val ∧ j.val < 1024 + 512 then packed qs (fun q => w (ix2 k q)) j.val else st2 w (ix2 k j) := by
  unfold st3
  rw [dus512 _ _ _ 1024 (by decide) rfl rfl]
  by_cases h : 1024 ≤ j.val ∧ j.val < 1024 + 512
  · rw [dif_pos h, if_pos h]
    rw [packed_col _ _ (by omega) (by omega) ⟨2380 + (j.val - 1024), by omega⟩ (by dsimp only; unfold col; rw [if_neg (by omega)]; rw [if_neg (by omega)]; rw [if_pos (by omega)])]
    pointwise
  · rw [dif_neg h, if_neg h]

/-- After update 4: packed columns 1536 to 2047 written. -/
def st4 (w : FVec Ideal S1024x6476 .f32) : FVec Ideal S1024x7168 .bf16 :=
  Host.dynamicUpdateSlice (st3 w) (truncf .bf16 (extractStridedSlice S1024x512 ![0, 2892] w slices_S1024x6476_S1024x512_0_2892) bitsLt_bf16_f32)
    (fun k => BitVec.toInt (![constantI S_ 32 0#32, constantI S_ 32 1536#32] k (Shape.Idx.first h_S_)))
    updateFits_S1024x7168_S1024x512

theorem st4_apply (w : FVec Ideal S1024x6476 .f32) (k : Fin 1024) (j : Fin 7168) :
    st4 w (ix2 k j) = if 1536 ≤ j.val ∧ j.val < 1536 + 512 then packed qs (fun q => w (ix2 k q)) j.val else st3 w (ix2 k j) := by
  unfold st4
  rw [dus512 _ _ _ 1536 (by decide) rfl rfl]
  by_cases h : 1536 ≤ j.val ∧ j.val < 1536 + 512
  · rw [dif_pos h, if_pos h]
    rw [packed_col _ _ (by omega) (by omega) ⟨2892 + (j.val - 1536), by omega⟩ (by dsimp only; unfold col; rw [if_neg (by omega)]; rw [if_neg (by omega)]; rw [if_neg (by omega)]; rw [if_pos (by omega)])]
    pointwise
  · rw [dif_neg h, if_neg h]

/-- After update 5: packed columns 2048 to 5119 written. -/
def st5 (w : FVec Ideal S1024x6476 .f32) : FVec Ideal S1024x7168 .bf16 :=
  Host.dynamicUpdateSlice (st4 w) (truncf .bf16 (extractStridedSlice S1024x3072 ![0, 3404] w slices_S1024x6476_S1024x3072_0_3404) bitsLt_bf16_f32)
    (fun k => BitVec.toInt (![constantI S_ 32 0#32, constantI S_ 32 2048#32] k (Shape.Idx.first h_S_)))
    updateFits_S1024x7168_S1024x3072

theorem st5_apply (w : FVec Ideal S1024x6476 .f32) (k : Fin 1024) (j : Fin 7168) :
    st5 w (ix2 k j) = if 2048 ≤ j.val ∧ j.val < 2048 + 3072 then packed qs (fun q => w (ix2 k q)) j.val else st4 w (ix2 k j) := by
  unfold st5
  rw [dus3072 _ _ _ 2048 (by decide) rfl rfl]
  by_cases h : 2048 ≤ j.val ∧ j.val < 2048 + 3072
  · rw [dif_pos h, if_pos h]
    rw [packed_col _ _ (by omega) (by omega) ⟨3404 + (j.val - 2048), by omega⟩ (by dsimp only; unfold col; rw [if_neg (by omega)]; rw [if_neg (by omega)]; rw [if_neg (by omega)]; rw [if_neg (by omega)]; rw [if_pos (by omega)])]
    pointwise
  · rw [dif_neg h, if_neg h]

/-- After update 6: packed columns 5120 to 5631 written. -/
def st6 (w : FVec Ideal S1024x6476 .f32) : FVec Ideal S1024x7168 .bf16 :=
  Host.dynamicUpdateSlice (st5 w) (truncf .bf16 (extractStridedSlice S1024x512 ![0, 0] (extractStridedSlice S1024x768 ![0, 1604] w
      slices_S1024x6476_S1024x768_0_1604) slices_S1024x768_S1024x512_0_0) bitsLt_bf16_f32)
    (fun k => BitVec.toInt (![constantI S_ 32 0#32, constantI S_ 32 5120#32] k (Shape.Idx.first h_S_)))
    updateFits_S1024x7168_S1024x512

theorem st6_apply (w : FVec Ideal S1024x6476 .f32) (k : Fin 1024) (j : Fin 7168) :
    st6 w (ix2 k j) = if 5120 ≤ j.val ∧ j.val < 5120 + 512 then packed qs (fun q => w (ix2 k q)) j.val else st5 w (ix2 k j) := by
  unfold st6
  rw [dus512 _ _ _ 5120 (by decide) rfl rfl]
  by_cases h : 5120 ≤ j.val ∧ j.val < 5120 + 512
  · rw [dif_pos h, if_pos h]
    rw [packed_col _ _ (by omega) (by omega) ⟨1604 + (j.val - 5120), by omega⟩ (by dsimp only; unfold col; rw [if_neg (by omega)]; rw [if_neg (by omega)]; rw [if_neg (by omega)]; rw [if_neg (by omega)]; rw [if_neg (by omega)]; rw [if_pos (by omega)])]
    pointwise
  · rw [dif_neg h, if_neg h]

/-- After update 7: packed columns 5632 to 6143 written. -/
def st7 (w : FVec Ideal S1024x6476 .f32) : FVec Ideal S1024x7168 .bf16 :=
  Host.dynamicUpdateSlice (st6 w) (truncf .bf16 (fun i => shapeCast main_v16.ty.shape (broadcastInDim S1024x8x64 ![0, 1] bcast_S1024x8_S1024x8x64_0_1
      (extractStridedSlice S1024x8 ![0, 2372] w slices_S1024x6476_S1024x8_0_2372)) shapeCasts_S1024x8x64_S1024x512 i) bitsLt_bf16_f32)
    (fun k => BitVec.toInt (![constantI S_ 32 0#32, constantI S_ 32 5632#32] k (Shape.Idx.first h_S_)))
    updateFits_S1024x7168_S1024x512

theorem st7_apply (w : FVec Ideal S1024x6476 .f32) (k : Fin 1024) (j : Fin 7168) :
    st7 w (ix2 k j) = if 5632 ≤ j.val ∧ j.val < 5632 + 512 then packed qs (fun q => w (ix2 k q)) j.val else st6 w (ix2 k j) := by
  unfold st7
  rw [dus512 _ _ _ 5632 (by decide) rfl rfl]
  by_cases h : 5632 ≤ j.val ∧ j.val < 5632 + 512
  · rw [dif_pos h, if_pos h]
    rw [packed_col _ _ (by omega) (by omega) ⟨2372 + (j.val - 5632) / 64, by omega⟩ (by dsimp only; unfold col; rw [if_neg (by omega)]; rw [if_neg (by omega)]; rw [if_neg (by omega)]; rw [if_neg (by omega)]; rw [if_neg (by omega)]; rw [if_neg (by omega)]; rw [if_pos (by omega)])]
    pointwise
  · rw [dif_neg h, if_neg h]

/-- After update 8: packed columns 6144 to 6399 written. -/
def st8 (w : FVec Ideal S1024x6476 .f32) : FVec Ideal S1024x7168 .bf16 :=
  Host.dynamicUpdateSlice (st7 w) (truncf .bf16 (extractStridedSlice S1024x256 ![0, 512] (extractStridedSlice S1024x768 ![0, 1604] w
      slices_S1024x6476_S1024x768_0_1604) slices_S1024x768_S1024x256_0_512) bitsLt_bf16_f32)
    (fun k => BitVec.toInt (![constantI S_ 32 0#32, constantI S_ 32 6144#32] k (Shape.Idx.first h_S_)))
    updateFits_S1024x7168_S1024x256

theorem st8_apply (w : FVec Ideal S1024x6476 .f32) (k : Fin 1024) (j : Fin 7168) :
    st8 w (ix2 k j) = if 6144 ≤ j.val ∧ j.val < 6144 + 256 then packed qs (fun q => w (ix2 k q)) j.val else st7 w (ix2 k j) := by
  unfold st8
  rw [dus256 _ _ _ 6144 (by decide) rfl rfl]
  by_cases h : 6144 ≤ j.val ∧ j.val < 6144 + 256
  · rw [dif_pos h, if_pos h]
    rw [packed_col _ _ (by omega) (by omega) ⟨1604 + (512 + (j.val - 6144)), by omega⟩ (by dsimp only; unfold col; rw [if_neg (by omega)]; rw [if_neg (by omega)]; rw [if_neg (by omega)]; rw [if_neg (by omega)]; rw [if_neg (by omega)]; rw [if_neg (by omega)]; rw [if_neg (by omega)]; rw [if_pos (by omega)]; omega)]
    pointwise
  · rw [dif_neg h, if_neg h]

/-- After update 9: packed columns 6400 to 6655 written. -/
def st9 (w : FVec Ideal S1024x6476 .f32) : FVec Ideal S1024x7168 .bf16 :=
  Host.dynamicUpdateSlice (st8 w) (truncf .bf16 (extractStridedSlice S1024x256 ![0, 768] w slices_S1024x6476_S1024x256_0_768) bitsLt_bf16_f32)
    (fun k => BitVec.toInt (![constantI S_ 32 0#32, constantI S_ 32 6400#32] k (Shape.Idx.first h_S_)))
    updateFits_S1024x7168_S1024x256

theorem st9_apply (w : FVec Ideal S1024x6476 .f32) (k : Fin 1024) (j : Fin 7168) :
    st9 w (ix2 k j) = if 6400 ≤ j.val ∧ j.val < 6400 + 256 then packed qs (fun q => w (ix2 k q)) j.val else st8 w (ix2 k j) := by
  unfold st9
  rw [dus256 _ _ _ 6400 (by decide) rfl rfl]
  by_cases h : 6400 ≤ j.val ∧ j.val < 6400 + 256
  · rw [dif_pos h, if_pos h]
    rw [packed_col _ _ (by omega) (by omega) ⟨768 + (j.val - 6400), by omega⟩ (by dsimp only; unfold col; rw [if_neg (by omega)]; rw [if_neg (by omega)]; rw [if_neg (by omega)]; rw [if_neg (by omega)]; rw [if_neg (by omega)]; rw [if_neg (by omega)]; rw [if_neg (by omega)]; rw [if_neg (by omega)]; rw [if_pos (by omega)])]
    pointwise
  · rw [dif_neg h, if_neg h]

/-- After update 10: packed columns 6656 to 6783 written. -/
def st10 (w : FVec Ideal S1024x6476 .f32) : FVec Ideal S1024x7168 .bf16 :=
  Host.dynamicUpdateSlice (st9 w) (truncf .bf16 (extractStridedSlice S1024x128 ![0, 512] w slices_S1024x6476_S1024x128_0_512) bitsLt_bf16_f32)
    (fun k => BitVec.toInt (![constantI S_ 32 0#32, constantI S_ 32 6656#32] k (Shape.Idx.first h_S_)))
    updateFits_S1024x7168_S1024x128

theorem st10_apply (w : FVec Ideal S1024x6476 .f32) (k : Fin 1024) (j : Fin 7168) :
    st10 w (ix2 k j) = if 6656 ≤ j.val ∧ j.val < 6656 + 128 then packed qs (fun q => w (ix2 k q)) j.val else st9 w (ix2 k j) := by
  unfold st10
  rw [dus128 _ _ _ 6656 (by decide) rfl rfl]
  by_cases h : 6656 ≤ j.val ∧ j.val < 6656 + 128
  · rw [dif_pos h, if_pos h]
    rw [packed_col _ _ (by omega) (by omega) ⟨512 + (j.val - 6656), by omega⟩ (by dsimp only; unfold col; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_pos (by omega)])]
    pointwise
  · rw [dif_neg h, if_neg h]

/-- After update 11: packed columns 6784 to 6911 written. -/
def st11 (w : FVec Ideal S1024x6476 .f32) : FVec Ideal S1024x7168 .bf16 :=
  Host.dynamicUpdateSlice (st10 w) (truncf .bf16 (extractStridedSlice S1024x128 ![0, 640] w slices_S1024x6476_S1024x128_0_640) bitsLt_bf16_f32)
    (fun k => BitVec.toInt (![constantI S_ 32 0#32, constantI S_ 32 6784#32] k (Shape.Idx.first h_S_)))
    updateFits_S1024x7168_S1024x128

theorem st11_apply (w : FVec Ideal S1024x6476 .f32) (k : Fin 1024) (j : Fin 7168) :
    st11 w (ix2 k j) = if 6784 ≤ j.val ∧ j.val < 6784 + 128 then packed qs (fun q => w (ix2 k q)) j.val else st10 w (ix2 k j) := by
  unfold st11
  rw [dus128 _ _ _ 6784 (by decide) rfl rfl]
  by_cases h : 6784 ≤ j.val ∧ j.val < 6784 + 128
  · rw [dif_pos h, if_pos h]
    rw [packed_col _ _ (by omega) (by omega) ⟨640 + (j.val - 6784), by omega⟩ (by dsimp only; unfold col; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_pos (by omega)])]
    pointwise
  · rw [dif_neg h, if_neg h]

/-- After update 12: packed columns 6912 to 6975 written. -/
def st12 (w : FVec Ideal S1024x6476 .f32) : FVec Ideal S1024x7168 .bf16 :=
  Host.dynamicUpdateSlice (st11 w) (truncf .bf16 (extractStridedSlice S1024x64 ![0, 1024] w slices_S1024x6476_S1024x64_0_1024) bitsLt_bf16_f32)
    (fun k => BitVec.toInt (![constantI S_ 32 0#32, constantI S_ 32 6912#32] k (Shape.Idx.first h_S_)))
    updateFits_S1024x7168_S1024x64

theorem st12_apply (w : FVec Ideal S1024x6476 .f32) (k : Fin 1024) (j : Fin 7168) :
    st12 w (ix2 k j) = if 6912 ≤ j.val ∧ j.val < 6912 + 64 then packed qs (fun q => w (ix2 k q)) j.val else st11 w (ix2 k j) := by
  unfold st12
  rw [dus64 _ _ _ 6912 (by decide) rfl rfl]
  by_cases h : 6912 ≤ j.val ∧ j.val < 6912 + 64
  · rw [dif_pos h, if_pos h]
    rw [packed_col _ _ (by omega) (by omega) ⟨1024 + (j.val - 6912), by omega⟩ (by dsimp only; unfold col; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_pos (by omega)])]
    pointwise
  · rw [dif_neg h, if_neg h]

/-- After update 13: packed columns 6976 to 6979 written. -/
def st13 (w : FVec Ideal S1024x6476 .f32) : FVec Ideal S1024x7168 .bf16 :=
  Host.dynamicUpdateSlice (st12 w) (truncf .bf16 (extractStridedSlice S1024x4 ![0, 1088] w slices_S1024x6476_S1024x4_0_1088) bitsLt_bf16_f32)
    (fun k => BitVec.toInt (![constantI S_ 32 0#32, constantI S_ 32 6976#32] k (Shape.Idx.first h_S_)))
    updateFits_S1024x7168_S1024x4

theorem st13_apply (w : FVec Ideal S1024x6476 .f32) (k : Fin 1024) (j : Fin 7168) :
    st13 w (ix2 k j) = if 6976 ≤ j.val ∧ j.val < 6976 + 4 then packed qs (fun q => w (ix2 k q)) j.val else st12 w (ix2 k j) := by
  unfold st13
  rw [dus4 _ _ _ 6976 (by decide) rfl rfl]
  by_cases h : 6976 ≤ j.val ∧ j.val < 6976 + 4
  · rw [dif_pos h, if_pos h]
    rw [packed_col _ _ (by omega) (by omega) ⟨1088 + (j.val - 6976), by omega⟩ (by dsimp only; unfold col; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)]; rw [if_neg (by omega)])]
    pointwise
  · rw [dif_neg h, if_neg h]

theorem st1_lt (w : FVec Ideal S1024x6476 .f32) (k : Fin 1024) (j : Fin 7168) (hj : j.val < 512) :
    st1 w (ix2 k j) = packed qs (fun q => w (ix2 k q)) j.val := by
  rw [st1_apply]
  by_cases h : 0 ≤ j.val ∧ j.val < 0 + 512
  · rw [if_pos h]
  · rw [if_neg h]
    exact absurd (by omega) h

theorem st1_pad (w : FVec Ideal S1024x6476 .f32) (k : Fin 1024) (j : Fin 7168) (hj : 6980 ≤ j.val) :
    st1 w (ix2 k j) = (0 : EReal) := by
  rw [st1_apply, if_neg (by omega)]
  exact st0_apply w k j

theorem st2_lt (w : FVec Ideal S1024x6476 .f32) (k : Fin 1024) (j : Fin 7168) (hj : j.val < 1024) :
    st2 w (ix2 k j) = packed qs (fun q => w (ix2 k q)) j.val := by
  rw [st2_apply]
  by_cases h : 512 ≤ j.val ∧ j.val < 512 + 512
  · rw [if_pos h]
  · rw [if_neg h]
    exact st1_lt w k j (by omega)

theorem st2_pad (w : FVec Ideal S1024x6476 .f32) (k : Fin 1024) (j : Fin 7168) (hj : 6980 ≤ j.val) :
    st2 w (ix2 k j) = (0 : EReal) := by
  rw [st2_apply, if_neg (by omega)]
  exact st1_pad w k j hj

theorem st3_lt (w : FVec Ideal S1024x6476 .f32) (k : Fin 1024) (j : Fin 7168) (hj : j.val < 1536) :
    st3 w (ix2 k j) = packed qs (fun q => w (ix2 k q)) j.val := by
  rw [st3_apply]
  by_cases h : 1024 ≤ j.val ∧ j.val < 1024 + 512
  · rw [if_pos h]
  · rw [if_neg h]
    exact st2_lt w k j (by omega)

theorem st3_pad (w : FVec Ideal S1024x6476 .f32) (k : Fin 1024) (j : Fin 7168) (hj : 6980 ≤ j.val) :
    st3 w (ix2 k j) = (0 : EReal) := by
  rw [st3_apply, if_neg (by omega)]
  exact st2_pad w k j hj

theorem st4_lt (w : FVec Ideal S1024x6476 .f32) (k : Fin 1024) (j : Fin 7168) (hj : j.val < 2048) :
    st4 w (ix2 k j) = packed qs (fun q => w (ix2 k q)) j.val := by
  rw [st4_apply]
  by_cases h : 1536 ≤ j.val ∧ j.val < 1536 + 512
  · rw [if_pos h]
  · rw [if_neg h]
    exact st3_lt w k j (by omega)

theorem st4_pad (w : FVec Ideal S1024x6476 .f32) (k : Fin 1024) (j : Fin 7168) (hj : 6980 ≤ j.val) :
    st4 w (ix2 k j) = (0 : EReal) := by
  rw [st4_apply, if_neg (by omega)]
  exact st3_pad w k j hj

theorem st5_lt (w : FVec Ideal S1024x6476 .f32) (k : Fin 1024) (j : Fin 7168) (hj : j.val < 5120) :
    st5 w (ix2 k j) = packed qs (fun q => w (ix2 k q)) j.val := by
  rw [st5_apply]
  by_cases h : 2048 ≤ j.val ∧ j.val < 2048 + 3072
  · rw [if_pos h]
  · rw [if_neg h]
    exact st4_lt w k j (by omega)

theorem st5_pad (w : FVec Ideal S1024x6476 .f32) (k : Fin 1024) (j : Fin 7168) (hj : 6980 ≤ j.val) :
    st5 w (ix2 k j) = (0 : EReal) := by
  rw [st5_apply, if_neg (by omega)]
  exact st4_pad w k j hj

theorem st6_lt (w : FVec Ideal S1024x6476 .f32) (k : Fin 1024) (j : Fin 7168) (hj : j.val < 5632) :
    st6 w (ix2 k j) = packed qs (fun q => w (ix2 k q)) j.val := by
  rw [st6_apply]
  by_cases h : 5120 ≤ j.val ∧ j.val < 5120 + 512
  · rw [if_pos h]
  · rw [if_neg h]
    exact st5_lt w k j (by omega)

theorem st6_pad (w : FVec Ideal S1024x6476 .f32) (k : Fin 1024) (j : Fin 7168) (hj : 6980 ≤ j.val) :
    st6 w (ix2 k j) = (0 : EReal) := by
  rw [st6_apply, if_neg (by omega)]
  exact st5_pad w k j hj

theorem st7_lt (w : FVec Ideal S1024x6476 .f32) (k : Fin 1024) (j : Fin 7168) (hj : j.val < 6144) :
    st7 w (ix2 k j) = packed qs (fun q => w (ix2 k q)) j.val := by
  rw [st7_apply]
  by_cases h : 5632 ≤ j.val ∧ j.val < 5632 + 512
  · rw [if_pos h]
  · rw [if_neg h]
    exact st6_lt w k j (by omega)

theorem st7_pad (w : FVec Ideal S1024x6476 .f32) (k : Fin 1024) (j : Fin 7168) (hj : 6980 ≤ j.val) :
    st7 w (ix2 k j) = (0 : EReal) := by
  rw [st7_apply, if_neg (by omega)]
  exact st6_pad w k j hj

theorem st8_lt (w : FVec Ideal S1024x6476 .f32) (k : Fin 1024) (j : Fin 7168) (hj : j.val < 6400) :
    st8 w (ix2 k j) = packed qs (fun q => w (ix2 k q)) j.val := by
  rw [st8_apply]
  by_cases h : 6144 ≤ j.val ∧ j.val < 6144 + 256
  · rw [if_pos h]
  · rw [if_neg h]
    exact st7_lt w k j (by omega)

theorem st8_pad (w : FVec Ideal S1024x6476 .f32) (k : Fin 1024) (j : Fin 7168) (hj : 6980 ≤ j.val) :
    st8 w (ix2 k j) = (0 : EReal) := by
  rw [st8_apply, if_neg (by omega)]
  exact st7_pad w k j hj

theorem st9_lt (w : FVec Ideal S1024x6476 .f32) (k : Fin 1024) (j : Fin 7168) (hj : j.val < 6656) :
    st9 w (ix2 k j) = packed qs (fun q => w (ix2 k q)) j.val := by
  rw [st9_apply]
  by_cases h : 6400 ≤ j.val ∧ j.val < 6400 + 256
  · rw [if_pos h]
  · rw [if_neg h]
    exact st8_lt w k j (by omega)

theorem st9_pad (w : FVec Ideal S1024x6476 .f32) (k : Fin 1024) (j : Fin 7168) (hj : 6980 ≤ j.val) :
    st9 w (ix2 k j) = (0 : EReal) := by
  rw [st9_apply, if_neg (by omega)]
  exact st8_pad w k j hj

theorem st10_lt (w : FVec Ideal S1024x6476 .f32) (k : Fin 1024) (j : Fin 7168) (hj : j.val < 6784) :
    st10 w (ix2 k j) = packed qs (fun q => w (ix2 k q)) j.val := by
  rw [st10_apply]
  by_cases h : 6656 ≤ j.val ∧ j.val < 6656 + 128
  · rw [if_pos h]
  · rw [if_neg h]
    exact st9_lt w k j (by omega)

theorem st10_pad (w : FVec Ideal S1024x6476 .f32) (k : Fin 1024) (j : Fin 7168) (hj : 6980 ≤ j.val) :
    st10 w (ix2 k j) = (0 : EReal) := by
  rw [st10_apply, if_neg (by omega)]
  exact st9_pad w k j hj

theorem st11_lt (w : FVec Ideal S1024x6476 .f32) (k : Fin 1024) (j : Fin 7168) (hj : j.val < 6912) :
    st11 w (ix2 k j) = packed qs (fun q => w (ix2 k q)) j.val := by
  rw [st11_apply]
  by_cases h : 6784 ≤ j.val ∧ j.val < 6784 + 128
  · rw [if_pos h]
  · rw [if_neg h]
    exact st10_lt w k j (by omega)

theorem st11_pad (w : FVec Ideal S1024x6476 .f32) (k : Fin 1024) (j : Fin 7168) (hj : 6980 ≤ j.val) :
    st11 w (ix2 k j) = (0 : EReal) := by
  rw [st11_apply, if_neg (by omega)]
  exact st10_pad w k j hj

theorem st12_lt (w : FVec Ideal S1024x6476 .f32) (k : Fin 1024) (j : Fin 7168) (hj : j.val < 6976) :
    st12 w (ix2 k j) = packed qs (fun q => w (ix2 k q)) j.val := by
  rw [st12_apply]
  by_cases h : 6912 ≤ j.val ∧ j.val < 6912 + 64
  · rw [if_pos h]
  · rw [if_neg h]
    exact st11_lt w k j (by omega)

theorem st12_pad (w : FVec Ideal S1024x6476 .f32) (k : Fin 1024) (j : Fin 7168) (hj : 6980 ≤ j.val) :
    st12 w (ix2 k j) = (0 : EReal) := by
  rw [st12_apply, if_neg (by omega)]
  exact st11_pad w k j hj

theorem st13_lt (w : FVec Ideal S1024x6476 .f32) (k : Fin 1024) (j : Fin 7168) (hj : j.val < 6980) :
    st13 w (ix2 k j) = packed qs (fun q => w (ix2 k q)) j.val := by
  rw [st13_apply]
  by_cases h : 6976 ≤ j.val ∧ j.val < 6976 + 4
  · rw [if_pos h]
  · rw [if_neg h]
    exact st12_lt w k j (by omega)

theorem st13_pad (w : FVec Ideal S1024x6476 .f32) (k : Fin 1024) (j : Fin 7168) (hj : 6980 ≤ j.val) :
    st13 w (ix2 k j) = (0 : EReal) := by
  rw [st13_apply, if_neg (by omega)]
  exact st12_pad w k j hj

theorem st13_eq (w : FVec Ideal S1024x6476 .f32) (k : Fin 1024) (j : Fin 7168) :
    st13 w (ix2 k j) = packed qs (fun q => w (ix2 k q)) j.val := by
  by_cases h : j.val < 6980
  · exact st13_lt w k j h
  · rw [packed_pad _ _ (by omega)]
    exact st13_pad w k j (by omega)

/-- The packed weights as the region finds them. -/
theorem Vw (c : Dev nD) : (V m c main_v45 : FVec Ideal S1024x7168 .bf16) = st13 (m ((c, Proc.devRef .tc main_arg2) : Loc nD τ sig)) := by
  unfold V
  after_results_simp_entrywise
  rfl

theorem Vw_apply (c : Dev nD) (k : Fin 1024) (j : Fin 7168) :
    (V m c main_v45 : FVec Ideal S1024x7168 .bf16) (ix2 k j)
      = packed qs (fun q => (m ((c, Proc.devRef .tc main_arg2) : Loc nD τ sig) : FVec Ideal S1024x6476 .f32) (ix2 k q)) j.val := by
  rw [Vw, st13_eq]

end Cert.InProjIdeal.Value
end
-- ==== Proof.InProjRef.lean ====
/- The input projection's reference read at an index. -/
module

public import proofs.«01_k».proof.Proof.Math
public import proofs.«01_k».proof.Proof.Gen.InProjRefIdeal.Read
public import proofs.«01_k».proof.Proof.InProjHost

@[expose] public section

set_option maxRecDepth 16384

noncomputable section

open Idealize.ShloMosaic Idealize.ShloMosaic.TcCoe Idealize.SL.Sem Cert.Rows

namespace Cert.InProjRefIdeal.Read
open Cert.InProjRefIdeal Cert.InProjRefIdeal.Gen
open Cert.InProjIdeal.Value (qs)

/-- The scaling constant is a nonnegative real. -/
theorem qs_real : ∃ r : ℝ, 0 ≤ r ∧ qs = (r : EReal) := by
  refine ⟨(12102203 : ℝ) / 67108864, by norm_num, ?_⟩
  simp [Ideal.ofBits, Ideal.ieee, -EReal.coe_mul]; norm_num

/-- A finite sum scaled on the right by a nonnegative real is the sum of the scaled terms. -/
theorem sum_scaled {s : EReal} (h0 : 0 ≤ s) (ht : s ≠ ⊤) (f g : Fin 1024 → EReal) :
    (∑ k, f k * g k) * s = ∑ k, f k * (g k * s) := by
  have h : ∀ t : Finset (Fin 1024), (∑ k ∈ t, f k * g k) * s = ∑ k ∈ t, f k * (g k * s) := by
    intro t
    induction t using Finset.induction_on with
    | empty => simp
    | insert a t ha ih => rw [Finset.sum_insert ha, Finset.sum_insert ha, EReal.right_distrib_of_nonneg_of_ne_top h0 ht, ih, mul_assoc]
  exact h _

/-- The unpacked product: row `i` of the norm times column `q` of the weights. -/
theorem v13_apply (x0 : FVec Ideal S16896x1024 .f32) (x1 : FVec Ideal S1024 .f32) (x2 : FVec Ideal S1024x6476 .f32) (i : Fin 16896) (q : Fin 6476) :
    val_main_v13 (F := Ideal) x0 x1 x2 (ix2 i q) = ∑ k : Fin 1024, rms (fun k => x0 (ix2 i k)) (fun k => x1 (ix1 k)) k * x2 (ix2 k q) := by
  pointwise [val_main_v13, val_main_v12, val_main_v11, val_main_v10, val_main_v9, val_main_v8,
    val_main_v7, val_main_v6, val_main_v5, val_main_cst_1, val_main_v4, val_main_v3, val_main_cst_0, val_main_v2, val_main_v1, val_main_cst, val_main_v0, rms]

/-- The reference's columns as its concatenation lists them are the packed columns. -/
theorem chain (P : Fin 6476 → EReal) (j : ℕ) (hi : j < 7168) :
    (if h : j < 512 then P ⟨j, by omega⟩ * qs
      else if h : j - 512 < 512 then P ⟨1092 + (j - 512), by omega⟩
      else if h : j - 512 - 512 < 512 then P ⟨2380 + (j - 512 - 512), by omega⟩
      else if h : j - 512 - 512 - 512 < 512 then P ⟨2892 + (j - 512 - 512 - 512), by omega⟩
      else if h : j - 512 - 512 - 512 - 512 < 3072 then P ⟨3404 + (j - 512 - 512 - 512 - 512), by omega⟩
      else if h : j - 512 - 512 - 512 - 512 - 3072 < 512 then P ⟨1604 + (j - 512 - 512 - 512 - 512 - 3072), by omega⟩
      else if h : j - 512 - 512 - 512 - 512 - 3072 - 512 < 512 then P ⟨2372 + (j - 512 - 512 - 512 - 512 - 3072 - 512) / 64, by omega⟩
      else if h : j - 512 - 512 - 512 - 512 - 3072 - 512 - 512 < 256 then P ⟨2116 + (j - 512 - 512 - 512 - 512 - 3072 - 512 - 512), by omega⟩
      else if h : j - 512 - 512 - 512 - 512 - 3072 - 512 - 512 - 256 < 256 then P ⟨768 + (j - 512 - 512 - 512 - 512 - 3072 - 512 - 512 - 256), by omega⟩
      else if h : j - 512 - 512 - 512 - 512 - 3072 - 512 - 512 - 256 - 256 < 128 then P ⟨512 + (j - 512 - 512 - 512 - 512 - 3072 - 512 - 512 - 256 - 256), by omega⟩
      else if h : j - 512 - 512 - 512 - 512 - 3072 - 512 - 512 - 256 - 256 - 128 < 128 then P ⟨640 + (j - 512 - 512 - 512 - 512 - 3072 - 512 - 512 - 256 - 256 - 128), by omega⟩
      else if h : j - 512 - 512 - 512 - 512 - 3072 - 512 - 512 - 256 - 256 - 128 - 128 < 64 then P ⟨1024 + (j - 512 - 512 - 512 - 512 - 3072 - 512 - 512 - 256 - 256 - 128 - 128), by omega⟩
      else if h : j - 512 - 512 - 512 - 512 - 3072 - 512 - 512 - 256 - 256 - 128 - 128 - 64 < 4 then P ⟨1088 + (j - 512 - 512 - 512 - 512 - 3072 - 512 - 512 - 256 - 256 - 128 - 128 - 64), by omega⟩
      else 0 : EReal) = packed qs P j := by
  by_cases h0 : j < 512
  · rw [packed_q _ _ h0, dif_pos h0]
  by_cases h1 : j < 1024
  · rw [packed_col _ _ (by omega) (by omega) ⟨col j, col_lt (by omega)⟩ rfl]
    rw [dif_neg (by omega)]; rw [dif_pos (by omega)]
    exact congrArg P (Fin.ext (by dsimp only; rw [Cert.Rows.col1 (by omega) h1]))
  by_cases h2 : j < 1536
  · rw [packed_col _ _ (by omega) (by omega) ⟨col j, col_lt (by omega)⟩ rfl]
    rw [dif_neg (by omega)]; rw [dif_neg (by omega)]; rw [dif_pos (by omega)]
    exact congrArg P (Fin.ext (by dsimp only; rw [Cert.Rows.col2 (by omega) h2]; omega))
  by_cases h3 : j < 2048
  · rw [packed_col _ _ (by omega) (by omega) ⟨col j, col_lt (by omega)⟩ rfl]
    rw [dif_neg (by omega)]; rw [dif_neg (by omega)]; rw [dif_neg (by omega)]; rw [dif_pos (by omega)]
    exact congrArg P (Fin.ext (by dsimp only; rw [Cert.Rows.col3 (by omega) h3]; omega))
  by_cases h4 : j < 5120
  · rw [packed_col _ _ (by omega) (by omega) ⟨col j, col_lt (by omega)⟩ rfl]
    rw [dif_neg (by omega)]; rw [dif_neg (by omega)]; rw [dif_neg (by omega)]; rw [dif_neg (by omega)]; rw [dif_pos (by omega)]
    exact congrArg P (Fin.ext (by dsimp only; rw [Cert.Rows.col4 (by omega) h4]; omega))
  by_cases h5 : j < 5632
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col5 (by omega) h5]; omega))
  by_cases h6 : j < 6144
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col6 (by omega) h6]; omega))
  by_cases h7 : j < 6400
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col7 (by omega) h7]; omega))
  by_cases h8 : j < 6656
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col8 (by omega) h8]; omega))
  by_cases h9 : j < 6784
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col9 (by omega) h9]; omega))
  by_cases h10 : j < 6912
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col10 (by omega) h10]; omega))
  by_cases h11 : j < 6976
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col11 (by omega) h11]; omega))
  by_cases h12 : j < 6980
  · rw [packed_col _ _ (by omega) (by omega) ⟨col j, col_lt (by omega)⟩ rfl]
    rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_pos (by omega)]
    exact congrArg P (Fin.ext (by dsimp only; rw [Cert.Rows.col12 (by omega) h12]; omega))
  rw [packed_pad _ _ (by omega)]
  rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]

/-- The reference at an index: the row's product with the packed column. -/
theorem ref_at (x0 : FVec Ideal S16896x1024 .f32) (x1 : FVec Ideal S1024 .f32) (x2 : FVec Ideal S1024x6476 .f32) (a : Fin 16896) (b : Fin 7168) :
    val_main_v32 (F := Ideal) x0 x1 x2 (ix2 a b)
      = ∑ k : Fin 1024, rms (fun k => x0 (ix2 a k)) (fun k => x1 (ix1 k)) k * packed qs (fun q => x2 (ix2 k q)) b.val := by
  have h : val_main_v32 (F := Ideal) x0 x1 x2 (ix2 a b) = packed qs (fun q => val_main_v13 (F := Ideal) x0 x1 x2 (ix2 a q)) b.val := by
    have hi : b.val < 7168 := b.isLt
    pointwise [val_main_v32, val_main_v31, val_main_cst_3, val_main_v30, val_main_v29, val_main_v28, val_main_v27, val_main_cst_2, val_main_v26, val_main_v25, val_main_v24, val_main_v23,
      val_main_v22, val_main_v21, val_main_v20, val_main_v19, val_main_v18, val_main_v17, val_main_v16, val_main_v15, val_main_v14]
    exact chain (fun q => val_main_v13 (F := Ideal) x0 x1 x2 (ix2 a q)) b.val hi
  rw [h]
  by_cases hj : b.val < 6980
  · by_cases hq : b.val < 512
    · rw [packed_q _ _ hq, v13_apply]
      obtain ⟨r, hr, e⟩ := qs_real
      rw [sum_scaled (by rw [e]; exact_mod_cast hr) (by rw [e]; exact EReal.coe_ne_top r)]
      exact Finset.sum_congr rfl fun k _ => by rw [packed_q _ _ hq]
    · rw [packed_col _ _ (by omega) hj ⟨col b.val, col_lt hj⟩ rfl, v13_apply]
      exact Finset.sum_congr rfl fun k _ => by rw [packed_col _ _ (by omega) hj ⟨col b.val, col_lt hj⟩ rfl]
  · rw [packed_pad _ _ (by omega)]
    exact (Finset.sum_eq_zero fun k _ => by rw [packed_pad _ _ (by omega), mul_zero]).symm

/-- `ref_at` at any index of the result. -/
theorem ref_apply (x0 : FVec Ideal S16896x1024 .f32) (x1 : FVec Ideal S1024 .f32) (x2 : FVec Ideal S1024x6476 .f32) (i : S16896x7168.Idx) :
    val_main_v32 (F := Ideal) x0 x1 x2 i
      = ∑ k : Fin 1024, rms (fun k => x0 (ix2 (i 0) k)) (fun k => x1 (ix1 k)) k * packed qs (fun q => x2 (ix2 k q)) (i 1).val := by
  have h : i = ix2 (i 0) (i 1) := by funext q; fin_cases q <;> rfl
  conv_lhs => rw [h]
  exact ref_at x0 x1 x2 (i 0) (i 1)

end Cert.InProjRefIdeal.Read
end
-- ==== Proof.InProjValue.lean ====
/- The input projection's kernel read at an index, and its result array as the reference's term. -/
module

public import proofs.«01_k».proof.Proof.InProjRef
public import Idealize.ShloMosaic.Lib.Pipeline.ValueKit.Held

@[expose] public section

set_option maxRecDepth 16384

noncomputable section

open Idealize.ShloMosaic Idealize.ShloMosaic.TcCoe Idealize.SL.Sem Cert.Rows

namespace Cert.InProjIdeal.Value
open Cert.InProjIdeal Cert.InProjIdeal.Gen

variable (m : (ℓ : Loc nD τ sig) → Buf (Elt Ideal) ℓ) (ρ : Dev nD → PrngReg)

/-- The windows' block indices at a point: the rows' block is `t / 7`, the columns' block `t % 7`. -/
theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

/-- A block of the product at an index: the row's norm times the weights' column. -/
theorem block_apply (x : FVec Ideal S1536x1024 .f32) (g : FVec Ideal S1x1024 .f32) (w : FVec Ideal S1024x1024 .bf16) (y : S1536x1024.Idx) :
    k0_pay2 (F := Ideal) (k0_pay1 (F := Ideal) x g) w y
      = ∑ k : Fin 1024, rms (fun k => x (ix2 (y 0) k)) (fun k => g (ix2 0 k)) k * w (ix2 k (y 1)) := by
  pointwise [k0_pay2, k0_pay1, rms]

/-- The weights' window at a point, at an index: the packed column. -/
theorem weights_at (c : Dev nD) (t : Fin cfg0.N) (k : Fin 1024) (y : Fin 1024) :
    (iblk m c 2 t : FVec Ideal S1024x1024 .bf16) (ix2 k y)
      = packed qs (fun q => (m ((c, Proc.devRef .tc main_arg2) : Loc nD τ sig) : FVec Ideal S1024x6476 .f32) (ix2 k q)) (1024 * (t.val % 7) + y.val) := by
  have hI := idx t
  have ht : t.val % 7 < 7 := Nat.mod_lt _ (by decide)
  rw [← Vw_apply m c k ⟨1024 * (t.val % 7) + y.val, by omega⟩]
  blk_point [iblk, hI]

/-- The normed rows the scratch holds at every point are those of its run's first point. -/
theorem held (c : Dev nD) (t : Fin cfg0.N) :
    (outsAt0 m c t.val t.isLt).2 = k0_pay1 (F := Ideal) (iblk m c 0 ⟨7 * (t.val / 7), Pipeline.run_start_lt t⟩) (iblk m c 1 ⟨7 * (t.val / 7), Pipeline.run_start_lt t⟩) := by
  refine Pipeline.eq_of_write_hold (fun n h => (outsAt0 m c n h).2) 7 (fun t => k0_pay1 (F := Ideal) (iblk m c 0 t) (iblk m c 1 t)) (fun t h => ?_) (fun t h => ?_) t
  · rw [outsAt0_A m c t h]
    frame_out
  · rw [outsAt0_B m c t h]
    frame_out
    rfl

/-- What the result's window holds after a point: the normed rows times the weights' block. -/
theorem out_at (c : Dev nD) (t : Fin cfg0.N) :
    (outsAt0 m c t.val t.isLt).1 = k0_pay2 (F := Ideal) (outsAt0 m c t.val t.isLt).2 (iblk m c 2 t) := by
  by_cases h : t.val % 7 = 0
  · rw [outsAt0_A m c t h]
    frame_out
  · rw [outsAt0_B m c t h]
    frame_out
    erw [(Memref.isWhole_whole cc0_scratch0).read_unread]
    rfl

/-- Two sums of products with equal factors are equal. -/
theorem sum_mul_congr (f g f' g' : Fin 1024 → EReal) (h : ∀ k, f k = f' k) (h' : ∀ k, g k = g' k) :
    ∑ k, f k * g k = ∑ k, f' k * g' k :=
  Finset.sum_congr rfl fun k _ => by rw [h, h']

/-- The result array after the run is the reference's term over the arguments. -/
theorem final (c : Dev nD) : (dats m 0 c).arrAt 3 (cfgs 0).N
    = InProjRefIdeal.Read.val_main_v32 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hI := idx ⟨7 * (t.val / 7), Pipeline.run_start_lt t⟩
  have e : 7 * (t.val / 7) / 7 = t.val / 7 := by omega
  dsimp only at hI
  rw [e] at hI
  have hJ := idx t
  blk_simp
  rw [after0_3, out_at, held, block_apply, InProjRefIdeal.Read.ref_apply]
  refine sum_mul_congr _ _ _ _ (fun k => ?_) fun k => ?_
  · blk_point [iblk, V, hI, hJ]
  · refine (weights_at m c t k (y 1)).trans ?_
    refine congrArg _ ?_
    blk_simp [hJ]
    exact congrArg (· + (y 1).val) (Nat.mul_comm _ _)

end Cert.InProjIdeal.Value
end
-- ==== Proof.InProjClaim.lean ====
/- The claims about the input projection: the frames of its programs and the equality of its result with its reference's. -/
module

public import proofs.«01_k».proof.Defs
public import proofs.«01_k».proof.Proof.InProjValue
public import proofs.«01_k».proof.Proof.Gen.InProj.Frame
public import proofs.«01_k».proof.Proof.Gen.InProjRefIdeal.Run
public import proofs.«01_k».proof.Proof.Gen.InProjRefIdeal.Read
public import Idealize.ShloMosaic.Lib.Claim

@[expose] public section

set_option maxRecDepth 16384

noncomputable section

namespace Cert.Proof

open Idealize.ShloMosaic Idealize.ShloMosaic.TcCoe Idealize.SL.Sem

theorem frame_in_proj : Cert.quiescent_InProj := fun m ρ _ => Cert.InProj.Gen.frame m ρ

theorem frame_in_proj_ideal : Cert.quiescent_InProjIdeal := fun m ρ _ => Cert.InProjIdeal.Gen.frame m ρ

theorem frame_in_proj_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem algebraic_in_proj : Cert.algebraic_InProjIdeal_InProjRefIdeal := by
  pair_intro
  · run_from Cert.InProjIdeal.Gen.run_main m g
  · run_from Cert.InProjRefIdeal.Value.run m' g'
    rw [Cert.InProjRefIdeal.Read.val_main_v32_eq m' c]
    obtain ⟨h0, h1, h2⟩ := hagree c
    rw [h0, h1, h2]
    exact (Cert.InProjIdeal.Value.final m c).symm

end Cert.Proof
end
-- ==== Proof.RopeMath.lean ====
/- The rotary embedding of one place of a row, by the place's column. -/
module

public import proofs.«01_k».proof.Proof.Math

@[expose] public section

set_option maxRecDepth 16384

noncomputable section

open Idealize.ShloMosaic Idealize.ShloMosaic.TcCoe Idealize.SL.Sem Cert.Rows

namespace Cert.Rows

/-- The angle of frequency `k` at position `p`: the position times ten thousand to the minus `k` thirty-seconds. -/
def angle (p : BitVec 32) (k : ℕ) : EReal :=
  FloatOps.sitofp (F := Ideal) FTy.f32 p *
    Ideal.div 1 (Ideal.pow (Ideal.ofBits FTy.f32 1176256512#32)
      (Ideal.div (FloatOps.sitofp (F := Ideal) FTy.f32 (BitVec.ofNat 32 k)) (Ideal.ofBits FTy.f32 1107296256#32)))

/-- Column `j` of a row `f` of heads of width 64, rotated to position `p`: each head's halves are the two coordinates. -/
def turned (f : ℕ → EReal) (p : BitVec 32) (j : ℕ) : EReal :=
  if j % 64 < 32 then
    f j * Ideal.cos (angle p (j % 64)) - f (j + 32) * Ideal.sin (angle p (j % 64))
  else
    f j * Ideal.cos (angle p (j % 64 - 32)) + f (j - 32) * Ideal.sin (angle p (j % 64 - 32))

/-- A lane's sine with the sign its half takes. -/
def signed (p : BitVec 32) (j : ℕ) : EReal :=
  if j % 64 < 32 then -Ideal.sin (angle p (j % 32)) else Ideal.sin (angle p (j % 32))

/-- The rotation written with a lane's cosine, its signed sine and its partner chosen by the half. -/
theorem turned_of (f : ℕ → EReal) (p : BitVec 32) (j : ℕ) (b : BitVec 1) (x u v co si : EReal)
    (hb : b = if j % 64 < 32 then 1#1 else 0#1) (hx : x = f j) (hu : j % 64 < 32 → u = f (j + 32)) (hv : ¬j % 64 < 32 → v = f (j - 32))
    (hc : co = Ideal.cos (angle p (j % 32))) (hs : si = signed p j) :
    x * co + Scalar.select b u v * si = turned f p j := by
  subst hb hx hc hs
  unfold turned signed
  by_cases h : j % 64 < 32
  · rw [if_pos h, if_pos h, if_pos h, show Scalar.select 1#1 u v = u from rfl, hu h, mul_neg, ← sub_eq_add_neg,
      show j % 32 = j % 64 by omega]
  · rw [if_neg h, if_neg h, if_neg h, show Scalar.select 0#1 u v = v from rfl, hv h, show j % 32 = j % 64 - 32 by omega]

end Cert.Rows
end
-- ==== Proof.RopeRef.lean ====
/- The prompt's rotations: the reference at an index. -/
module

public import proofs.«01_k».proof.Proof.RopeMath
public import proofs.«01_k».proof.Proof.Gen.RopeRefIdeal.Read

@[expose] public section

set_option maxRecDepth 16384

noncomputable section

open Idealize.ShloMosaic Idealize.ShloMosaic.TcCoe Idealize.SL.Sem Cert.Rows

namespace Cert.RopeRefIdeal.Read
open Cert.RopeRefIdeal Cert.RopeRefIdeal.Gen

/-- An entry of the projection's product by its numbers. -/
def at2 (x : FVec Ideal S16896x7168 .f32) (r c : ℕ) : EReal :=
  if h : r < 16896 ∧ c < 7168 then x (ix2 ⟨r, h.1⟩ ⟨c, h.2⟩) else 0

/-- A position by its number. -/
def at1 (x : IVec S8192 32) (p : ℕ) : BitVec 32 :=
  if h : p < 8192 then x (ix1 ⟨p, h⟩) else 0

theorem at2_eq (x : FVec Ideal S16896x7168 .f32) (r : Fin 16896) (c : Fin 7168) : x (ix2 r c) = at2 x r.val c.val := by
  unfold at2; rw [dif_pos ⟨r.isLt, c.isLt⟩]

theorem at1_eq (x : IVec S8192 32) (p : Fin 8192) : x (ix1 p) = at1 x p.val := by
  unfold at1; rw [dif_pos p.isLt]

theorem angle_v37 (x1 : IVec S8192 32) (p : Fin 8192) (k : Fin 32) :
    val_main_v15 (F := Ideal) x1 (ix2 p k) = angle (at1 x1 p.val) k.val := by
  pointwise [val_main_v15, val_main_v14, val_main_v13, val_main_v12, val_main_v11, val_main_v10, val_main_v9, val_main_v8, val_main_v7, val_main_v6, val_main_v5, val_main_v4, val_main_v3, val_main_cst_1, val_main_cst_0, val_main_cst]
  rw [at1_eq x1]
  rfl

/-- Columns 0 to 511 rotated. -/
theorem ref_v37 (x0 : FVec Ideal S16896x7168 .f32) (x1 : IVec S8192 32) (r : Fin 16384) (j : Fin 512) :
    val_main_v37 (F := Ideal) x0 x1 (ix2 r j) = turned (fun c => at2 x0 (0 + r.val) (0 + c)) (at1 x1 (r.val % 8192)) j.val := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v2, val_main_v1, val_main_v0]
  simp only [angle_v37, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

theorem angle_v74 (x1 : IVec S8192 32) (p : Fin 8192) (k : Fin 32) :
    val_main_v52 (F := Ideal) x1 (ix2 p k) = angle (at1 x1 p.val) k.val := by
  pointwise [val_main_v52, val_main_v51, val_main_v50, val_main_v49, val_main_v48, val_main_v47, val_main_v46, val_main_v45, val_main_v44, val_main_v43, val_main_v42, val_main_v41, val_main_v40, val_main_cst_4, val_main_cst_3, val_main_cst_2]
  rw [at1_eq x1]
  rfl

/-- Columns 6400 to 6655 rotated. -/
theorem ref_v74 (x0 : FVec Ideal S16896x7168 .f32) (x1 : IVec S8192 32) (r : Fin 16384) (j : Fin 256) :
    val_main_v74 (F := Ideal) x0 x1 (ix2 r j) = turned (fun c => at2 x0 (0 + r.val) (6400 + c)) (at1 x1 (r.val % 8192)) j.val := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v39, val_main_v38, val_main_v0]
  simp only [angle_v74, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

theorem angle_v111 (x1 : IVec S8192 32) (p : Fin 8192) (k : Fin 32) :
    val_main_v89 (F := Ideal) x1 (ix2 p k) = angle (at1 x1 p.val) k.val := by
  pointwise [val_main_v89, val_main_v88, val_main_v87, val_main_v86, val_main_v85, val_main_v84, val_main_v83, val_main_v82, val_main_v81, val_main_v80, val_main_v79, val_main_v78, val_main_v77, val_main_cst_7, val_main_cst_6, val_main_cst_5]
  rw [at1_eq x1]
  rfl

/-- Columns 6656 to 6783 rotated. -/
theorem ref_v111 (x0 : FVec Ideal S16896x7168 .f32) (x1 : IVec S8192 32) (r : Fin 16384) (j : Fin 128) :
    val_main_v111 (F := Ideal) x0 x1 (ix2 r j) = turned (fun c => at2 x0 (0 + r.val) (6656 + c)) (at1 x1 (r.val % 8192)) j.val := by
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v76, val_main_v75, val_main_v0]
  simp only [angle_v111, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

theorem angle_v149 (x1 : IVec S8192 32) (p : Fin 8192) (k : Fin 32) :
    val_main_v127 (F := Ideal) x1 (ix2 p k) = angle (at1 x1 p.val) k.val := by
  pointwise [val_main_v127, val_main_v126, val_main_v125, val_main_v124, val_main_v123, val_main_v122, val_main_v121, val_main_v120, val_main_v119, val_main_v118, val_main_v117, val_main_v116, val_main_v115, val_main_cst_10, val_main_cst_9, val_main_cst_8]
  rw [at1_eq x1]
  rfl

/-- Columns 6912 to 6975 rotated. -/
theorem ref_v149 (x0 : FVec Ideal S16896x7168 .f32) (x1 : IVec S8192 32) (r : Fin 16384) (j : Fin 64) :
    val_main_v149 (F := Ideal) x0 x1 (ix2 r j) = turned (fun c => at2 x0 (0 + r.val) (6912 + c)) (at1 x1 (r.val % 8192)) j.val := by
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v114, val_main_v113, val_main_v0]
  simp only [angle_v149, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

/-- Columns 6784 to 6911, kept. -/
theorem ref_v112 (x0 : FVec Ideal S16896x7168 .f32) (r : Fin 16384) (j : Fin 128) :
    val_main_v112 (F := Ideal) x0 (ix2 r j) = at2 x0 (0 + r.val) (6784 + j.val) := by
  pointwise [val_main_v112, val_main_v0]
  refine (at2_eq x0 _ _).trans ?_
  exact congrArg₂ (at2 x0) (by first | rfl | omega) (by first | rfl | omega)

theorem ref_v37_apply (x0 : FVec Ideal S16896x7168 .f32) (x1 : IVec S8192 32) (i : S16384x512.Idx) :
    val_main_v37 (F := Ideal) x0 x1 i = turned (fun c => at2 x0 (0 + (i 0).val) (0 + c)) (at1 x1 ((i 0).val % 8192)) (i 1).val := by
  obtain ⟨r, j, rfl⟩ : ∃ (r : Fin 16384) (j : Fin 512), i = ix2 r j := ⟨i 0, i 1, by funext q; fin_cases q <;> rfl⟩
  exact ref_v37 x0 x1 r j

theorem ref_v74_apply (x0 : FVec Ideal S16896x7168 .f32) (x1 : IVec S8192 32) (i : S16384x256.Idx) :
    val_main_v74 (F := Ideal) x0 x1 i = turned (fun c => at2 x0 (0 + (i 0).val) (6400 + c)) (at1 x1 ((i 0).val % 8192)) (i 1).val := by
  obtain ⟨r, j, rfl⟩ : ∃ (r : Fin 16384) (j : Fin 256), i = ix2 r j := ⟨i 0, i 1, by funext q; fin_cases q <;> rfl⟩
  exact ref_v74 x0 x1 r j

theorem ref_v111_apply (x0 : FVec Ideal S16896x7168 .f32) (x1 : IVec S8192 32) (i : S16384x128.Idx) :
    val_main_v111 (F := Ideal) x0 x1 i = turned (fun c => at2 x0 (0 + (i 0).val) (6656 + c)) (at1 x1 ((i 0).val % 8192)) (i 1).val := by
  obtain ⟨r, j, rfl⟩ : ∃ (r : Fin 16384) (j : Fin 128), i = ix2 r j := ⟨i 0, i 1, by funext q; fin_cases q <;> rfl⟩
  exact ref_v111 x0 x1 r j

theorem ref_v149_apply (x0 : FVec Ideal S16896x7168 .f32) (x1 : IVec S8192 32) (i : S16384x64.Idx) :
    val_main_v149 (F := Ideal) x0 x1 i = turned (fun c => at2 x0 (0 + (i 0).val) (6912 + c)) (at1 x1 ((i 0).val % 8192)) (i 1).val := by
  obtain ⟨r, j, rfl⟩ : ∃ (r : Fin 16384) (j : Fin 64), i = ix2 r j := ⟨i 0, i 1, by funext q; fin_cases q <;> rfl⟩
  exact ref_v149 x0 x1 r j

theorem ref_v112_apply (x0 : FVec Ideal S16896x7168 .f32) (i : S16384x128.Idx) :
    val_main_v112 (F := Ideal) x0 i = at2 x0 (0 + (i 0).val) (6784 + (i 1).val) := by
  obtain ⟨r, j, rfl⟩ : ∃ (r : Fin 16384) (j : Fin 128), i = ix2 r j := ⟨i 0, i 1, by funext q; fin_cases q <;> rfl⟩
  exact ref_v112 x0 r j

theorem ref_v150_apply (x0 : FVec Ideal S16896x7168 .f32) (x1 : IVec S8192 32) (i : S16384x512.Idx) :
    val_main_v150 (F := Ideal) x0 x1 i = turned (fun c => at2 x0 (0 + (i 0).val) (0 + c)) (at1 x1 ((i 0).val % 8192)) (i 1).val :=
  ref_v37_apply x0 x1 i

theorem ref_v151_apply (x0 : FVec Ideal S16896x7168 .f32) (x1 : IVec S8192 32) (i : S16384x256.Idx) :
    val_main_v151 (F := Ideal) x0 x1 i = turned (fun c => at2 x0 (0 + (i 0).val) (6400 + c)) (at1 x1 ((i 0).val % 8192)) (i 1).val :=
  ref_v74_apply x0 x1 i

theorem ref_v152_apply (x0 : FVec Ideal S16896x7168 .f32) (x1 : IVec S8192 32) (i : S16384x128.Idx) :
    val_main_v152 (F := Ideal) x0 x1 i = turned (fun c => at2 x0 (0 + (i 0).val) (6656 + c)) (at1 x1 ((i 0).val % 8192)) (i 1).val :=
  ref_v111_apply x0 x1 i

theorem ref_v154_apply (x0 : FVec Ideal S16896x7168 .f32) (x1 : IVec S8192 32) (i : S16384x64.Idx) :
    val_main_v154 (F := Ideal) x0 x1 i = turned (fun c => at2 x0 (0 + (i 0).val) (6912 + c)) (at1 x1 ((i 0).val % 8192)) (i 1).val :=
  ref_v149_apply x0 x1 i

theorem ref_v153_apply (x0 : FVec Ideal S16896x7168 .f32) (i : S16384x128.Idx) :
    val_main_v153 (F := Ideal) x0 i = at2 x0 (0 + (i 0).val) (6784 + (i 1).val) :=
  ref_v112_apply x0 i

end Cert.RopeRefIdeal.Read
end
-- ==== Proof.RopeValue.lean ====
/- The prompt's rotations: the kernel's result arrays are the reference's terms. -/
module

public import proofs.«01_k».proof.Proof.RopeRef
public import proofs.«01_k».proof.Proof.Gen.RopeIdeal.Value
public import Idealize.ShloMosaic.Lib.Pipeline.ValueKit
public import Idealize.ShloMosaic.Lib.StableHlo.ReadAt
public import Idealize.ShloMosaic.Lib.StableHlo.RunClose

@[expose] public section

set_option maxRecDepth 16384

noncomputable section

open Idealize.ShloMosaic Idealize.ShloMosaic.TcCoe Idealize.SL.Sem Cert.Rows

namespace Cert.RopeIdeal.Value
open Cert.RopeIdeal Cert.RopeIdeal.Gen Cert.RopeRefIdeal.Read

variable (m : (ℓ : Loc nD τ sig) → Buf (Elt Ideal) ℓ) (ρ : Dev nD → PrngReg)

/-- The half a lane lies in, as the body computes it. -/
theorem mask_at (a : Fin 512) (l : Fin 128) : k0_pay4 (ix2 a l) = if l.val % 64 < 32 then 1#1 else 0#1 := by
  have key : ∀ l : Fin 128, k0_pay4 (ix2 (0 : Fin 512) l) = if l.val % 64 < 32 then 1#1 else 0#1 := by
    intro l
    pointwise [k0_pay4]
    revert l
    decide +kernel
  have e : k0_pay4 (ix2 a l) = k0_pay4 (ix2 (0 : Fin 512) l) := by
    pointwise [k0_pay4]
  rw [e, key]

/-- A block of 512 columns rotated. -/
theorem block_5 (co si : FVec Ideal S512x128 .f32) (x : FVec Ideal S512x512 .f32) (f : ℕ → EReal) (p : BitVec 32) (y : S512x512.Idx)
    (hx : ∀ l : Fin 512, x (ix2 (y 0) l) = f l.val) (hc : ∀ l : Fin 128, co (ix2 (y 0) l) = Ideal.cos (angle p (l.val % 32)))
    (hs : ∀ l : Fin 128, si (ix2 (y 0) l) = signed p l.val) :
    k0_pay5 (F := Ideal) co si x y = turned f p (y 1).val := by
  obtain ⟨a, l, rfl⟩ : ∃ (a : Fin 512) (l : Fin 512), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 512, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 256 columns rotated. -/
theorem block_8 (co si : FVec Ideal S512x128 .f32) (x : FVec Ideal S512x256 .f32) (f : ℕ → EReal) (p : BitVec 32) (y : S512x256.Idx)
    (hx : ∀ l : Fin 256, x (ix2 (y 0) l) = f l.val) (hc : ∀ l : Fin 128, co (ix2 (y 0) l) = Ideal.cos (angle p (l.val % 32)))
    (hs : ∀ l : Fin 128, si (ix2 (y 0) l) = signed p l.val) :
    k0_pay8 (F := Ideal) k0_pay4 x (k0_pay6 (F := Ideal) co) (k0_pay7 (F := Ideal) si) y = turned f p (y 1).val := by
  obtain ⟨a, l, rfl⟩ : ∃ (a : Fin 512) (l : Fin 256), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 256, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_9 (co si : FVec Ideal S512x128 .f32) (x : FVec Ideal S512x128 .f32) (f : ℕ → EReal) (p : BitVec 32) (y : S512x128.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay9 (F := Ideal) (k0_pay2 (F := Ideal) co) (k0_pay3 (F := Ideal) si) k0_pay4 x y = turned f p (y 1).val := by
  obtain ⟨a, l, rfl⟩ : ∃ (a : Fin 512) (l : Fin 128), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_10 (co si : FVec Ideal S512x128 .f32) (x : FVec Ideal S512x128 .f32) (f : ℕ → EReal) (p : BitVec 32) (y : S512x128.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay10 (F := Ideal) (k0_pay2 (F := Ideal) co) (k0_pay3 (F := Ideal) si) k0_pay4 x y = turned f p (y 1).val := by
  obtain ⟨a, l, rfl⟩ : ∃ (a : Fin 512) (l : Fin 128), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_12 (co si : FVec Ideal S512x128 .f32) (x : FVec Ideal S512x128 .f32) (f : ℕ → EReal) (p : BitVec 32) (y : S512x64.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay12 (F := Ideal) (k0_pay2 (F := Ideal) co) (k0_pay3 (F := Ideal) si) k0_pay4 x y = turned f p (y 1).val := by
  obtain ⟨a, l, rfl⟩ : ∃ (a : Fin 512) (l : Fin 64), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_1 (co si : FVec Ideal S512x128 .f32) (x : FVec Ideal S512x128 .f32) (f : ℕ → EReal) (p : BitVec 32) (y : S512x64.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay1 (F := Ideal) (k0_pay12 (F := Ideal) (k0_pay2 (F := Ideal) co) (k0_pay3 (F := Ideal) si) k0_pay4 x) y = turned f p (y 1).val := by
  obtain ⟨a, l, rfl⟩ : ∃ (a : Fin 512) (l : Fin 64), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- The table of cosines the region finds. -/
theorem cos_at (c : Dev nD) (p : Fin 8192) (j : Fin 128) :
    (V m c main_v15 : FVec Ideal S8192x128 .f32) (ix2 p j)
      = Ideal.cos (angle (at1 (m ((c, Proc.devRef .tc main_arg1) : Loc nD τ sig)) p.val) (j.val % 32)) := by
  have hA : ∀ k : ℕ, k = j.val % 32 → angle ((m ((c, Proc.devRef .tc main_arg1) : Loc nD τ sig) : IVec S8192 32) (ix1 p)) k
      = angle (at1 (m ((c, Proc.devRef .tc main_arg1) : Loc nD τ sig)) p.val) (j.val % 32) := fun k hk => by
    rw [hk]; exact congrArg (fun q => angle q _) (at1_eq ((m ((c, Proc.devRef .tc main_arg1) : Loc nD τ sig)) : IVec S8192 32) p)
  unfold V
  after_results_simp_entrywise
  pointwise
  split_ifs
  all_goals after_results_simp_entrywise
  all_goals pointwise
  all_goals exact congrArg Ideal.cos (hA _ (by omega))

theorem sin_at (c : Dev nD) (p : Fin 8192) (j : Fin 128) :
    (V m c main_v18 : FVec Ideal S8192x128 .f32) (ix2 p j)
      = signed (at1 (m ((c, Proc.devRef .tc main_arg1) : Loc nD τ sig)) p.val) j.val := by
  have hA : ∀ k : ℕ, k = j.val % 32 → angle ((m ((c, Proc.devRef .tc main_arg1) : Loc nD τ sig) : IVec S8192 32) (ix1 p)) k
      = angle (at1 (m ((c, Proc.devRef .tc main_arg1) : Loc nD τ sig)) p.val) (j.val % 32) := fun k hk => by
    rw [hk]; exact congrArg (fun q => angle q _) (at1_eq ((m ((c, Proc.devRef .tc main_arg1) : Loc nD τ sig)) : IVec S8192 32) p)
  unfold V
  after_results_simp_entrywise
  pointwise
  split_ifs
  all_goals after_results_simp_entrywise
  all_goals pointwise
  all_goals unfold signed
  all_goals first
    | (rw [if_pos (by omega)]; exact congrArg (fun v => -Ideal.sin v) (hA _ (by omega)))
    | (rw [if_neg (by omega)]; exact congrArg Ideal.sin (hA _ (by omega)))

/-- The windows' block indices at a point. -/
theorem idx : ∀ t : Fin cfg0.N, win0_0.index t = ![0 + t.val, 0] ∧ win0_1.index t = ![0 + t.val, 25] ∧ win0_2.index t = ![0 + t.val, 52]
    ∧ win0_3.index t = ![0 + t.val, 53] ∧ win0_4.index t = ![0 + t.val, 54] ∧ win0_5.index t = ![t.val % 16, 0] ∧ win0_6.index t = ![t.val % 16, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

theorem qblk (c : Dev nD) (t : Fin cfg0.N) (a : Fin 512) (l : Fin 512) :
    (iblk m c 0 t : FVec Ideal S512x512 .f32) (ix2 a l)
      = at2 (m ((c, Proc.devRef .tc main_arg0) : Loc nD τ sig)) (0 + (512 * t.val + a.val)) (0 + l.val) := by
  have hI := idx t
  refine Eq.trans ?_ (at2_eq (m ((c, Proc.devRef .tc main_arg0) : Loc nD τ sig)) ⟨0 + (512 * t.val + a.val), by have : t.val < 32 := t.isLt; omega⟩ ⟨0 + l.val, by omega⟩)
  blk_point [iblk, V, hI]

theorem qiblk (c : Dev nD) (t : Fin cfg0.N) (a : Fin 512) (l : Fin 256) :
    (iblk m c 1 t : FVec Ideal S512x256 .f32) (ix2 a l)
      = at2 (m ((c, Proc.devRef .tc main_arg0) : Loc nD τ sig)) (0 + (512 * t.val + a.val)) (6400 + l.val) := by
  have hI := idx t
  refine Eq.trans ?_ (at2_eq (m ((c, Proc.devRef .tc main_arg0) : Loc nD τ sig)) ⟨0 + (512 * t.val + a.val), by have : t.val < 32 := t.isLt; omega⟩ ⟨6400 + l.val, by omega⟩)
  blk_point [iblk, V, hI]

theorem kblk (c : Dev nD) (t : Fin cfg0.N) (a : Fin 512) (l : Fin 128) :
    (iblk m c 2 t : FVec Ideal S512x128 .f32) (ix2 a l)
      = at2 (m ((c, Proc.devRef .tc main_arg0) : Loc nD τ sig)) (0 + (512 * t.val + a.val)) (6656 + l.val) := by
  have hI := idx t
  refine Eq.trans ?_ (at2_eq (m ((c, Proc.devRef .tc main_arg0) : Loc nD τ sig)) ⟨0 + (512 * t.val + a.val), by have : t.val < 32 := t.isLt; omega⟩ ⟨6656 + l.val, by omega⟩)
  blk_point [iblk, V, hI]

theorem vblk (c : Dev nD) (t : Fin cfg0.N) (a : Fin 512) (l : Fin 128) :
    (iblk m c 3 t : FVec Ideal S512x128 .f32) (ix2 a l)
      = at2 (m ((c, Proc.devRef .tc main_arg0) : Loc nD τ sig)) (0 + (512 * t.val + a.val)) (6784 + l.val) := by
  have hI := idx t
  refine Eq.trans ?_ (at2_eq (m ((c, Proc.devRef .tc main_arg0) : Loc nD τ sig)) ⟨0 + (512 * t.val + a.val), by have : t.val < 32 := t.isLt; omega⟩ ⟨6784 + l.val, by omega⟩)
  blk_point [iblk, V, hI]

theorem kiblk (c : Dev nD) (t : Fin cfg0.N) (a : Fin 512) (l : Fin 128) :
    (iblk m c 4 t : FVec Ideal S512x128 .f32) (ix2 a l)
      = at2 (m ((c, Proc.devRef .tc main_arg0) : Loc nD τ sig)) (0 + (512 * t.val + a.val)) (6912 + l.val) := by
  have hI := idx t
  refine Eq.trans ?_ (at2_eq (m ((c, Proc.devRef .tc main_arg0) : Loc nD τ sig)) ⟨0 + (512 * t.val + a.val), by have : t.val < 32 := t.isLt; omega⟩ ⟨6912 + l.val, by omega⟩)
  blk_point [iblk, V, hI]

theorem cosblk (c : Dev nD) (t : Fin cfg0.N) (a : Fin 512) (l : Fin 128) :
    (iblk m c 5 t : FVec Ideal S512x128 .f32) (ix2 a l)
      = Ideal.cos (angle (at1 (m ((c, Proc.devRef .tc main_arg1) : Loc nD τ sig)) ((512 * t.val + a.val) % 8192)) (l.val % 32)) := by
  have hI := idx t
  have e : (512 * t.val + a.val) % 8192 = 512 * (t.val % 16) + a.val := by omega
  rw [e, ← cos_at m c ⟨512 * (t.val % 16) + a.val, by omega⟩ l]
  blk_point [iblk, hI]

theorem sinblk (c : Dev nD) (t : Fin cfg0.N) (a : Fin 512) (l : Fin 128) :
    (iblk m c 6 t : FVec Ideal S512x128 .f32) (ix2 a l)
      = signed (at1 (m ((c, Proc.devRef .tc main_arg1) : Loc nD τ sig)) ((512 * t.val + a.val) % 8192)) l.val := by
  have hI := idx t
  have e : (512 * t.val + a.val) % 8192 = 512 * (t.val % 16) + a.val := by omega
  rw [e, ← sin_at m c ⟨512 * (t.val % 16) + a.val, by omega⟩ l]
  blk_point [iblk, hI]

theorem val7 (c : Dev nD) (t : Fin cfg0.N) (y : S512x512.Idx) :
    k0_pay5 (F := Ideal) (iblk m c 5 t) (iblk m c 6 t) (iblk m c 0 t) y
      = turned (fun l => at2 (m ((c, Proc.devRef .tc main_arg0) : Loc nD τ sig)) (0 + (512 * t.val + (y 0).val)) (0 + l))
        (at1 (m ((c, Proc.devRef .tc main_arg1) : Loc nD τ sig)) ((512 * t.val + (y 0).val) % 8192)) (y 1).val :=
  block_5 (iblk m c 5 t) (iblk m c 6 t) (iblk m c 0 t) _ _ y (qblk m c t (y 0)) (cosblk m c t (y 0)) (sinblk m c t (y 0))

/-- Result array 0 of the call. -/
theorem final7 (c : Dev nD) : (dats m 0 c).arrAt 7 (cfgs 0).N
    = RopeRefIdeal.Read.val_main_v150 (F := Ideal) (m ((c : Thread nD τ).loc main_arg0)) (m ((c : Thread nD τ).loc main_arg1)) := by
  refine (dats m 0 c).arrAt_eq_of_covers 7 _ (by decide +kernel) fun t _ y => ?_
  have hI := idx t
  blk_simp
  rw [after0_7]
  unfold_out out0_7
  frame_out
  rw [val7, ref_v150_apply]
  blk_simp [hI]
  rw [Nat.mul_comm t.val 512]

theorem val8 (c : Dev nD) (t : Fin cfg0.N) (y : S512x256.Idx) :
    k0_pay8 (F := Ideal) k0_pay4 (iblk m c 1 t) (k0_pay6 (F := Ideal) (iblk m c 5 t)) (k0_pay7 (F := Ideal) (iblk m c 6 t)) y
      = turned (fun l => at2 (m ((c, Proc.devRef .tc main_arg0) : Loc nD τ sig)) (0 + (512 * t.val + (y 0).val)) (6400 + l))
        (at1 (m ((c, Proc.devRef .tc main_arg1) : Loc nD τ sig)) ((512 * t.val + (y 0).val) % 8192)) (y 1).val :=
  block_8 (iblk m c 5 t) (iblk m c 6 t) (iblk m c 1 t) _ _ y (qiblk m c t (y 0)) (cosblk m c t (y 0)) (sinblk m c t (y 0))

/-- Result array 1 of the call. -/
theorem final8 (c : Dev nD) : (dats m 0 c).arrAt 8 (cfgs 0).N
    = RopeRefIdeal.Read.val_main_v151 (F := Ideal) (m ((c : Thread nD τ).loc main_arg0)) (m ((c : Thread nD τ).loc main_arg1)) := by
  refine (dats m 0 c).arrAt_eq_of_covers 8 _ (by decide +kernel) fun t _ y => ?_
  have hI := idx t
  blk_simp
  rw [after0_8]
  unfold_out out0_8
  frame_out
  rw [val8, ref_v151_apply]
  blk_simp [hI]
  rw [Nat.mul_comm t.val 512]

theorem val9 (c : Dev nD) (t : Fin cfg0.N) (y : S512x128.Idx) :
    k0_pay9 (F := Ideal) (k0_pay2 (F := Ideal) (iblk m c 5 t)) (k0_pay3 (F := Ideal) (iblk m c 6 t)) k0_pay4 (iblk m c 2 t) y
      = turned (fun l => at2 (m ((c, Proc.devRef .tc main_arg0) : Loc nD τ sig)) (0 + (512 * t.val + (y 0).val)) (6656 + l))
        (at1 (m ((c, Proc.devRef .tc main_arg1) : Loc nD τ sig)) ((512 * t.val + (y 0).val) % 8192)) (y 1).val :=
  block_9 (iblk m c 5 t) (iblk m c 6 t) (iblk m c 2 t) _ _ y (kblk m c t (y 0)) (cosblk m c t (y 0)) (sinblk m c t (y 0))

/-- Result array 2 of the call. -/
theorem final9 (c : Dev nD) : (dats m 0 c).arrAt 9 (cfgs 0).N
    = RopeRefIdeal.Read.val_main_v111 (F := Ideal) (m ((c : Thread nD τ).loc main_arg0)) (m ((c : Thread nD τ).loc main_arg1)) := by
  refine (dats m 0 c).arrAt_eq_of_covers 9 _ (by decide +kernel) fun t _ y => ?_
  have hI := idx t
  blk_simp
  rw [after0_9]
  unfold_out out0_9
  frame_out
  rw [val9, ref_v111_apply]
  blk_simp [hI]
  rw [Nat.mul_comm t.val 512]

theorem val11 (c : Dev nD) (t : Fin cfg0.N) (y : S512x64.Idx) :
    k0_pay12 (F := Ideal) (k0_pay2 (F := Ideal) (iblk m c 5 t)) (k0_pay3 (F := Ideal) (iblk m c 6 t)) k0_pay4 (iblk m c 4 t) y
      = turned (fun l => at2 (m ((c, Proc.devRef .tc main_arg0) : Loc nD τ sig)) (0 + (512 * t.val + (y 0).val)) (6912 + l))
        (at1 (m ((c, Proc.devRef .tc main_arg1) : Loc nD τ sig)) ((512 * t.val + (y 0).val) % 8192)) (y 1).val :=
  block_12 (iblk m c 5 t) (iblk m c 6 t) (iblk m c 4 t) _ _ y (kiblk m c t (y 0)) (cosblk m c t (y 0)) (sinblk m c t (y 0))

/-- Result array 4 of the call. -/
theorem final11 (c : Dev nD) : (dats m 0 c).arrAt 11 (cfgs 0).N
    = RopeRefIdeal.Read.val_main_v149 (F := Ideal) (m ((c : Thread nD τ).loc main_arg0)) (m ((c : Thread nD τ).loc main_arg1)) := by
  refine (dats m 0 c).arrAt_eq_of_covers 11 _ (by decide +kernel) fun t _ y => ?_
  have hI := idx t
  blk_simp
  rw [after0_11]
  unfold_out out0_11
  frame_out
  rw [val11, ref_v149_apply]
  blk_simp [hI]
  rw [Nat.mul_comm t.val 512]

theorem val12 (c : Dev nD) (t : Fin cfg0.N) (y : S512x128.Idx) :
    k0_pay10 (F := Ideal) (k0_pay2 (F := Ideal) (iblk m c 5 t)) (k0_pay3 (F := Ideal) (iblk m c 6 t)) k0_pay4 (iblk m c 2 t) y
      = turned (fun l => at2 (m ((c, Proc.devRef .tc main_arg0) : Loc nD τ sig)) (0 + (512 * t.val + (y 0).val)) (6656 + l))
        (at1 (m ((c, Proc.devRef .tc main_arg1) : Loc nD τ sig)) ((512 * t.val + (y 0).val) % 8192)) (y 1).val :=
  block_10 (iblk m c 5 t) (iblk m c 6 t) (iblk m c 2 t) _ _ y (kblk m c t (y 0)) (cosblk m c t (y 0)) (sinblk m c t (y 0))

/-- Result array 5 of the call. -/
theorem final12 (c : Dev nD) : (dats m 0 c).arrAt 12 (cfgs 0).N
    = RopeRefIdeal.Read.val_main_v152 (F := Ideal) (m ((c : Thread nD τ).loc main_arg0)) (m ((c : Thread nD τ).loc main_arg1)) := by
  refine (dats m 0 c).arrAt_eq_of_covers 12 _ (by decide +kernel) fun t _ y => ?_
  have hI := idx t
  blk_simp
  rw [after0_12]
  unfold_out out0_12
  frame_out
  rw [val12, ref_v152_apply]
  blk_simp [hI]
  rw [Nat.mul_comm t.val 512]

theorem val14 (c : Dev nD) (t : Fin cfg0.N) (y : S512x64.Idx) :
    k0_pay1 (F := Ideal) (k0_pay12 (F := Ideal) (k0_pay2 (F := Ideal) (iblk m c 5 t)) (k0_pay3 (F := Ideal) (iblk m c 6 t)) k0_pay4 (iblk m c 4 t)) y
      = turned (fun l => at2 (m ((c, Proc.devRef .tc main_arg0) : Loc nD τ sig)) (0 + (512 * t.val + (y 0).val)) (6912 + l))
        (at1 (m ((c, Proc.devRef .tc main_arg1) : Loc nD τ sig)) ((512 * t.val + (y 0).val) % 8192)) (y 1).val :=
  block_1 (iblk m c 5 t) (iblk m c 6 t) (iblk m c 4 t) _ _ y (kiblk m c t (y 0)) (cosblk m c t (y 0)) (sinblk m c t (y 0))

/-- Result array 7 of the call. -/
theorem final14 (c : Dev nD) : (dats m 0 c).arrAt 14 (cfgs 0).N
    = RopeRefIdeal.Read.val_main_v154 (F := Ideal) (m ((c : Thread nD τ).loc main_arg0)) (m ((c : Thread nD τ).loc main_arg1)) := by
  refine (dats m 0 c).arrAt_eq_of_covers 14 _ (by decide +kernel) fun t _ y => ?_
  have hI := idx t
  blk_simp
  rw [after0_14]
  unfold_out out0_14
  frame_out
  rw [val14, ref_v154_apply]
  blk_simp [hI]
  rw [Nat.mul_comm t.val 512]

theorem vblk_apply (c : Dev nD) (t : Fin cfg0.N) (y : S512x128.Idx) :
    (iblk m c 3 t : FVec Ideal S512x128 .f32) y
      = at2 (m ((c, Proc.devRef .tc main_arg0) : Loc nD τ sig)) (0 + (512 * t.val + (y 0).val)) (6784 + (y 1).val) := by
  obtain ⟨a, l, rfl⟩ : ∃ (a : Fin 512) (l : Fin 128), y = ix2 a l := ⟨y 0, y 1, by funext q; fin_cases q <;> rfl⟩
  exact vblk m c t a l

theorem keep_at (x : FVec Ideal S512x128 .f32) (y : S512x128.Idx) : k0_pay11 (F := Ideal) x y = x y := by
  pointwise [k0_pay11]

/-- Result array 3 of the call: the values. -/
theorem final10 (c : Dev nD) : (dats m 0 c).arrAt 10 (cfgs 0).N
    = RopeRefIdeal.Read.val_main_v112 (F := Ideal) (m ((c : Thread nD τ).loc main_arg0)) := by
  refine (dats m 0 c).arrAt_eq_of_covers 10 _ (by decide +kernel) fun t _ y => ?_
  have hI := idx t
  blk_simp
  rw [after0_10]
  unfold_out out0_10
  frame_out
  rw [ref_v112_apply, vblk_apply]
  blk_simp [hI]
  rw [Nat.mul_comm t.val 512]

/-- Result array 6 of the call: the values. -/
theorem final13 (c : Dev nD) : (dats m 0 c).arrAt 13 (cfgs 0).N
    = RopeRefIdeal.Read.val_main_v153 (F := Ideal) (m ((c : Thread nD τ).loc main_arg0)) := by
  refine (dats m 0 c).arrAt_eq_of_covers 13 _ (by decide +kernel) fun t _ y => ?_
  have hI := idx t
  blk_simp
  rw [after0_13]
  unfold_out out0_13
  frame_out
  rw [keep_at, ref_v153_apply, vblk_apply]
  blk_simp [hI]
  rw [Nat.mul_comm t.val 512]

end Cert.RopeIdeal.Value
end
-- ==== Proof.RopeClaim.lean ====
/- The claims about the prompt's rotations: the frames of its programs and the equality of its results with its reference's. -/
module

public import proofs.«01_k».proof.Defs
public import proofs.«01_k».proof.Proof.RopeValue
public import proofs.«01_k».proof.Proof.Gen.Rope.Frame
public import proofs.«01_k».proof.Proof.Gen.RopeRefIdeal.Run
public import Idealize.ShloMosaic.Lib.Claim

@[expose] public section

set_option maxRecDepth 16384

noncomputable section

namespace Cert.Proof

open Idealize.ShloMosaic Idealize.ShloMosaic.TcCoe Idealize.SL.Sem

theorem frame_rope : Cert.quiescent_Rope := fun m ρ _ => Cert.Rope.Gen.frame m ρ

theorem frame_rope_ideal : Cert.quiescent_RopeIdeal := fun m ρ _ => Cert.RopeIdeal.Gen.frame m ρ

theorem frame_rope_ref : Cert.quiescent_RopeRefIdeal := fun m ρ _ =>
  (θ_run Cert.RopeRefIdeal.defs _ _).mono (fun r h => ⟨fun c => (h c).2.2.2.2.2.2.2.2, sem_eq_zero_of_no_sems (by decide) r.2⟩)
    (Cert.RopeRefIdeal.Value.run (F := Ideal) m ρ)

theorem algebraic_rope : Cert.algebraic_RopeIdeal_RopeRefIdeal := by
  intro m g m' g' _ hagree
  refine ⟨fun c => Cert.RopeRefIdeal.Read.val_main_v150 (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)),
    fun c => Cert.RopeRefIdeal.Read.val_main_v151 (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)),
    fun c => Cert.RopeRefIdeal.Read.val_main_v111 (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)),
    fun c => Cert.RopeRefIdeal.Read.val_main_v112 (F := Ideal) (m ((c.tc : Thread Cert.RopeIdeal.nD Cert.RopeIdeal.τ).loc Cert.RopeIdeal.main_arg0)),
    fun c => Cert.RopeRefIdeal.Read.val_main_v149 (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)),
    fun c => Cert.RopeRefIdeal.Read.val_main_v152 (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)),
    fun c => Cert.RopeRefIdeal.Read.val_main_v153 (F := Ideal) (m ((c.tc : Thread Cert.RopeIdeal.nD Cert.RopeIdeal.τ).loc Cert.RopeIdeal.main_arg0)),
    fun c => Cert.RopeRefIdeal.Read.val_main_v154 (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)), ?_, ?_⟩
  · refine (θ_run _ _ _).mono (fun r h c => ?_) (Cert.RopeIdeal.Value.run_blocks m g)
    obtain ⟨h7, h8, h9, h10, h11, h12, h13, h14, ha0, ha1⟩ := h c
    exact ⟨h7.trans (Cert.RopeIdeal.Value.final7 m c), h8.trans (Cert.RopeIdeal.Value.final8 m c), h9.trans (Cert.RopeIdeal.Value.final9 m c), h10.trans (Cert.RopeIdeal.Value.final10 m c), h11.trans (Cert.RopeIdeal.Value.final11 m c), h12.trans (Cert.RopeIdeal.Value.final12 m c), h13.trans (Cert.RopeIdeal.Value.final13 m c), h14.trans (Cert.RopeIdeal.Value.final14 m c), ha0, ha1⟩
  · refine (θ_run _ _ _).mono (fun r h c => ?_) (Cert.RopeRefIdeal.Value.run (F := Ideal) m' g')
    obtain ⟨h7, h8, h9, h10, h11, h12, h13, h14, ha0, ha1⟩ := h c
    obtain ⟨e0, e1⟩ := hagree c
    refine ⟨h7.trans ?_, h8.trans ?_, h9.trans ?_, h10.trans ?_, h11.trans ?_, h12.trans ?_, h13.trans ?_, h14.trans ?_, ha0, ha1⟩
    · rw [Cert.RopeRefIdeal.Read.val_main_v150_eq m' c, e0, e1]
    · rw [Cert.RopeRefIdeal.Read.val_main_v151_eq m' c, e0, e1]
    · rw [Cert.RopeRefIdeal.Read.val_main_v111_eq m' c, e0, e1]
    · rw [Cert.RopeRefIdeal.Read.val_main_v112_eq, e0]
    · rw [Cert.RopeRefIdeal.Read.val_main_v149_eq m' c, e0, e1]
    · rw [Cert.RopeRefIdeal.Read.val_main_v152_eq m' c, e0, e1]
    · rw [Cert.RopeRefIdeal.Read.val_main_v153_eq, e0]
    · rw [Cert.RopeRefIdeal.Read.val_main_v154_eq m' c, e0, e1]

end Cert.Proof
end
-- ==== Proof.RopeSampleRef.lean ====
/- The sample's rotations: the reference at an index. -/
module

public import proofs.«01_k».proof.Proof.RopeMath
public import proofs.«01_k».proof.Proof.Gen.RopeSampleRefIdeal.Read

@[expose] public section

set_option maxRecDepth 16384

noncomputable section

open Idealize.ShloMosaic Idealize.ShloMosaic.TcCoe Idealize.SL.Sem Cert.Rows

namespace Cert.RopeSampleRefIdeal.Read
open Cert.RopeSampleRefIdeal Cert.RopeSampleRefIdeal.Gen

/-- An entry of the projection's product by its numbers. -/
def at2 (x : FVec Ideal S16896x7168 .f32) (r c : ℕ) : EReal :=
  if h : r < 16896 ∧ c < 7168 then x (ix2 ⟨r, h.1⟩ ⟨c, h.2⟩) else 0

/-- A position by its number. -/
def at1 (x : IVec S32 32) (p : ℕ) : BitVec 32 :=
  if h : p < 32 then x (ix1 ⟨p, h⟩) else 0

theorem at2_eq (x : FVec Ideal S16896x7168 .f32) (r : Fin 16896) (c : Fin 7168) : x (ix2 r c) = at2 x r.val c.val := by
  unfold at2; rw [dif_pos ⟨r.isLt, c.isLt⟩]

theorem at1_eq (x : IVec S32 32) (p : Fin 32) : x (ix1 p) = at1 x p.val := by
  unfold at1; rw [dif_pos p.isLt]

theorem angle_v37 (x1 : IVec S32 32) (p : Fin 32) (k : Fin 32) :
    val_main_v15 (F := Ideal) x1 (ix2 p k) = angle (at1 x1 p.val) k.val := by
  pointwise [val_main_v15, val_main_v14, val_main_v13, val_main_v12, val_main_v11, val_main_v10, val_main_v9, val_main_v8, val_main_v7, val_main_v6, val_main_v5, val_main_v4, val_main_v3, val_main_cst_1, val_main_cst_0, val_main_cst]
  rw [at1_eq x1]
  rfl

/-- Columns 0 to 511 rotated. -/
theorem ref_v37 (x0 : FVec Ideal S16896x7168 .f32) (x1 : IVec S32 32) (r : Fin 512) (j : Fin 512) :
    val_main_v37 (F := Ideal) x0 x1 (ix2 r j) = turned (fun c => at2 x0 (16384 + r.val) (0 + c)) (at1 x1 (r.val % 32)) j.val := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v2, val_main_v1, val_main_v0]
  simp only [angle_v37, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

theorem angle_v74 (x1 : IVec S32 32) (p : Fin 32) (k : Fin 32) :
    val_main_v52 (F := Ideal) x1 (ix2 p k) = angle (at1 x1 p.val) k.val := by
  pointwise [val_main_v52, val_main_v51, val_main_v50, val_main_v49, val_main_v48, val_main_v47, val_main_v46, val_main_v45, val_main_v44, val_main_v43, val_main_v42, val_main_v41, val_main_v40, val_main_cst_4, val_main_cst_3, val_main_cst_2]
  rw [at1_eq x1]
  rfl

/-- Columns 6400 to 6655 rotated. -/
theorem ref_v74 (x0 : FVec Ideal S16896x7168 .f32) (x1 : IVec S32 32) (r : Fin 512) (j : Fin 256) :
    val_main_v74 (F := Ideal) x0 x1 (ix2 r j) = turned (fun c => at2 x0 (16384 + r.val) (6400 + c)) (at1 x1 (r.val % 32)) j.val := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v39, val_main_v38, val_main_v0]
  simp only [angle_v74, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

theorem angle_v111 (x1 : IVec S32 32) (p : Fin 32) (k : Fin 32) :
    val_main_v89 (F := Ideal) x1 (ix2 p k) = angle (at1 x1 p.val) k.val := by
  pointwise [val_main_v89, val_main_v88, val_main_v87, val_main_v86, val_main_v85, val_main_v84, val_main_v83, val_main_v82, val_main_v81, val_main_v80, val_main_v79, val_main_v78, val_main_v77, val_main_cst_7, val_main_cst_6, val_main_cst_5]
  rw [at1_eq x1]
  rfl

/-- Columns 6656 to 6783 rotated. -/
theorem ref_v111 (x0 : FVec Ideal S16896x7168 .f32) (x1 : IVec S32 32) (r : Fin 512) (j : Fin 128) :
    val_main_v111 (F := Ideal) x0 x1 (ix2 r j) = turned (fun c => at2 x0 (16384 + r.val) (6656 + c)) (at1 x1 (r.val % 32)) j.val := by
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v76, val_main_v75, val_main_v0]
  simp only [angle_v111, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

theorem angle_v149 (x1 : IVec S32 32) (p : Fin 32) (k : Fin 32) :
    val_main_v127 (F := Ideal) x1 (ix2 p k) = angle (at1 x1 p.val) k.val := by
  pointwise [val_main_v127, val_main_v126, val_main_v125, val_main_v124, val_main_v123, val_main_v122, val_main_v121, val_main_v120, val_main_v119, val_main_v118, val_main_v117, val_main_v116, val_main_v115, val_main_cst_10, val_main_cst_9, val_main_cst_8]
  rw [at1_eq x1]
  rfl

/-- Columns 6912 to 6975 rotated. -/
theorem ref_v149 (x0 : FVec Ideal S16896x7168 .f32) (x1 : IVec S32 32) (r : Fin 512) (j : Fin 64) :
    val_main_v149 (F := Ideal) x0 x1 (ix2 r j) = turned (fun c => at2 x0 (16384 + r.val) (6912 + c)) (at1 x1 (r.val % 32)) j.val := by
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v114, val_main_v113, val_main_v0]
  simp only [angle_v149, at2_eq x0]
  unfold turned
  by_cases h : j.val % 64 < 32
  · first | rw [dif_pos h, if_pos h] | rw [dif_pos (show j.val < 32 by omega), if_pos h]
    refine congrArg₂ (· - ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))
  · first | rw [dif_neg h, if_neg h] | rw [dif_neg (show ¬j.val < 32 by omega), if_neg h]
    refine congrArg₂ (· + ·) (congrArg₂ (· * ·) ?_ ?_) (congrArg₂ (· * ·) ?_ ?_)
    · exact congrArg₂ (at2 x0) (by first | rfl | omega) (by first | rfl | omega | (dsimp only; omega))
    · exact congrArg Ideal.cos (congrArg₂ angle (congrArg (at1 x1) (by first | rfl | omega)) (by first | rfl | omega))
    · exact congrArg₂ (at2 x0) (by first | rfl | omega) (by first | rfl | omega | (dsimp only; omega))
    · exact congrArg Ideal.sin (congrArg₂ angle (congrArg (at1 x1) (by first | rfl | omega)) (by first | rfl | omega))

/-- Columns 6784 to 6911, kept. -/
theorem ref_v112 (x0 : FVec Ideal S16896x7168 .f32) (r : Fin 512) (j : Fin 128) :
    val_main_v112 (F := Ideal) x0 (ix2 r j) = at2 x0 (16384 + r.val) (6784 + j.val) := by
  pointwise [val_main_v112, val_main_v0]
  refine (at2_eq x0 _ _).trans ?_
  exact congrArg₂ (at2 x0) (by first | rfl | omega) (by first | rfl | omega)

theorem ref_v37_apply (x0 : FVec Ideal S16896x7168 .f32) (x1 : IVec S32 32) (i : S512x512.Idx) :
    val_main_v37 (F := Ideal) x0 x1 i = turned (fun c => at2 x0 (16384 + (i 0).val) (0 + c)) (at1 x1 ((i 0).val % 32)) (i 1).val := by
  obtain ⟨r, j, rfl⟩ : ∃ (r : Fin 512) (j : Fin 512), i = ix2 r j := ⟨i 0, i 1, by funext q; fin_cases q <;> rfl⟩
  exact ref_v37 x0 x1 r j

theorem ref_v74_apply (x0 : FVec Ideal S16896x7168 .f32) (x1 : IVec S32 32) (i : S512x256.Idx) :
    val_main_v74 (F := Ideal) x0 x1 i = turned (fun c => at2 x0 (16384 + (i 0).val) (6400 + c)) (at1 x1 ((i 0).val % 32)) (i 1).val := by
  obtain ⟨r, j, rfl⟩ : ∃ (r : Fin 512) (j : Fin 256), i = ix2 r j := ⟨i 0, i 1, by funext q; fin_cases q <;> rfl⟩
  exact ref_v74 x0 x1 r j

theorem ref_v111_apply (x0 : FVec Ideal S16896x7168 .f32) (x1 : IVec S32 32) (i : S512x128.Idx) :
    val_main_v111 (F := Ideal) x0 x1 i = turned (fun c => at2 x0 (16384 + (i 0).val) (6656 + c)) (at1 x1 ((i 0).val % 32)) (i 1).val := by
  obtain ⟨r, j, rfl⟩ : ∃ (r : Fin 512) (j : Fin 128), i = ix2 r j := ⟨i 0, i 1, by funext q; fin_cases q <;> rfl⟩
  exact ref_v111 x0 x1 r j

theorem ref_v149_apply (x0 : FVec Ideal S16896x7168 .f32) (x1 : IVec S32 32) (i : S512x64.Idx) :
    val_main_v149 (F := Ideal) x0 x1 i = turned (fun c => at2 x0 (16384 + (i 0).val) (6912 + c)) (at1 x1 ((i 0).val % 32)) (i 1).val := by
  obtain ⟨r, j, rfl⟩ : ∃ (r : Fin 512) (j : Fin 64), i = ix2 r j := ⟨i 0, i 1, by funext q; fin_cases q <;> rfl⟩
  exact ref_v149 x0 x1 r j

theorem ref_v112_apply (x0 : FVec Ideal S16896x7168 .f32) (i : S512x128.Idx) :
    val_main_v112 (F := Ideal) x0 i = at2 x0 (16384 + (i 0).val) (6784 + (i 1).val) := by
  obtain ⟨r, j, rfl⟩ : ∃ (r : Fin 512) (j : Fin 128), i = ix2 r j := ⟨i 0, i 1, by funext q; fin_cases q <;> rfl⟩
  exact ref_v112 x0 r j

theorem ref_v150_apply (x0 : FVec Ideal S16896x7168 .f32) (x1 : IVec S32 32) (i : S512x512.Idx) :
    val_main_v150 (F := Ideal) x0 x1 i = turned (fun c => at2 x0 (16384 + (i 0).val) (0 + c)) (at1 x1 ((i 0).val % 32)) (i 1).val :=
  ref_v37_apply x0 x1 i

theorem ref_v151_apply (x0 : FVec Ideal S16896x7168 .f32) (x1 : IVec S32 32) (i : S512x256.Idx) :
    val_main_v151 (F := Ideal) x0 x1 i = turned (fun c => at2 x0 (16384 + (i 0).val) (6400 + c)) (at1 x1 ((i 0).val % 32)) (i 1).val :=
  ref_v74_apply x0 x1 i

theorem ref_v152_apply (x0 : FVec Ideal S16896x7168 .f32) (x1 : IVec S32 32) (i : S512x128.Idx) :
    val_main_v152 (F := Ideal) x0 x1 i = turned (fun c => at2 x0 (16384 + (i 0).val) (6656 + c)) (at1 x1 ((i 0).val % 32)) (i 1).val :=
  ref_v111_apply x0 x1 i

theorem ref_v154_apply (x0 : FVec Ideal S16896x7168 .f32) (x1 : IVec S32 32) (i : S512x64.Idx) :
    val_main_v154 (F := Ideal) x0 x1 i = turned (fun c => at2 x0 (16384 + (i 0).val) (6912 + c)) (at1 x1 ((i 0).val % 32)) (i 1).val :=
  ref_v149_apply x0 x1 i

theorem ref_v153_apply (x0 : FVec Ideal S16896x7168 .f32) (i : S512x128.Idx) :
    val_main_v153 (F := Ideal) x0 i = at2 x0 (16384 + (i 0).val) (6784 + (i 1).val) :=
  ref_v112_apply x0 i

end Cert.RopeSampleRefIdeal.Read
end
-- ==== Proof.RopeSampleValue.lean ====
/- The sample's rotations: the kernel's result arrays are the reference's terms. -/
module

public import proofs.«01_k».proof.Proof.RopeSampleRef
public import proofs.«01_k».proof.Proof.Gen.RopeSampleIdeal.Value
public import Idealize.ShloMosaic.Lib.Pipeline.ValueKit
public import Idealize.ShloMosaic.Lib.StableHlo.ReadAt
public import Idealize.ShloMosaic.Lib.StableHlo.RunClose

@[expose] public section

set_option maxRecDepth 16384

noncomputable section

open Idealize.ShloMosaic Idealize.ShloMosaic.TcCoe Idealize.SL.Sem Cert.Rows

namespace Cert.RopeSampleIdeal.Value
open Cert.RopeSampleIdeal Cert.RopeSampleIdeal.Gen Cert.RopeSampleRefIdeal.Read

variable (m : (ℓ : Loc nD τ sig) → Buf (Elt Ideal) ℓ) (ρ : Dev nD → PrngReg)

/-- The half a lane lies in, as the body computes it. -/
theorem mask_at (a : Fin 32) (l : Fin 128) : k0_pay4 (ix2 a l) = if l.val % 64 < 32 then 1#1 else 0#1 := by
  have key : ∀ l : Fin 128, k0_pay4 (ix2 (0 : Fin 32) l) = if l.val % 64 < 32 then 1#1 else 0#1 := by
    intro l
    pointwise [k0_pay4]
    revert l
    decide +kernel
  have e : k0_pay4 (ix2 a l) = k0_pay4 (ix2 (0 : Fin 32) l) := by
    pointwise [k0_pay4]
  rw [e, key]

/-- A block of 512 columns rotated. -/
theorem block_5 (co si : FVec Ideal S32x128 .f32) (x : FVec Ideal S32x512 .f32) (f : ℕ → EReal) (p : BitVec 32) (y : S32x512.Idx)
    (hx : ∀ l : Fin 512, x (ix2 (y 0) l) = f l.val) (hc : ∀ l : Fin 128, co (ix2 (y 0) l) = Ideal.cos (angle p (l.val % 32)))
    (hs : ∀ l : Fin 128, si (ix2 (y 0) l) = signed p l.val) :
    k0_pay5 (F := Ideal) co si x y = turned f p (y 1).val := by
  obtain ⟨a, l, rfl⟩ : ∃ (a : Fin 32) (l : Fin 512), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 512, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 256 columns rotated. -/
theorem block_8 (co si : FVec Ideal S32x128 .f32) (x : FVec Ideal S32x256 .f32) (f : ℕ → EReal) (p : BitVec 32) (y : S32x256.Idx)
    (hx : ∀ l : Fin 256, x (ix2 (y 0) l) = f l.val) (hc : ∀ l : Fin 128, co (ix2 (y 0) l) = Ideal.cos (angle p (l.val % 32)))
    (hs : ∀ l : Fin 128, si (ix2 (y 0) l) = signed p l.val) :
    k0_pay8 (F := Ideal) k0_pay4 x (k0_pay6 (F := Ideal) co) (k0_pay7 (F := Ideal) si) y = turned f p (y 1).val := by
  obtain ⟨a, l, rfl⟩ : ∃ (a : Fin 32) (l : Fin 256), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 256, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_9 (co si : FVec Ideal S32x128 .f32) (x : FVec Ideal S32x128 .f32) (f : ℕ → EReal) (p : BitVec 32) (y : S32x128.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay9 (F := Ideal) (k0_pay2 (F := Ideal) co) (k0_pay3 (F := Ideal) si) k0_pay4 x y = turned f p (y 1).val := by
  obtain ⟨a, l, rfl⟩ : ∃ (a : Fin 32) (l : Fin 128), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_10 (co si : FVec Ideal S32x128 .f32) (x : FVec Ideal S32x128 .f32) (f : ℕ → EReal) (p : BitVec 32) (y : S32x128.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay10 (F := Ideal) (k0_pay2 (F := Ideal) co) (k0_pay3 (F := Ideal) si) k0_pay4 x y = turned f p (y 1).val := by
  obtain ⟨a, l, rfl⟩ : ∃ (a : Fin 32) (l : Fin 128), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_12 (co si : FVec Ideal S32x128 .f32) (x : FVec Ideal S32x128 .f32) (f : ℕ → EReal) (p : BitVec 32) (y : S32x64.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay12 (F := Ideal) (k0_pay2 (F := Ideal) co) (k0_pay3 (F := Ideal) si) k0_pay4 x y = turned f p (y 1).val := by
  obtain ⟨a, l, rfl⟩ : ∃ (a : Fin 32) (l : Fin 64), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- A block of 128 columns rotated. -/
theorem block_1 (co si : FVec Ideal S32x128 .f32) (x : FVec Ideal S32x128 .f32) (f : ℕ → EReal) (p : BitVec 32) (y : S32x64.Idx)
    (hx : ∀ l : Fin 128, x (ix2 (y 0) l) = f l.val) (hc : ∀ l : Fin 128, co (ix2 (y 0) l) = Ideal.cos (angle p (l.val % 32)))
    (hs : ∀ l : Fin 128, si (ix2 (y 0) l) = signed p l.val) :
    k0_pay1 (F := Ideal) (k0_pay12 (F := Ideal) (k0_pay2 (F := Ideal) co) (k0_pay3 (F := Ideal) si) k0_pay4 x) y = turned f p (y 1).val := by
  obtain ⟨a, l, rfl⟩ : ∃ (a : Fin 32) (l : Fin 64), y = ix2 a l := ⟨y 0, y 1, by funext q; fin_cases q <;> rfl⟩
  pointwise [k0_pay1, k0_pay12, k0_pay10, k0_pay9, k0_pay8, k0_pay7, k0_pay6, k0_pay5, k0_pay2, k0_pay3]
  replace hx : ∀ l : Fin 128, x (ix2 a l) = f l.val := hx
  have hm : ∀ q : Fin 128, q.val % 64 = l.val % 64 → k0_pay4 (ix2 a q) = if l.val % 64 < 32 then 1#1 else 0#1 := by
    intro q hq; rw [mask_at, hq]
  have hC : ∀ q : Fin 128, q.val % 64 = l.val % 64 → co (ix2 a q) = Ideal.cos (angle p (l.val % 32)) := by
    intro q hq; refine (hc q).trans ?_; rw [show q.val % 32 = l.val % 32 by omega]
  have hS : ∀ q : Fin 128, q.val % 64 = l.val % 64 → si (ix2 a q) = signed p l.val := by
    intro q hq; refine (hs q).trans ?_; unfold signed; rw [hq, show q.val % 32 = l.val % 32 by omega]
  refine turned_of f p l.val _ _ _ _ _ _ ?_ (hx _) (fun h => (hx _).trans (congrArg f ?_)) (fun h => (hx _).trans (congrArg f ?_)) ?_ ?_
  · generalize (if l.val % 64 < 32 then 1#1 else 0#1 : BitVec 1) = B at hm ⊢
    first | exact hm _ rfl | (split_ifs <;> exact hm _ (by first | rfl | omega | (dsimp only; omega)))
  · first | omega | (dsimp only; omega)
  · first | omega | (dsimp only; omega)
  · first | exact hC _ rfl | (split_ifs <;> exact hC _ (by first | rfl | omega | (dsimp only; omega)))
  · first | exact hS _ rfl | (split_ifs <;> exact hS _ (by first | rfl | omega | (dsimp only; omega)))

/-- The table of cosines the region finds. -/
theorem cos_at (c : Dev nD) (p : Fin 32) (j : Fin 128) :
    (V m c main_v15 : FVec Ideal S32x128 .f32) (ix2 p j)
      = Ideal.cos (angle (at1 (m ((c, Proc.devRef .tc main_arg1) : Loc nD τ sig)) p.val) (j.val % 32)) := by
  have hA : ∀ k : ℕ, k = j.val % 32 → angle ((m ((c, Proc.devRef .tc main_arg1) : Loc nD τ sig) : IVec S32 32) (ix1 p)) k
      = angle (at1 (m ((c, Proc.devRef .tc main_arg1) : Loc nD τ sig)) p.val) (j.val % 32) := fun k hk => by
    rw [hk]; exact congrArg (fun q => angle q _) (at1_eq ((m ((c, Proc.devRef .tc main_arg1) : Loc nD τ sig)) : IVec S32 32) p)
  unfold V
  after_results_simp_entrywise
  pointwise
  split_ifs
  all_goals after_results_simp_entrywise
  all_goals pointwise
  all_goals exact congrArg Ideal.cos (hA _ (by omega))

theorem sin_at (c : Dev nD) (p : Fin 32) (j : Fin 128) :
    (V m c main_v18 : FVec Ideal S32x128 .f32) (ix2 p j)
      = signed (at1 (m ((c, Proc.devRef .tc main_arg1) : Loc nD τ sig)) p.val) j.val := by
  have hA : ∀ k : ℕ, k = j.val % 32 → angle ((m ((c, Proc.devRef .tc main_arg1) : Loc nD τ sig) : IVec S32 32) (ix1 p)) k
      = angle (at1 (m ((c, Proc.devRef .tc main_arg1) : Loc nD τ sig)) p.val) (j.val % 32) := fun k hk => by
    rw [hk]; exact congrArg (fun q => angle q _) (at1_eq ((m ((c, Proc.devRef .tc main_arg1) : Loc nD τ sig)) : IVec S32 32) p)
  unfold V
  after_results_simp_entrywise
  pointwise
  split_ifs
  all_goals after_results_simp_entrywise
  all_goals pointwise
  all_goals unfold signed
  all_goals first
    | (rw [if_pos (by omega)]; exact congrArg (fun v => -Ideal.sin v) (hA _ (by omega)))
    | (rw [if_neg (by omega)]; exact congrArg Ideal.sin (hA _ (by omega)))

/-- The windows' block indices at a point. -/
theorem idx : ∀ t : Fin cfg0.N, win0_0.index t = ![512 + t.val, 0] ∧ win0_1.index t = ![512 + t.val, 25] ∧ win0_2.index t = ![512 + t.val, 52]
    ∧ win0_3.index t = ![512 + t.val, 53] ∧ win0_4.index t = ![512 + t.val, 54] ∧ win0_5.index t = ![t.val % 1, 0] ∧ win0_6.index t = ![t.val % 1, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

theorem qblk (c : Dev nD) (t : Fin cfg0.N) (a : Fin 32) (l : Fin 512) :
    (iblk m c 0 t : FVec Ideal S32x512 .f32) (ix2 a l)
      = at2 (m ((c, Proc.devRef .tc main_arg0) : Loc nD τ sig)) (16384 + (32 * t.val + a.val)) (0 + l.val) := by
  have hI := idx t
  refine Eq.trans ?_ (at2_eq (m ((c, Proc.devRef .tc main_arg0) : Loc nD τ sig)) ⟨16384 + (32 * t.val + a.val), by have : t.val < 16 := t.isLt; omega⟩ ⟨0 + l.val, by omega⟩)
  blk_point [iblk, V, hI]

theorem qiblk (c : Dev nD) (t : Fin cfg0.N) (a : Fin 32) (l : Fin 256) :
    (iblk m c 1 t : FVec Ideal S32x256 .f32) (ix2 a l)
      = at2 (m ((c, Proc.devRef .tc main_arg0) : Loc nD τ sig)) (16384 + (32 * t.val + a.val)) (6400 + l.val) := by
  have hI := idx t
  refine Eq.trans ?_ (at2_eq (m ((c, Proc.devRef .tc main_arg0) : Loc nD τ sig)) ⟨16384 + (32 * t.val + a.val), by have : t.val < 16 := t.isLt; omega⟩ ⟨6400 + l.val, by omega⟩)
  blk_point [iblk, V, hI]

theorem kblk (c : Dev nD) (t : Fin cfg0.N) (a : Fin 32) (l : Fin 128) :
    (iblk m c 2 t : FVec Ideal S32x128 .f32) (ix2 a l)
      = at2 (m ((c, Proc.devRef .tc main_arg0) : Loc nD τ sig)) (16384 + (32 * t.val + a.val)) (6656 + l.val) := by
  have hI := idx t
  refine Eq.trans ?_ (at2_eq (m ((c, Proc.devRef .tc main_arg0) : Loc nD τ sig)) ⟨16384 + (32 * t.val + a.val), by have : t.val < 16 := t.isLt; omega⟩ ⟨6656 + l.val, by omega⟩)
  blk_point [iblk, V, hI]

theorem vblk (c : Dev nD) (t : Fin cfg0.N) (a : Fin 32) (l : Fin 128) :
    (iblk m c 3 t : FVec Ideal S32x128 .f32) (ix2 a l)
      = at2 (m ((c, Proc.devRef .tc main_arg0) : Loc nD τ sig)) (16384 + (32 * t.val + a.val)) (6784 + l.val) := by
  have hI := idx t
  refine Eq.trans ?_ (at2_eq (m ((c, Proc.devRef .tc main_arg0) : Loc nD τ sig)) ⟨16384 + (32 * t.val + a.val), by have : t.val < 16 := t.isLt; omega⟩ ⟨6784 + l.val, by omega⟩)
  blk_point [iblk, V, hI]

theorem kiblk (c : Dev nD) (t : Fin cfg0.N) (a : Fin 32) (l : Fin 128) :
    (iblk m c 4 t : FVec Ideal S32x128 .f32) (ix2 a l)
      = at2 (m ((c, Proc.devRef .tc main_arg0) : Loc nD τ sig)) (16384 + (32 * t.val + a.val)) (6912 + l.val) := by
  have hI := idx t
  refine Eq.trans ?_ (at2_eq (m ((c, Proc.devRef .tc main_arg0) : Loc nD τ sig)) ⟨16384 + (32 * t.val + a.val), by have : t.val < 16 := t.isLt; omega⟩ ⟨6912 + l.val, by omega⟩)
  blk_point [iblk, V, hI]

theorem cosblk (c : Dev nD) (t : Fin cfg0.N) (a : Fin 32) (l : Fin 128) :
    (iblk m c 5 t : FVec Ideal S32x128 .f32) (ix2 a l)
      = Ideal.cos (angle (at1 (m ((c, Proc.devRef .tc main_arg1) : Loc nD τ sig)) ((32 * t.val + a.val) % 32)) (l.val % 32)) := by
  have hI := idx t
  have e : (32 * t.val + a.val) % 32 = 32 * (t.val % 1) + a.val := by omega
  rw [e, ← cos_at m c ⟨32 * (t.val % 1) + a.val, by omega⟩ l]
  blk_point [iblk, hI]

theorem sinblk (c : Dev nD) (t : Fin cfg0.N) (a : Fin 32) (l : Fin 128) :
    (iblk m c 6 t : FVec Ideal S32x128 .f32) (ix2 a l)
      = signed (at1 (m ((c, Proc.devRef .tc main_arg1) : Loc nD τ sig)) ((32 * t.val + a.val) % 32)) l.val := by
  have hI := idx t
  have e : (32 * t.val + a.val) % 32 = 32 * (t.val % 1) + a.val := by omega
  rw [e, ← sin_at m c ⟨32 * (t.val % 1) + a.val, by omega⟩ l]
  blk_point [iblk, hI]

theorem val7 (c : Dev nD) (t : Fin cfg0.N) (y : S32x512.Idx) :
    k0_pay5 (F := Ideal) (iblk m c 5 t) (iblk m c 6 t) (iblk m c 0 t) y
      = turned (fun l => at2 (m ((c, Proc.devRef .tc main_arg0) : Loc nD τ sig)) (16384 + (32 * t.val + (y 0).val)) (0 + l))
        (at1 (m ((c, Proc.devRef .tc main_arg1) : Loc nD τ sig)) ((32 * t.val + (y 0).val) % 32)) (y 1).val :=
  block_5 (iblk m c 5 t) (iblk m c 6 t) (iblk m c 0 t) _ _ y (qblk m c t (y 0)) (cosblk m c t (y 0)) (sinblk m c t (y 0))

/-- Result array 0 of the call. -/
theorem final7 (c : Dev nD) : (dats m 0 c).arrAt 7 (cfgs 0).N
    = RopeSampleRefIdeal.Read.val_main_v150 (F := Ideal) (m ((c : Thread nD τ).loc main_arg0)) (m ((c : Thread nD τ).loc main_arg1)) := by
  refine (dats m 0 c).arrAt_eq_of_covers 7 _ (by decide +kernel) fun t _ y => ?_
  have hI := idx t
  blk_simp
  rw [after0_7]
  unfold_out out0_7
  frame_out
  rw [val7, ref_v150_apply]
  blk_simp [hI]
  rw [Nat.mul_comm t.val 32]

theorem val8 (c : Dev nD) (t : Fin cfg0.N) (y : S32x256.Idx) :
    k0_pay8 (F := Ideal) k0_pay4 (iblk m c 1 t) (k0_pay6 (F := Ideal) (iblk m c 5 t)) (k0_pay7 (F := Ideal) (iblk m c 6 t)) y
      = turned (fun l => at2 (m ((c, Proc.devRef .tc main_arg0) : Loc nD τ sig)) (16384 + (32 * t.val + (y 0).val)) (6400 + l))
        (at1 (m ((c, Proc.devRef .tc main_arg1) : Loc nD τ sig)) ((32 * t.val + (y 0).val) % 32)) (y 1).val :=
  block_8 (iblk m c 5 t) (iblk m c 6 t) (iblk m c 1 t) _ _ y (qiblk m c t (y 0)) (cosblk m c t (y 0)) (sinblk m c t (y 0))

/-- Result array 1 of the call. -/
theorem final8 (c : Dev nD) : (dats m 0 c).arrAt 8 (cfgs 0).N
    = RopeSampleRefIdeal.Read.val_main_v151 (F := Ideal) (m ((c : Thread nD τ).loc main_arg0)) (m ((c : Thread nD τ).loc main_arg1)) := by
  refine (dats m 0 c).arrAt_eq_of_covers 8 _ (by decide +kernel) fun t _ y => ?_
  have hI := idx t
  blk_simp
  rw [after0_8]
  unfold_out out0_8
  frame_out
  rw [val8, ref_v151_apply]
  blk_simp [hI]
  rw [Nat.mul_comm t.val 32]

theorem val9 (c : Dev nD) (t : Fin cfg0.N) (y : S32x128.Idx) :
    k0_pay9 (F := Ideal) (k0_pay2 (F := Ideal) (iblk m c 5 t)) (k0_pay3 (F := Ideal) (iblk m c 6 t)) k0_pay4 (iblk m c 2 t) y
      = turned (fun l => at2 (m ((c, Proc.devRef .tc main_arg0) : Loc nD τ sig)) (16384 + (32 * t.val + (y 0).val)) (6656 + l))
        (at1 (m ((c, Proc.devRef .tc main_arg1) : Loc nD τ sig)) ((32 * t.val + (y 0).val) % 32)) (y 1).val :=
  block_9 (iblk m c 5 t) (iblk m c 6 t) (iblk m c 2 t) _ _ y (kblk m c t (y 0)) (cosblk m c t (y 0)) (sinblk m c t (y 0))

/-- Result array 2 of the call. -/
theorem final9 (c : Dev nD) : (dats m 0 c).arrAt 9 (cfgs 0).N
    = RopeSampleRefIdeal.Read.val_main_v111 (F := Ideal) (m ((c : Thread nD τ).loc main_arg0)) (m ((c : Thread nD τ).loc main_arg1)) := by
  refine (dats m 0 c).arrAt_eq_of_covers 9 _ (by decide +kernel) fun t _ y => ?_
  have hI := idx t
  blk_simp
  rw [after0_9]
  unfold_out out0_9
  frame_out
  rw [val9, ref_v111_apply]
  blk_simp [hI]
  rw [Nat.mul_comm t.val 32]

theorem val11 (c : Dev nD) (t : Fin cfg0.N) (y : S32x64.Idx) :
    k0_pay12 (F := Ideal) (k0_pay2 (F := Ideal) (iblk m c 5 t)) (k0_pay3 (F := Ideal) (iblk m c 6 t)) k0_pay4 (iblk m c 4 t) y
      = turned (fun l => at2 (m ((c, Proc.devRef .tc main_arg0) : Loc nD τ sig)) (16384 + (32 * t.val + (y 0).val)) (6912 + l))
        (at1 (m ((c, Proc.devRef .tc main_arg1) : Loc nD τ sig)) ((32 * t.val + (y 0).val) % 32)) (y 1).val :=
  block_12 (iblk m c 5 t) (iblk m c 6 t) (iblk m c 4 t) _ _ y (kiblk m c t (y 0)) (cosblk m c t (y 0)) (sinblk m c t (y 0))

/-- Result array 4 of the call. -/
theorem final11 (c : Dev nD) : (dats m 0 c).arrAt 11 (cfgs 0).N
    = RopeSampleRefIdeal.Read.val_main_v149 (F := Ideal) (m ((c : Thread nD τ).loc main_arg0)) (m ((c : Thread nD τ).loc main_arg1)) := by
  refine (dats m 0 c).arrAt_eq_of_covers 11 _ (by decide +kernel) fun t _ y => ?_
  have hI := idx t
  blk_simp
  rw [after0_11]
  unfold_out out0_11
  frame_out
  rw [val11, ref_v149_apply]
  blk_simp [hI]
  rw [Nat.mul_comm t.val 32]

theorem val12 (c : Dev nD) (t : Fin cfg0.N) (y : S32x128.Idx) :
    k0_pay10 (F := Ideal) (k0_pay2 (F := Ideal) (iblk m c 5 t)) (k0_pay3 (F := Ideal) (iblk m c 6 t)) k0_pay4 (iblk m c 2 t) y
      = turned (fun l => at2 (m ((c, Proc.devRef .tc main_arg0) : Loc nD τ sig)) (16384 + (32 * t.val + (y 0).val)) (6656 + l))
        (at1 (m ((c, Proc.devRef .tc main_arg1) : Loc nD τ sig)) ((32 * t.val + (y 0).val) % 32)) (y 1).val :=
  block_10 (iblk m c 5 t) (iblk m c 6 t) (iblk m c 2 t) _ _ y (kblk m c t (y 0)) (cosblk m c t (y 0)) (sinblk m c t (y 0))

/-- Result array 5 of the call. -/
theorem final12 (c : Dev nD) : (dats m 0 c).arrAt 12 (cfgs 0).N
    = RopeSampleRefIdeal.Read.val_main_v152 (F := Ideal) (m ((c : Thread nD τ).loc main_arg0)) (m ((c : Thread nD τ).loc main_arg1)) := by
  refine (dats m 0 c).arrAt_eq_of_covers 12 _ (by decide +kernel) fun t _ y => ?_
  have hI := idx t
  blk_simp
  rw [after0_12]
  unfold_out out0_12
  frame_out
  rw [val12, ref_v152_apply]
  blk_simp [hI]
  rw [Nat.mul_comm t.val 32]

theorem val14 (c : Dev nD) (t : Fin cfg0.N) (y : S32x64.Idx) :
    k0_pay1 (F := Ideal) (k0_pay12 (F := Ideal) (k0_pay2 (F := Ideal) (iblk m c 5 t)) (k0_pay3 (F := Ideal) (iblk m c 6 t)) k0_pay4 (iblk m c 4 t)) y
      = turned (fun l => at2 (m ((c, Proc.devRef .tc main_arg0) : Loc nD τ sig)) (16384 + (32 * t.val + (y 0).val)) (6912 + l))
        (at1 (m ((c, Proc.devRef .tc main_arg1) : Loc nD τ sig)) ((32 * t.val + (y 0).val) % 32)) (y 1).val :=
  block_1 (iblk m c 5 t) (iblk m c 6 t) (iblk m c 4 t) _ _ y (kiblk m c t (y 0)) (cosblk m c t (y 0)) (sinblk m c t (y 0))

/-- Result array 7 of the call. -/
theorem final14 (c : Dev nD) : (dats m 0 c).arrAt 14 (cfgs 0).N
    = RopeSampleRefIdeal.Read.val_main_v154 (F := Ideal) (m ((c : Thread nD τ).loc main_arg0)) (m ((c : Thread nD τ).loc main_arg1)) := by
  refine (dats m 0 c).arrAt_eq_of_covers 14 _ (by decide +kernel) fun t _ y => ?_
  have hI := idx t
  blk_simp
  rw [after0_14]
  unfold_out out0_14
  frame_out
  rw [val14, ref_v154_apply]
  blk_simp [hI]
  rw [Nat.mul_comm t.val 32]

theorem vblk_apply (c : Dev nD) (t : Fin cfg0.N) (y : S32x128.Idx) :
    (iblk m c 3 t : FVec Ideal S32x128 .f32) y
      = at2 (m ((c, Proc.devRef .tc main_arg0) : Loc nD τ sig)) (16384 + (32 * t.val + (y 0).val)) (6784 + (y 1).val) := by
  obtain ⟨a, l, rfl⟩ : ∃ (a : Fin 32) (l : Fin 128), y = ix2 a l := ⟨y 0, y 1, by funext q; fin_cases q <;> rfl⟩
  exact vblk m c t a l

theorem keep_at (x : FVec Ideal S32x128 .f32) (y : S32x128.Idx) : k0_pay11 (F := Ideal) x y = x y := by
  pointwise [k0_pay11]

/-- Result array 3 of the call: the values. -/
theorem final10 (c : Dev nD) : (dats m 0 c).arrAt 10 (cfgs 0).N
    = RopeSampleRefIdeal.Read.val_main_v112 (F := Ideal) (m ((c : Thread nD τ).loc main_arg0)) := by
  refine (dats m 0 c).arrAt_eq_of_covers 10 _ (by decide +kernel) fun t _ y => ?_
  have hI := idx t
  blk_simp
  rw [after0_10]
  unfold_out out0_10
  frame_out
  rw [ref_v112_apply, vblk_apply]
  blk_simp [hI]
  rw [Nat.mul_comm t.val 32]

/-- Result array 6 of the call: the values. -/
theorem final13 (c : Dev nD) : (dats m 0 c).arrAt 13 (cfgs 0).N
    = RopeSampleRefIdeal.Read.val_main_v153 (F := Ideal) (m ((c : Thread nD τ).loc main_arg0)) := by
  refine (dats m 0 c).arrAt_eq_of_covers 13 _ (by decide +kernel) fun t _ y => ?_
  have hI := idx t
  blk_simp
  rw [after0_13]
  unfold_out out0_13
  frame_out
  rw [keep_at, ref_v153_apply, vblk_apply]
  blk_simp [hI]
  rw [Nat.mul_comm t.val 32]

end Cert.RopeSampleIdeal.Value
end
-- ==== Proof.RopeSampleClaim.lean ====
/- The claims about the sample's rotations: the frames of its programs and the equality of its results with its reference's. -/
module

public import proofs.«01_k».proof.Defs
public import proofs.«01_k».proof.Proof.RopeSampleValue
public import proofs.«01_k».proof.Proof.Gen.RopeSample.Frame
public import proofs.«01_k».proof.Proof.Gen.RopeSampleRefIdeal.Run
public import Idealize.ShloMosaic.Lib.Claim

@[expose] public section

set_option maxRecDepth 16384

noncomputable section

namespace Cert.Proof

open Idealize.ShloMosaic Idealize.ShloMosaic.TcCoe Idealize.SL.Sem

theorem frame_rope_sample : Cert.quiescent_RopeSample := fun m ρ _ => Cert.RopeSample.Gen.frame m ρ

theorem frame_rope_sample_ideal : Cert.quiescent_RopeSampleIdeal := fun m ρ _ => Cert.RopeSampleIdeal.Gen.frame m ρ

theorem frame_rope_sample_ref : Cert.quiescent_RopeSampleRefIdeal := fun m ρ _ =>
  (θ_run Cert.RopeSampleRefIdeal.defs _ _).mono (fun r h => ⟨fun c => (h c).2.2.2.2.2.2.2.2, sem_eq_zero_of_no_sems (by decide) r.2⟩)
    (Cert.RopeSampleRefIdeal.Value.run (F := Ideal) m ρ)

theorem algebraic_rope_sample : Cert.algebraic_RopeSampleIdeal_RopeSampleRefIdeal := by
  intro m g m' g' _ hagree
  refine ⟨fun c => Cert.RopeSampleRefIdeal.Read.val_main_v150 (F := Ideal) (m ((c.tc : Thread Cert.RopeSampleIdeal.nD Cert.RopeSampleIdeal.τ).loc Cert.RopeSampleIdeal.main_arg0)) (m ((c.tc : Thread Cert.RopeSampleIdeal.nD Cert.RopeSampleIdeal.τ).loc Cert.RopeSampleIdeal.main_arg1)),
    fun c => Cert.RopeSampleRefIdeal.Read.val_main_v151 (F := Ideal) (m ((c.tc : Thread Cert.RopeSampleIdeal.nD Cert.RopeSampleIdeal.τ).loc Cert.RopeSampleIdeal.main_arg0)) (m ((c.tc : Thread Cert.RopeSampleIdeal.nD Cert.RopeSampleIdeal.τ).loc Cert.RopeSampleIdeal.main_arg1)),
    fun c => Cert.RopeSampleRefIdeal.Read.val_main_v111 (F := Ideal) (m ((c.tc : Thread Cert.RopeSampleIdeal.nD Cert.RopeSampleIdeal.τ).loc Cert.RopeSampleIdeal.main_arg0)) (m ((c.tc : Thread Cert.RopeSampleIdeal.nD Cert.RopeSampleIdeal.τ).loc Cert.RopeSampleIdeal.main_arg1)),
    fun c => Cert.RopeSampleRefIdeal.Read.val_main_v112 (F := Ideal) (m ((c.tc : Thread Cert.RopeSampleIdeal.nD Cert.RopeSampleIdeal.τ).loc Cert.RopeSampleIdeal.main_arg0)),
    fun c => Cert.RopeSampleRefIdeal.Read.val_main_v149 (F := Ideal) (m ((c.tc : Thread Cert.RopeSampleIdeal.nD Cert.RopeSampleIdeal.τ).loc Cert.RopeSampleIdeal.main_arg0)) (m ((c.tc : Thread Cert.RopeSampleIdeal.nD Cert.RopeSampleIdeal.τ).loc Cert.RopeSampleIdeal.main_arg1)),
    fun c => Cert.RopeSampleRefIdeal.Read.val_main_v152 (F := Ideal) (m ((c.tc : Thread Cert.RopeSampleIdeal.nD Cert.RopeSampleIdeal.τ).loc Cert.RopeSampleIdeal.main_arg0)) (m ((c.tc : Thread Cert.RopeSampleIdeal.nD Cert.RopeSampleIdeal.τ).loc Cert.RopeSampleIdeal.main_arg1)),
    fun c => Cert.RopeSampleRefIdeal.Read.val_main_v153 (F := Ideal) (m ((c.tc : Thread Cert.RopeSampleIdeal.nD Cert.RopeSampleIdeal.τ).loc Cert.RopeSampleIdeal.main_arg0)),
    fun c => Cert.RopeSampleRefIdeal.Read.val_main_v154 (F := Ideal) (m ((c.tc : Thread Cert.RopeSampleIdeal.nD Cert.RopeSampleIdeal.τ).loc Cert.RopeSampleIdeal.main_arg0)) (m ((c.tc : Thread Cert.RopeSampleIdeal.nD Cert.RopeSampleIdeal.τ).loc Cert.RopeSampleIdeal.main_arg1)), ?_, ?_⟩
  · refine (θ_run _ _ _).mono (fun r h c => ?_) (Cert.RopeSampleIdeal.Value.run_blocks m g)
    obtain ⟨h7, h8, h9, h10, h11, h12, h13, h14, ha0, ha1⟩ := h c
    exact ⟨h7.trans (Cert.RopeSampleIdeal.Value.final7 m c), h8.trans (Cert.RopeSampleIdeal.Value.final8 m c), h9.trans (Cert.RopeSampleIdeal.Value.final9 m c), h10.trans (Cert.RopeSampleIdeal.Value.final10 m c), h11.trans (Cert.RopeSampleIdeal.Value.final11 m c), h12.trans (Cert.RopeSampleIdeal.Value.final12 m c), h13.trans (Cert.RopeSampleIdeal.Value.final13 m c), h14.trans (Cert.RopeSampleIdeal.Value.final14 m c), ha0, ha1⟩
  · refine (θ_run _ _ _).mono (fun r h c => ?_) (Cert.RopeSampleRefIdeal.Value.run (F := Ideal) m' g')
    obtain ⟨h7, h8, h9, h10, h11, h12, h13, h14, ha0, ha1⟩ := h c
    obtain ⟨e0, e1⟩ := hagree c
    refine ⟨h7.trans ?_, h8.trans ?_, h9.trans ?_, h10.trans ?_, h11.trans ?_, h12.trans ?_, h13.trans ?_, h14.trans ?_, ha0, ha1⟩
    · rw [Cert.RopeSampleRefIdeal.Read.val_main_v150_eq m' c, e0, e1]
    · rw [Cert.RopeSampleRefIdeal.Read.val_main_v151_eq m' c, e0, e1]
    · rw [Cert.RopeSampleRefIdeal.Read.val_main_v111_eq m' c, e0, e1]
    · rw [Cert.RopeSampleRefIdeal.Read.val_main_v112_eq, e0]
    · rw [Cert.RopeSampleRefIdeal.Read.val_main_v149_eq m' c, e0, e1]
    · rw [Cert.RopeSampleRefIdeal.Read.val_main_v152_eq m' c, e0, e1]
    · rw [Cert.RopeSampleRefIdeal.Read.val_main_v153_eq, e0]
    · rw [Cert.RopeSampleRefIdeal.Read.val_main_v154_eq m' c, e0, e1]

end Cert.Proof
end
-- ==== Proof.SsmClaim.lean ====
/- The claims about the state-space call for the sample's rows: the frames of its programs, and its carried convolution rows as the last rows that went into it. -/
module

public import proofs.«01_k».proof.Defs
public import proofs.«01_k».proof.Proof.Math
public import proofs.«01_k».proof.Proof.Gen.Ssm.Frame
public import proofs.«01_k».proof.Proof.Gen.SsmIdeal.Frame
public import proofs.«01_k».proof.Proof.Gen.SsmRefIdeal.Run
public import proofs.«01_k».proof.Proof.Gen.SsmRefIdeal.Read
public import Idealize.ShloMosaic.Lib.Claim
public import Idealize.ShloMosaic.Lib.WritesUnit
public import Idealize.ShloMosaic.Lib.Pipeline.ValueKit
public import Idealize.ShloMosaic.Lib.StableHlo.ReadAt
public import Idealize.ShloMosaic.Lib.StableHlo.RunClose

@[expose] public section

set_option maxRecDepth 16384

noncomputable section

open Idealize.ShloMosaic Idealize.ShloMosaic.TcCoe Idealize.SL.Sem Idealize.ShloMosaic.StableHlo

namespace Cert.Proof.Ssm
open Cert.SsmIdeal Cert.SsmIdeal.Gen

/-- A load of a block's whole input reads it. -/
theorem readAt_in512 {F : FTy → Type} [FloatOps F] (M : Memref sig .tc .vmem S32x512 .f32) (hM : M.IsWhole) (x : Vec F S32x512 .f32) :
    M.view.readAt (Elt F) (Rect.unit (s := S32x512) ![0, 0] S32x512.size inb_S32x512_S32x512_0_0).toLoadRect (hM.unread x) = x := by
  funext y
  rw [View.readAt_apply, hM.read_unread]
  congr 1
  funext a
  apply Fin.ext
  match a with
  | ⟨0, _⟩ => show 0 + 1 * (y 0).val = (y 0).val; omega
  | ⟨1, _⟩ => show 0 + 1 * (y 1).val = (y 1).val; omega

/-- A load of the last eight rows, the input's rows lying from the eighth on, reads the input's last eight. -/
theorem readCov_last512 {F : FTy → Type} [FloatOps F] (M : Memref sig .tc .vmem S40x512 .f32) (w : Vec F S32x512 .f32) (L : List (View.Piece (Elt F) S40x512 .f32)) :
    M.view.readCov (⟨Rect.unit (s := S40x512) ![8, 0] S32x512.size inb_S40x512_S32x512_8_0, w⟩ :: L)
      (Rect.unit (s := S40x512) ![32, 0] S8x512.size inb_S40x512_S8x512_32_0).toLoadRect
      = fun y : S8x512.Idx => w (ix2 ⟨24 + (y 0).val, by have h : (y 0).val < 8 := (y 0).isLt; omega⟩ (y 1)) := by
  funext y
  refine View.read_writes_cons_unit_of_mem M.view M.view.junk inb_S40x512_S32x512_8_0 w L _ (ix2 ⟨24 + (y 0).val, by have h : (y 0).val < 8 := (y 0).isLt; omega⟩ (y 1)) rfl fun a => ?_
  match a with
  | ⟨0, _⟩ => exact (by omega : 32 + 1 * (y 0).val = 8 + (24 + (y 0).val))
  | ⟨1, _⟩ => exact (by omega : 0 + 1 * (y 1).val = 0 + (y 1).val)

/-- A store of the whole block of rows leaves what it stored. -/
theorem read_out512 {F : FTy → Type} [FloatOps F] {sp : Space} (V : View sig .tc sp S1x8x512 .f32) (f : BufTy.Contents (Elt F) V.ty) (w : Vec F S1x8x512 .f32) (L : List (View.Piece (Elt F) S1x8x512 .f32)) :
    V.read (Elt F) (V.writes (Elt F) f (⟨Rect.unit (s := S1x8x512) ![0, 0, 0] S1x8x512.size inb_S1x8x512_S1x8x512_0_0_0, w⟩ :: L)) = w := by
  funext y
  refine View.read_writes_cons_unit_of_mem V f inb_S1x8x512_S1x8x512_0_0_0 w L y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

/-- A load of a block's whole input reads it. -/
theorem readAt_in256 {F : FTy → Type} [FloatOps F] (M : Memref sig .tc .vmem S32x256 .f32) (hM : M.IsWhole) (x : Vec F S32x256 .f32) :
    M.view.readAt (Elt F) (Rect.unit (s := S32x256) ![0, 0] S32x256.size inb_S32x256_S32x256_0_0).toLoadRect (hM.unread x) = x := by
  funext y
  rw [View.readAt_apply, hM.read_unread]
  congr 1
  funext a
  apply Fin.ext
  match a with
  | ⟨0, _⟩ => show 0 + 1 * (y 0).val = (y 0).val; omega
  | ⟨1, _⟩ => show 0 + 1 * (y 1).val = (y 1).val; omega

/-- A load of the last eight rows, the input's rows lying from the eighth on, reads the input's last eight. -/
theorem readCov_last256 {F : FTy → Type} [FloatOps F] (M : Memref sig .tc .vmem S40x256 .f32) (w : Vec F S32x256 .f32) (L : List (View.Piece (Elt F) S40x256 .f32)) :
    M.view.readCov (⟨Rect.unit (s := S40x256) ![8, 0] S32x256.size inb_S40x256_S32x256_8_0, w⟩ :: L)
      (Rect.unit (s := S40x256) ![32, 0] S8x256.size inb_S40x256_S8x256_32_0).toLoadRect
      = fun y : S8x256.Idx => w (ix2 ⟨24 + (y 0).val, by have h : (y 0).val < 8 := (y 0).isLt; omega⟩ (y 1)) := by
  funext y
  refine View.read_writes_cons_unit_of_mem M.view M.view.junk inb_S40x256_S32x256_8_0 w L _ (ix2 ⟨24 + (y 0).val, by have h : (y 0).val < 8 := (y 0).isLt; omega⟩ (y 1)) rfl fun a => ?_
  match a with
  | ⟨0, _⟩ => exact (by omega : 32 + 1 * (y 0).val = 8 + (24 + (y 0).val))
  | ⟨1, _⟩ => exact (by omega : 0 + 1 * (y 1).val = 0 + (y 1).val)

/-- A store of the whole block of rows leaves what it stored. -/
theorem read_out256 {F : FTy → Type} [FloatOps F] {sp : Space} (V : View sig .tc sp S1x8x256 .f32) (f : BufTy.Contents (Elt F) V.ty) (w : Vec F S1x8x256 .f32) (L : List (View.Piece (Elt F) S1x8x256 .f32)) :
    V.read (Elt F) (V.writes (Elt F) f (⟨Rect.unit (s := S1x8x256) ![0, 0, 0] S1x8x256.size inb_S1x8x256_S1x8x256_0_0_0, w⟩ :: L)) = w := by
  funext y
  refine View.read_writes_cons_unit_of_mem V f inb_S1x8x256_S1x8x256_0_0_0 w L y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

variable (m : (ℓ : Loc nD τ sig) → Buf (Elt Ideal) ℓ)

theorem k0_pay8_eq (v : FVec Ideal S32x512 .f32) : k0_pay8 (F := Ideal) v = v := shapeCast_id v _

/-- Output 17's block after a point: its input block's last eight rows. -/
theorem outs17 (c : Dev nD) (t : Fin cfg0.N) (r : Fin 8) (d : Fin 512) :
    (outsAt0 m c t).2.2.1 (ix3 0 r d) = (show FVec Ideal S32x512 .f32 from iblk m c 1 t) (ix2 ⟨24 + r.val, by omega⟩ d) := by
  unfold outsAt0
  dsimp only
  unfold out0_A_17 kernelRun0_A
  refine (congrFun (read_out512 _ _ _ []) (ix3 0 r d)).trans ?_
  unfold k0_pay3
  refine (shapeCast_apply _ _ (ix3 0 r d) (ix2 r d) ?_).trans ?_
  · rewrite [Shape.rowMajor_val_two, Shape.rowMajor_val_three]
    exact (by omega : r.val * 512 + d.val = (0 * 8 + r.val) * 512 + d.val)
  unfold kernelRun0_A.sl.v103 kernelRun0_A.sl.HS0_2
  refine (congrFun (readCov_last512 _ _ _) (ix2 r d)).trans ?_
  have e : k0_pay8 (F := Ideal) ((ms0_1 t).view.readAt (Elt Ideal) (Rect.unit (s := S32x512) ![0, 0] S32x512.size inb_S32x512_S32x512_0_0).toLoadRect ((hs0_1 t).unread (iblk m c 1 t)))
      = iblk m c 1 t := (k0_pay8_eq _).trans (readAt_in512 _ _ _)
  exact congrFun e _

theorem idx17 : ∀ t : Fin grid0.N, cc0_transform_1 (grid0.coords t) = ![512 + t.val, 10] ∧ cc0_transform_17 (grid0.coords t) = ![t.val, 0, 0] := by
  decide +kernel

/-- The rows the input block is of. -/
theorem read17 (c : Dev nD) (t : Fin grid0.N) (r : Fin 32) (d : Fin 512) :
    (show FVec Ideal S32x512 .f32 from iblk m c 1 t) (ix2 r d)
      = (show FVec Ideal S16896x7168 .f32 from m ((c : Thread nD τ).loc main_arg0)) (ix2 ⟨(512 + t.val) * 32 + r.val, by have h : t.val < 16 := t.isLt; omega⟩ ⟨5120 + d.val, by omega⟩) := by
  rw [← V_main_arg0 m c]
  refine congrArg (V m c main_arg0) (funext fun a => Fin.ext ?_)
  refine (Pipeline.Window.rect_emb_val (cfg0.win 1) t (ix2 r d) a).trans ?_
  rw [show (cfg0.win 1).index t a = ![512 + t.val, 10] a from congrFun (idx17 t).1 a]
  match a with
  | ⟨0, _⟩ => rfl
  | ⟨1, _⟩ => exact (by omega : 10 * 512 + d.val = 5120 + d.val)

/-- Where output 17's block lies in its array. -/
theorem emb17 (t : Fin grid0.N) (y : S1x8x512.Idx) :
    (show S16x8x512.Idx from ((cfg0.win 17).blk t).view.emb y) = ix3 ⟨t.val, t.isLt⟩ (y 1) (y 2) := by
  refine funext fun a => Fin.ext ?_
  refine (Pipeline.Window.rect_emb_val (cfg0.win 17) t y a).trans ?_
  rw [show (cfg0.win 17).index t a = ![t.val, 0, 0] a from congrFun (idx17 t).2 a]
  match a with
  | ⟨0, _⟩ => have h : (y 0).val < 1 := (y 0).isLt; exact (by omega : t.val * 1 + (y 0).val = t.val)
  | ⟨1, _⟩ => exact (by omega : 0 * 8 + (y 1).val = (y 1).val)
  | ⟨2, _⟩ => exact (by omega : 0 * 512 + (y 2).val = (y 2).val)

/-- Output 17's blocks cover it. -/
theorem covers17 : (cfg0.win 17).Covers := by
  refine ⟨fun a => ?_, fun β => ?_⟩
  · exact (by decide : ∀ a : Fin 3, 0 < S1x8x512.size a) a
  · have n0 : (cfg0.win 17).nblk (0 : Fin 3) = 16 := by show (16 + 1 - 1) / 1 = 16; rfl
    have n1 : (cfg0.win 17).nblk (1 : Fin 3) = 1 := by show (8 + 8 - 1) / 8 = 1; rfl
    have n2 : (cfg0.win 17).nblk (2 : Fin 3) = 1 := by show (512 + 512 - 1) / 512 = 1; rfl
    have h0 := lt_of_lt_of_eq (β (0 : Fin 3)).isLt n0
    have h1 := lt_of_lt_of_eq (β (1 : Fin 3)).isLt n1
    have h2 := lt_of_lt_of_eq (β (2 : Fin 3)).isLt n2
    refine ⟨⟨(β (0 : Fin 3)).val, h0⟩, flush0_17 _, fun a => ⟨(congrFun (idx17 ⟨(β (0 : Fin 3)).val, h0⟩).2 a).trans ?_, Or.inl rfl⟩⟩
    match a with
    | ⟨0, _⟩ => rfl
    | ⟨1, _⟩ => exact (by omega : 0 = (β (1 : Fin 3)).val)
    | ⟨2, _⟩ => exact (by omega : 0 = (β (2 : Fin 3)).val)

/-- The reference's rows. -/
theorem ref17 (x : FVec Ideal S16896x7168 .f32) (b : Fin 16) (r : Fin 8) (d : Fin 512) :
    Cert.SsmRefIdeal.Read.val_main_v4 (F := Ideal) x (ix3 b r d) = x (ix2 ⟨(512 + b.val) * 32 + (24 + r.val), by omega⟩ ⟨5120 + d.val, by omega⟩) := by
  rw [Cert.SsmRefIdeal.Read.val_main_v4_apply, Cert.SsmRefIdeal.Read.val_main_v1_apply, Cert.SsmRefIdeal.Read.val_main_v0_apply]
  refine congrArg x (funext fun a => Fin.ext ?_)
  have hb := b.isLt
  have hr := r.isLt
  have hd := d.isLt
  match a with
  | ⟨0, _⟩ => exact (by omega : 16384 + ((b.val * 32 + (24 + r.val)) * 512 + d.val) / 512 = (512 + b.val) * 32 + (24 + r.val))
  | ⟨1, _⟩ => exact (by omega : 5120 + ((b.val * 32 + (24 + r.val)) * 512 + d.val) % 512 = 5120 + d.val)

/-- Output 17's array after the run is the reference's. -/
theorem final17 (c : Dev nD) :
    (dats m 0 c).arrAt 17 cfg0.N = Cert.SsmRefIdeal.Read.val_main_v4 (F := Ideal) (m ((c : Thread nD τ).loc main_arg0)) := by
  refine (dats m 0 c).arrAt_eq_of_covers 17 _ covers17 fun t hf (y : S1x8x512.Idx) => ?_
  blk_simp
  rw [after0_17]
  have hy : y = ix3 0 (y 1) (y 2) := by
    refine funext fun a => Fin.ext ?_
    match a with
    | ⟨0, _⟩ => have h : (y 0).val < 1 := (y 0).isLt; exact (by omega : (y 0).val = 0)
    | ⟨1, _⟩ => rfl
    | ⟨2, _⟩ => rfl
  refine (congrArg _ hy).trans ((outs17 m c t (y 1) (y 2)).trans ((read17 m c t _ (y 2)).trans ?_))
  exact (ref17 _ ⟨t.val, t.isLt⟩ (y 1) (y 2)).symm.trans (congrArg _ (emb17 t y).symm)

theorem k0_pay9_eq (v : FVec Ideal S32x256 .f32) : k0_pay9 (F := Ideal) v = v := shapeCast_id v _

/-- Output 18's block after a point: its input block's last eight rows. -/
theorem outs18 (c : Dev nD) (t : Fin cfg0.N) (r : Fin 8) (d : Fin 256) :
    (outsAt0 m c t).2.2.2 (ix3 0 r d) = (show FVec Ideal S32x256 .f32 from iblk m c 3 t) (ix2 ⟨24 + r.val, by omega⟩ d) := by
  unfold outsAt0
  dsimp only
  unfold out0_A_18 kernelRun0_A
  refine (congrFun (read_out256 _ _ _ []) (ix3 0 r d)).trans ?_
  unfold k0_pay4
  refine (shapeCast_apply _ _ (ix3 0 r d) (ix2 r d) ?_).trans ?_
  · rewrite [Shape.rowMajor_val_two, Shape.rowMajor_val_three]
    exact (by omega : r.val * 256 + d.val = (0 * 8 + r.val) * 256 + d.val)
  unfold kernelRun0_A.sl.v104 kernelRun0_A.sl.HS1_2
  refine (congrFun (readCov_last256 _ _ _) (ix2 r d)).trans ?_
  have e : k0_pay9 (F := Ideal) ((ms0_3 t).view.readAt (Elt Ideal) (Rect.unit (s := S32x256) ![0, 0] S32x256.size inb_S32x256_S32x256_0_0).toLoadRect ((hs0_3 t).unread (iblk m c 3 t)))
      = iblk m c 3 t := (k0_pay9_eq _).trans (readAt_in256 _ _ _)
  exact congrFun e _

theorem idx18 : ∀ t : Fin grid0.N, cc0_transform_3 (grid0.coords t) = ![512 + t.val, 24] ∧ cc0_transform_18 (grid0.coords t) = ![t.val, 0, 0] := by
  decide +kernel

/-- The rows the input block is of. -/
theorem read18 (c : Dev nD) (t : Fin grid0.N) (r : Fin 32) (d : Fin 256) :
    (show FVec Ideal S32x256 .f32 from iblk m c 3 t) (ix2 r d)
      = (show FVec Ideal S16896x7168 .f32 from m ((c : Thread nD τ).loc main_arg0)) (ix2 ⟨(512 + t.val) * 32 + r.val, by have h : t.val < 16 := t.isLt; omega⟩ ⟨6144 + d.val, by omega⟩) := by
  rw [← V_main_arg0 m c]
  refine congrArg (V m c main_arg0) (funext fun a => Fin.ext ?_)
  refine (Pipeline.Window.rect_emb_val (cfg0.win 3) t (ix2 r d) a).trans ?_
  rw [show (cfg0.win 3).index t a = ![512 + t.val, 24] a from congrFun (idx18 t).1 a]
  match a with
  | ⟨0, _⟩ => rfl
  | ⟨1, _⟩ => exact (by omega : 24 * 256 + d.val = 6144 + d.val)

/-- Where output 18's block lies in its array. -/
theorem emb18 (t : Fin grid0.N) (y : S1x8x256.Idx) :
    (show S16x8x256.Idx from ((cfg0.win 18).blk t).view.emb y) = ix3 ⟨t.val, t.isLt⟩ (y 1) (y 2) := by
  refine funext fun a => Fin.ext ?_
  refine (Pipeline.Window.rect_emb_val (cfg0.win 18) t y a).trans ?_
  rw [show (cfg0.win 18).index t a = ![t.val, 0, 0] a from congrFun (idx18 t).2 a]
  match a with
  | ⟨0, _⟩ => have h : (y 0).val < 1 := (y 0).isLt; exact (by omega : t.val * 1 + (y 0).val = t.val)
  | ⟨1, _⟩ => exact (by omega : 0 * 8 + (y 1).val = (y 1).val)
  | ⟨2, _⟩ => exact (by omega : 0 * 256 + (y 2).val = (y 2).val)

/-- Output 18's blocks cover it. -/
theorem covers18 : (cfg0.win 18).Covers := by
  refine ⟨fun a => ?_, fun β => ?_⟩
  · exact (by decide : ∀ a : Fin 3, 0 < S1x8x256.size a) a
  · have n0 : (cfg0.win 18).nblk (0 : Fin 3) = 16 := by show (16 + 1 - 1) / 1 = 16; rfl
    have n1 : (cfg0.win 18).nblk (1 : Fin 3) = 1 := by show (8 + 8 - 1) / 8 = 1; rfl
    have n2 : (cfg0.win 18).nblk (2 : Fin 3) = 1 := by show (256 + 256 - 1) / 256 = 1; rfl
    have h0 := lt_of_lt_of_eq (β (0 : Fin 3)).isLt n0
    have h1 := lt_of_lt_of_eq (β (1 : Fin 3)).isLt n1
    have h2 := lt_of_lt_of_eq (β (2 : Fin 3)).isLt n2
    refine ⟨⟨(β (0 : Fin 3)).val, h0⟩, flush0_18 _, fun a => ⟨(congrFun (idx18 ⟨(β (0 : Fin 3)).val, h0⟩).2 a).trans ?_, Or.inl rfl⟩⟩
    match a with
    | ⟨0, _⟩ => rfl
    | ⟨1, _⟩ => exact (by omega : 0 = (β (1 : Fin 3)).val)
    | ⟨2, _⟩ => exact (by omega : 0 = (β (2 : Fin 3)).val)

/-- The reference's rows. -/
theorem ref18 (x : FVec Ideal S16896x7168 .f32) (b : Fin 16) (r : Fin 8) (d : Fin 256) :
    Cert.SsmRefIdeal.Read.val_main_v5 (F := Ideal) x (ix3 b r d) = x (ix2 ⟨(512 + b.val) * 32 + (24 + r.val), by omega⟩ ⟨6144 + d.val, by omega⟩) := by
  rw [Cert.SsmRefIdeal.Read.val_main_v5_apply, Cert.SsmRefIdeal.Read.val_main_v3_apply, Cert.SsmRefIdeal.Read.val_main_v2_apply]
  refine congrArg x (funext fun a => Fin.ext ?_)
  have hb := b.isLt
  have hr := r.isLt
  have hd := d.isLt
  match a with
  | ⟨0, _⟩ => exact (by omega : 16384 + ((b.val * 32 + (24 + r.val)) * 256 + d.val) / 256 = (512 + b.val) * 32 + (24 + r.val))
  | ⟨1, _⟩ => exact (by omega : 6144 + ((b.val * 32 + (24 + r.val)) * 256 + d.val) % 256 = 6144 + d.val)

/-- Output 18's array after the run is the reference's. -/
theorem final18 (c : Dev nD) :
    (dats m 0 c).arrAt 18 cfg0.N = Cert.SsmRefIdeal.Read.val_main_v5 (F := Ideal) (m ((c : Thread nD τ).loc main_arg0)) := by
  refine (dats m 0 c).arrAt_eq_of_covers 18 _ covers18 fun t hf (y : S1x8x256.Idx) => ?_
  blk_simp
  rw [after0_18]
  have hy : y = ix3 0 (y 1) (y 2) := by
    refine funext fun a => Fin.ext ?_
    match a with
    | ⟨0, _⟩ => have h : (y 0).val < 1 := (y 0).isLt; exact (by omega : (y 0).val = 0)
    | ⟨1, _⟩ => rfl
    | ⟨2, _⟩ => rfl
  refine (congrArg _ hy).trans ((outs18 m c t (y 1) (y 2)).trans ((read18 m c t _ (y 2)).trans ?_))
  exact (ref18 _ ⟨t.val, t.isLt⟩ (y 1) (y 2)).symm.trans (congrArg _ (emb18 t y).symm)

end Cert.Proof.Ssm

namespace Cert.Proof

theorem frame_ssm : Cert.quiescent_Ssm := fun m ρ _ => Cert.Ssm.Gen.frame m ρ

theorem frame_ssm_ideal : Cert.quiescent_SsmIdeal := fun m ρ _ => Cert.SsmIdeal.Gen.frame m ρ

theorem frame_ssm_ref : Cert.quiescent_SsmRefIdeal := fun m ρ _ =>
  (θ_run Cert.SsmRefIdeal.defs _ _).mono (fun r h => ⟨fun c => (h c).2.2, sem_eq_zero_of_no_sems (by decide) r.2⟩)
    (Cert.SsmRefIdeal.Value.run (F := Ideal) m ρ)

theorem algebraic_ssm : Cert.algebraic_SsmIdeal_SsmRefIdeal := by
  intro m g m' g' hpre hagree
  refine ⟨fun c => (Cert.SsmRefIdeal.Read.val_main_v4 (F := Ideal) (m ((c.tc : Thread Cert.SsmIdeal.nD Cert.SsmIdeal.τ).loc Cert.SsmIdeal.main_arg0)) : FVec Ideal Cert.SsmRefIdeal.S16x8x512 .f32), fun c => (Cert.SsmRefIdeal.Read.val_main_v5 (F := Ideal) (m ((c.tc : Thread Cert.SsmIdeal.nD Cert.SsmIdeal.τ).loc Cert.SsmIdeal.main_arg0)) : FVec Ideal Cert.SsmRefIdeal.S16x8x256 .f32), ?_, ?_⟩
  · refine (θ_run Cert.SsmIdeal.defs _ _).mono (fun r h c => ?_)
      (θ_run_and (Cert.SsmIdeal.Gen.run_main (F := Ideal) m g) (Cert.SsmIdeal.Gen.frame (F := Ideal) m g))
    exact ⟨((h.1 c).1 17).trans (Ssm.final17 m c), ((h.1 c).1 18).trans (Ssm.final18 m c), h.2.1 c⟩
  · refine (θ_run _ _ _).mono (fun r h c => ?_) (Cert.SsmRefIdeal.Value.run (F := Ideal) m' g')
    obtain ⟨h0, h1, ha⟩ := h c
    have e0 := (hagree c).1
    refine ⟨h0.trans ?_, h1.trans ?_, ha⟩
    · rw [Cert.SsmRefIdeal.Read.val_main_v4_eq, e0]
    · rw [Cert.SsmRefIdeal.Read.val_main_v5_eq, e0]

end Cert.Proof
end
-- ==== Proof.LruClaim.lean ====
/- The claims about the gated recurrence for the sample's rows: the frames of its programs, and its carried convolution rows as the last rows that went into it. -/
module

public import proofs.«01_k».proof.Defs
public import proofs.«01_k».proof.Proof.Math
public import proofs.«01_k».proof.Proof.Gen.Lru.Frame
public import proofs.«01_k».proof.Proof.Gen.LruIdeal.Frame
public import proofs.«01_k».proof.Proof.Gen.LruRefIdeal.Run
public import proofs.«01_k».proof.Proof.Gen.LruRefIdeal.Read
public import Idealize.ShloMosaic.Lib.Claim
public import Idealize.ShloMosaic.Lib.WritesUnit
public import Idealize.ShloMosaic.Lib.Pipeline.ValueKit
public import Idealize.ShloMosaic.Lib.StableHlo.ReadAt
public import Idealize.ShloMosaic.Lib.StableHlo.RunClose

@[expose] public section

set_option maxRecDepth 16384

noncomputable section

open Idealize.ShloMosaic Idealize.ShloMosaic.TcCoe Idealize.SL.Sem Idealize.ShloMosaic.StableHlo

namespace Cert.Proof.Lru
open Cert.LruIdeal Cert.LruIdeal.Gen

/-- A load of a block's whole input reads it. -/
theorem readAt_in512 {F : FTy → Type} [FloatOps F] (M : Memref sig .tc .vmem S32x512 .f32) (hM : M.IsWhole) (x : Vec F S32x512 .f32) :
    M.view.readAt (Elt F) (Rect.unit (s := S32x512) ![0, 0] S32x512.size inb_S32x512_S32x512_0_0).toLoadRect (hM.unread x) = x := by
  funext y
  rw [View.readAt_apply, hM.read_unread]
  congr 1
  funext a
  apply Fin.ext
  match a with
  | ⟨0, _⟩ => show 0 + 1 * (y 0).val = (y 0).val; omega
  | ⟨1, _⟩ => show 0 + 1 * (y 1).val = (y 1).val; omega

/-- A load of the last eight rows, the input's rows lying from the eighth on, reads the input's last eight. -/
theorem readCov_last512 {F : FTy → Type} [FloatOps F] (M : Memref sig .tc .vmem S40x512 .f32) (w : Vec F S32x512 .f32) (L : List (View.Piece (Elt F) S40x512 .f32)) :
    M.view.readCov (⟨Rect.unit (s := S40x512) ![8, 0] S32x512.size inb_S40x512_S32x512_8_0, w⟩ :: L)
      (Rect.unit (s := S40x512) ![32, 0] S8x512.size inb_S40x512_S8x512_32_0).toLoadRect
      = fun y : S8x512.Idx => w (ix2 ⟨24 + (y 0).val, by have h : (y 0).val < 8 := (y 0).isLt; omega⟩ (y 1)) := by
  funext y
  refine View.read_writes_cons_unit_of_mem M.view M.view.junk inb_S40x512_S32x512_8_0 w L _ (ix2 ⟨24 + (y 0).val, by have h : (y 0).val < 8 := (y 0).isLt; omega⟩ (y 1)) rfl fun a => ?_
  match a with
  | ⟨0, _⟩ => exact (by omega : 32 + 1 * (y 0).val = 8 + (24 + (y 0).val))
  | ⟨1, _⟩ => exact (by omega : 0 + 1 * (y 1).val = 0 + (y 1).val)

/-- A store of the whole block of rows leaves what it stored. -/
theorem read_out512 {F : FTy → Type} [FloatOps F] {sp : Space} (V : View sig .tc sp S1x8x512 .f32) (f : BufTy.Contents (Elt F) V.ty) (w : Vec F S1x8x512 .f32) (L : List (View.Piece (Elt F) S1x8x512 .f32)) :
    V.read (Elt F) (V.writes (Elt F) f (⟨Rect.unit (s := S1x8x512) ![0, 0, 0] S1x8x512.size inb_S1x8x512_S1x8x512_0_0_0, w⟩ :: L)) = w := by
  funext y
  refine View.read_writes_cons_unit_of_mem V f inb_S1x8x512_S1x8x512_0_0_0 w L y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

variable (m : (ℓ : Loc nD τ sig) → Buf (Elt Ideal) ℓ)

theorem k0_pay6_eq (v : FVec Ideal S32x512 .f32) : k0_pay6 (F := Ideal) v = v := shapeCast_id v _

/-- Output 13's block after a point: its input block's last eight rows. -/
theorem outs13 (c : Dev nD) (t : Fin cfg0.N) (r : Fin 8) (d : Fin 512) :
    (outsAt0 m c t).2.2 (ix3 0 r d) = (show FVec Ideal S32x512 .f32 from iblk m c 0 t) (ix2 ⟨24 + r.val, by omega⟩ d) := by
  unfold outsAt0
  dsimp only
  unfold out0_A_13 kernelRun0_A
  refine (congrFun (read_out512 _ _ _ []) (ix3 0 r d)).trans ?_
  unfold k0_pay3
  refine (shapeCast_apply _ _ (ix3 0 r d) (ix2 r d) ?_).trans ?_
  · rewrite [Shape.rowMajor_val_two, Shape.rowMajor_val_three]
    exact (by omega : r.val * 512 + d.val = (0 * 8 + r.val) * 512 + d.val)
  unfold kernelRun0_A.sl.v30 kernelRun0_A.sl.HS0_2
  refine (congrFun (readCov_last512 _ _ _) (ix2 r d)).trans ?_
  have e : k0_pay6 (F := Ideal) ((ms0_0 t).view.readAt (Elt Ideal) (Rect.unit (s := S32x512) ![0, 0] S32x512.size inb_S32x512_S32x512_0_0).toLoadRect ((hs0_0 t).unread (iblk m c 0 t)))
      = iblk m c 0 t := (k0_pay6_eq _).trans (readAt_in512 _ _ _)
  exact congrFun e _

theorem idx13 : ∀ t : Fin grid0.N, cc0_transform_0 (grid0.coords t) = ![512 + t.val, 2] ∧ cc0_transform_13 (grid0.coords t) = ![t.val, 0, 0] := by
  decide +kernel

/-- The rows the input block is of. -/
theorem read13 (c : Dev nD) (t : Fin grid0.N) (r : Fin 32) (d : Fin 512) :
    (show FVec Ideal S32x512 .f32 from iblk m c 0 t) (ix2 r d)
      = (show FVec Ideal S16896x7168 .f32 from m ((c : Thread nD τ).loc main_arg0)) (ix2 ⟨(512 + t.val) * 32 + r.val, by have h : t.val < 16 := t.isLt; omega⟩ ⟨1024 + d.val, by omega⟩) := by
  rw [← V_main_arg0 m c]
  refine congrArg (V m c main_arg0) (funext fun a => Fin.ext ?_)
  refine (Pipeline.Window.rect_emb_val (cfg0.win 0) t (ix2 r d) a).trans ?_
  rw [show (cfg0.win 0).index t a = ![512 + t.val, 2] a from congrFun (idx13 t).1 a]
  match a with
  | ⟨0, _⟩ => rfl
  | ⟨1, _⟩ => exact (by omega : 2 * 512 + d.val = 1024 + d.val)

/-- Where output 13's block lies in its array. -/
theorem emb13 (t : Fin grid0.N) (y : S1x8x512.Idx) :
    (show S16x8x512.Idx from ((cfg0.win 13).blk t).view.emb y) = ix3 ⟨t.val, t.isLt⟩ (y 1) (y 2) := by
  refine funext fun a => Fin.ext ?_
  refine (Pipeline.Window.rect_emb_val (cfg0.win 13) t y a).trans ?_
  rw [show (cfg0.win 13).index t a = ![t.val, 0, 0] a from congrFun (idx13 t).2 a]
  match a with
  | ⟨0, _⟩ => have h : (y 0).val < 1 := (y 0).isLt; exact (by omega : t.val * 1 + (y 0).val = t.val)
  | ⟨1, _⟩ => exact (by omega : 0 * 8 + (y 1).val = (y 1).val)
  | ⟨2, _⟩ => exact (by omega : 0 * 512 + (y 2).val = (y 2).val)

/-- Output 13's blocks cover it. -/
theorem covers13 : (cfg0.win 13).Covers := by
  refine ⟨fun a => ?_, fun β => ?_⟩
  · exact (by decide : ∀ a : Fin 3, 0 < S1x8x512.size a) a
  · have n0 : (cfg0.win 13).nblk (0 : Fin 3) = 16 := by show (16 + 1 - 1) / 1 = 16; rfl
    have n1 : (cfg0.win 13).nblk (1 : Fin 3) = 1 := by show (8 + 8 - 1) / 8 = 1; rfl
    have n2 : (cfg0.win 13).nblk (2 : Fin 3) = 1 := by show (512 + 512 - 1) / 512 = 1; rfl
    have h0 := lt_of_lt_of_eq (β (0 : Fin 3)).isLt n0
    have h1 := lt_of_lt_of_eq (β (1 : Fin 3)).isLt n1
    have h2 := lt_of_lt_of_eq (β (2 : Fin 3)).isLt n2
    refine ⟨⟨(β (0 : Fin 3)).val, h0⟩, flush0_13 _, fun a => ⟨(congrFun (idx13 ⟨(β (0 : Fin 3)).val, h0⟩).2 a).trans ?_, Or.inl rfl⟩⟩
    match a with
    | ⟨0, _⟩ => rfl
    | ⟨1, _⟩ => exact (by omega : 0 = (β (1 : Fin 3)).val)
    | ⟨2, _⟩ => exact (by omega : 0 = (β (2 : Fin 3)).val)

/-- The reference's rows. -/
theorem ref13 (x : FVec Ideal S16896x7168 .f32) (b : Fin 16) (r : Fin 8) (d : Fin 512) :
    Cert.LruRefIdeal.Read.val_main_v2 (F := Ideal) x (ix3 b r d) = x (ix2 ⟨(512 + b.val) * 32 + (24 + r.val), by omega⟩ ⟨1024 + d.val, by omega⟩) := by
  rw [Cert.LruRefIdeal.Read.val_main_v2_apply, Cert.LruRefIdeal.Read.val_main_v1_apply, Cert.LruRefIdeal.Read.val_main_v0_apply]
  refine congrArg x (funext fun a => Fin.ext ?_)
  have hb := b.isLt
  have hr := r.isLt
  have hd := d.isLt
  match a with
  | ⟨0, _⟩ => exact (by omega : 16384 + ((b.val * 32 + (24 + r.val)) * 512 + d.val) / 512 = (512 + b.val) * 32 + (24 + r.val))
  | ⟨1, _⟩ => exact (by omega : 1024 + ((b.val * 32 + (24 + r.val)) * 512 + d.val) % 512 = 1024 + d.val)

/-- Output 13's array after the run is the reference's. -/
theorem final13 (c : Dev nD) :
    (dats m 0 c).arrAt 13 cfg0.N = Cert.LruRefIdeal.Read.val_main_v2 (F := Ideal) (m ((c : Thread nD τ).loc main_arg0)) := by
  refine (dats m 0 c).arrAt_eq_of_covers 13 _ covers13 fun t hf (y : S1x8x512.Idx) => ?_
  blk_simp
  rw [after0_13]
  have hy : y = ix3 0 (y 1) (y 2) := by
    refine funext fun a => Fin.ext ?_
    match a with
    | ⟨0, _⟩ => have h : (y 0).val < 1 := (y 0).isLt; exact (by omega : (y 0).val = 0)
    | ⟨1, _⟩ => rfl
    | ⟨2, _⟩ => rfl
  refine (congrArg _ hy).trans ((outs13 m c t (y 1) (y 2)).trans ((read13 m c t _ (y 2)).trans ?_))
  exact (ref13 _ ⟨t.val, t.isLt⟩ (y 1) (y 2)).symm.trans (congrArg _ (emb13 t y).symm)

end Cert.Proof.Lru

namespace Cert.Proof

theorem frame_lru : Cert.quiescent_Lru := fun m ρ _ => Cert.Lru.Gen.frame m ρ

theorem frame_lru_ideal : Cert.quiescent_LruIdeal := fun m ρ _ => Cert.LruIdeal.Gen.frame m ρ

theorem frame_lru_ref : Cert.quiescent_LruRefIdeal := fun m ρ _ =>
  (θ_run Cert.LruRefIdeal.defs _ _).mono (fun r h => ⟨fun c => (h c).2, sem_eq_zero_of_no_sems (by decide) r.2⟩)
    (Cert.LruRefIdeal.Value.run (F := Ideal) m ρ)

theorem algebraic_lru : Cert.algebraic_LruIdeal_LruRefIdeal := by
  intro m g m' g' hpre hagree
  refine ⟨fun c => (Cert.LruRefIdeal.Read.val_main_v2 (F := Ideal) (m ((c.tc : Thread Cert.LruIdeal.nD Cert.LruIdeal.τ).loc Cert.LruIdeal.main_arg0)) : FVec Ideal Cert.LruRefIdeal.S16x8x512 .f32), ?_, ?_⟩
  · refine (θ_run Cert.LruIdeal.defs _ _).mono (fun r h c => ?_)
      (θ_run_and (Cert.LruIdeal.Gen.run_main (F := Ideal) m g) (Cert.LruIdeal.Gen.frame (F := Ideal) m g))
    exact ⟨((h.1 c).1 13).trans (Lru.final13 m c), h.2.1 c⟩
  · refine (θ_run _ _ _).mono (fun r h c => ?_) (Cert.LruRefIdeal.Value.run (F := Ideal) m' g')
    obtain ⟨h0, ha⟩ := h c
    have e0 := (hagree c).1
    refine ⟨h0.trans ?_, ha⟩
    · rw [Cert.LruRefIdeal.Read.val_main_v2_eq, e0]

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_counts_in_range
public import proofs.«01_k».proof.Proof.ExpertsClaim
public import proofs.«01_k».proof.Proof.FfnClaim
public import proofs.«01_k».proof.Proof.CombineClaim
public import proofs.«01_k».proof.Proof.MergeClaim
public import proofs.«01_k».proof.Proof.InProjClaim
public import proofs.«01_k».proof.Proof.RopeClaim
public import proofs.«01_k».proof.Proof.RopeSampleClaim
public import proofs.«01_k».proof.Proof.SsmClaim
public import proofs.«01_k».proof.Proof.LruClaim
public import proofs.«01_k».proof.Proof.Gen.Ffn
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.InProj
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Rope
public import proofs.«01_k».proof.Proof.Gen.RopeIdeal
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.RopeSample
public import proofs.«01_k».proof.Proof.Gen.RopeSampleIdeal
public import proofs.«01_k».proof.Proof.Gen.RopeSampleIdeal.Value
public import proofs.«01_k».proof.Proof.Gen.RopeSampleRefIdeal
public import proofs.«01_k».proof.Proof.Gen.RopeSampleRefIdeal.Run
public import proofs.«01_k».proof.Proof.Gen.RopeSampleRefIdeal.Read
public import proofs.«01_k».proof.Proof.Gen.Combine
public import proofs.«01_k».proof.Proof.Gen.Combine.Skeleton
public import proofs.«01_k».proof.Proof.Gen.Combine.Loops
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.Pre_counts_in_range3
public import proofs.«01_k».proof.Proof.Gen.Ssm
public import proofs.«01_k».proof.Proof.Gen.SsmIdeal
public import proofs.«01_k».proof.Proof.Gen.SsmIdeal.Skeleton
public import proofs.«01_k».proof.Proof.Gen.SsmIdeal.Launch
public import proofs.«01_k».proof.Proof.Gen.SsmIdeal.Points
public import proofs.«01_k».proof.Proof.Gen.SsmIdeal.Frame
public import proofs.«01_k».proof.Proof.Gen.SsmRefIdeal
public import proofs.«01_k».proof.Proof.Gen.SsmRefIdeal.Run
public import proofs.«01_k».proof.Proof.Gen.SsmRefIdeal.Read
public import proofs.«01_k».proof.Proof.Gen.Ssm.Frame
public import proofs.«01_k».proof.Proof.Gen.Lru
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.LruRefIdeal
public import proofs.«01_k».proof.Proof.Gen.LruRefIdeal.Run
public import proofs.«01_k».proof.Proof.Gen.LruRefIdeal.Read
public import proofs.«01_k».proof.Proof.Gen.Lru.Frame
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Combine.Gen.facts, Cert.CombineIdeal.Gen.facts, Cert.CombineRefIdeal.Gen.facts, Cert.Merge.Gen.facts, Cert.MergeIdeal.Gen.facts, Cert.MergeRefIdeal.Gen.facts, Cert.InProj.Gen.facts, Cert.InProjIdeal.Gen.facts, Cert.InProjRefIdeal.Gen.facts, Cert.Rope.Gen.facts, Cert.RopeIdeal.Gen.facts, Cert.RopeRefIdeal.Gen.facts, Cert.RopeSample.Gen.facts, Cert.RopeSampleIdeal.Gen.facts, Cert.RopeSampleRefIdeal.Gen.facts, Cert.Ssm.Gen.facts, Cert.SsmIdeal.Gen.facts, Cert.SsmRefIdeal.Gen.facts, Cert.Lru.Gen.facts, Cert.LruIdeal.Gen.facts, Cert.LruRefIdeal.Gen.facts, Cert.Pre_counts_in_range.Gen.facts, Cert.Pre_counts_in_range3.Gen.facts,
  frame_kernel, frame_kernel_ideal, frame_reference, frame_reference_pre, frame_ffn, frame_ffn_ideal, frame_ffn_ref, frame_combine, frame_combine_ideal, frame_combine_ref, frame_combine_ref_pre, frame_merge, frame_merge_ideal, frame_merge_ref, frame_in_proj, frame_in_proj_ideal, frame_in_proj_ref, frame_rope, frame_rope_ideal, frame_rope_ref, frame_rope_sample, frame_rope_sample_ideal, frame_rope_sample_ref, frame_ssm, frame_ssm_ideal, frame_ssm_ref, frame_lru, frame_lru_ideal, frame_lru_ref,
  trivial, algebraic_kernel, trivial, algebraic_ffn, trivial, algebraic_combine, trivial, algebraic_merge, trivial, algebraic_in_proj, trivial, algebraic_rope, trivial, algebraic_rope_sample, trivial, algebraic_ssm, trivial, algebraic_lru⟩

end Cert.Proof

end
